-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x7168 : Shape := ⟨3, ![8, 4096, 7168]⟩
abbrev S16 : Shape := ⟨1, ![16]⟩
abbrev S1 : Shape := ⟨1, ![1]⟩
abbrev S1408x32768 : Shape := ⟨2, ![1408, 32768]⟩
abbrev S256x256 : Shape := ⟨2, ![256, 256]⟩
abbrev S8x128 : Shape := ⟨2, ![8, 128]⟩
abbrev S32768x7168 : Shape := ⟨2, ![32768, 7168]⟩
abbrev S1x16 : Shape := ⟨2, ![1, 16]⟩
abbrev S16x16 : Shape := ⟨2, ![16, 16]⟩
abbrev S256 : Shape := ⟨1, ![256]⟩
abbrev S1x256 : Shape := ⟨2, ![1, 256]⟩
abbrev S2 : Shape := ⟨1, ![2]⟩
abbrev S2816x7168 : Shape := ⟨2, ![2816, 7168]⟩
abbrev S7168x16384 : Shape := ⟨2, ![7168, 16384]⟩
abbrev S7168x2048 : Shape := ⟨2, ![7168, 2048]⟩
abbrev S512x1024 : Shape := ⟨2, ![512, 1024]⟩
abbrev S1408x512 : Shape := ⟨2, ![1408, 512]⟩
abbrev S2816x1024 : Shape := ⟨2, ![2816, 1024]⟩
abbrev S1024x256 : Shape := ⟨2, ![1024, 256]⟩
abbrev S1024x128 : Shape := ⟨2, ![1024, 128]⟩
abbrev S128x1024 : Shape := ⟨2, ![128, 1024]⟩
abbrev S2816x256 : Shape := ⟨2, ![2816, 256]⟩
abbrev S2816x512 : Shape := ⟨2, ![2816, 512]⟩
abbrev S512x256 : Shape := ⟨2, ![512, 256]⟩
abbrev S16x16x256 : Shape := ⟨3, ![16, 16, 256]⟩
abbrev S16x256 : Shape := ⟨2, ![16, 256]⟩
abbrev S1x16x256 : Shape := ⟨3, ![1, 16, 256]⟩
abbrev S1x128 : Shape := ⟨2, ![1, 128]⟩
abbrev S128x256 : Shape := ⟨2, ![128, 256]⟩
abbrev S32x256 : Shape := ⟨2, ![32, 256]⟩
abbrev S64x256 : Shape := ⟨2, ![64, 256]⟩
abbrev S256x128 : Shape := ⟨2, ![256, 128]⟩
abbrev S64x128 : Shape := ⟨2, ![64, 128]⟩
abbrev S64x128x1 : Shape := ⟨3, ![64, 128, 1]⟩

abbrev nBuf : Space → Nat
  | .hbm => 19
  | .vmem => 14
  | .smem => 1
  | _ => 0

abbrev bufTy : (tb : Table) → Fin (tcTables nBuf tb) → BufTy
  | .hbm, ⟨0, _⟩ => ⟨S8x4096x7168, .bf16⟩
  | .hbm, ⟨1, _⟩ => ⟨S16, .f32⟩
  | .hbm, ⟨2, _⟩ => ⟨S1, .f32⟩
  | .hbm, ⟨3, _⟩ => ⟨S1, .f32⟩
  | .hbm, ⟨4, _⟩ => ⟨S1408x32768, .i32⟩
  | .hbm, ⟨5, _⟩ => ⟨S256x256, .f32⟩
  | .hbm, ⟨6, _⟩ => ⟨S8x128, .i32⟩
  | .hbm, ⟨7, _⟩ => ⟨S32768x7168, .bf16⟩
  | .hbm, ⟨8, _⟩ => ⟨S1x16, .f32⟩
  | .hbm, ⟨9, _⟩ => ⟨S16x16, .f32⟩
  | .hbm, ⟨10, _⟩ => ⟨S256, .f32⟩
  | .hbm, ⟨11, _⟩ => ⟨S1x256, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S2, .f32⟩
  | .hbm, ⟨16, _⟩ => ⟨S2816x7168, .f32⟩
  | .hbm, ⟨17, _⟩ => ⟨S7168x16384, .i8⟩
  | .hbm, ⟨18, _⟩ => ⟨S7168x2048, .fp8e4m3⟩
  | .local _ .vmem, ⟨0, _⟩ => ⟨S8x128, .i32⟩
  | .local _ .vmem, ⟨1, _⟩ => ⟨S256x256, .bf16⟩
  | .local _ .vmem, ⟨2, _⟩ => ⟨S512x1024, .bf16⟩
  | .local _ .vmem, ⟨3, _⟩ => ⟨S512x1024, .bf16⟩
  | .local _ .vmem, ⟨4, _⟩ => ⟨S1408x512, .i32⟩
  | .local _ .vmem, ⟨5, _⟩ => ⟨S1408x512, .i32⟩
  | .local _ .vmem, ⟨6, _⟩ => ⟨S2816x1024, .f32⟩
  | .local _ .vmem, ⟨7, _⟩ => ⟨S2816x1024, .f32⟩
  | .local _ .vmem, ⟨8, _⟩ => ⟨S1024x256, .i8⟩
  | .local _ .vmem, ⟨9, _⟩ => ⟨S1024x256, .i8⟩
  | .local _ .vmem, ⟨10, _⟩ => ⟨S1024x128, .fp8e4m3⟩
  | .local _ .vmem, ⟨11, _⟩ => ⟨S1024x128, .fp8e4m3⟩
  | .local _ .vmem, ⟨12, _⟩ => ⟨S512x1024, .bf16⟩
  | .local _ .vmem, ⟨13, _⟩ => ⟨S128x1024, .f32⟩
  | .local _ .smem, ⟨0, _⟩ => ⟨S2, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![449], ![false]⟩

def k0_off1 (i : grid0.Coords) (c0_i32_85 : BitVec 32) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let c0_i32_16 : BitVec 32 := 0#32
  let v30 : BitVec 1 := Scalar.cmpi .eq c4_i32 c0_i32_16
  let c1_i32_17 : BitVec 32 := 1#32
  let v31 : BitVec 32 := Scalar.select v30 c1_i32_17 c4_i32
  let v32 : BitVec 32 := Scalar.remsi v9 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c32_i32 : BitVec 32 := 32#32
  let v40 : BitVec 32 := Scalar.muli v39 c32_i32
  let v176 : BitVec 32 := Scalar.addi v40 c0_i32_85
  let v177 : Index := Scalar.indexCast v176
  let c0_86 : Index := 0#32
  ![v177.toNat, 0]
def k0_off2 (i : grid0.Coords) (c0_i32_234 : BitVec 32) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let c0_i32_16 : BitVec 32 := 0#32
  let v30 : BitVec 1 := Scalar.cmpi .eq c4_i32 c0_i32_16
  let c1_i32_17 : BitVec 32 := 1#32
  let v31 : BitVec 32 := Scalar.select v30 c1_i32_17 c4_i32
  let v32 : BitVec 32 := Scalar.remsi v9 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c32_i32 : BitVec 32 := 32#32
  let v40 : BitVec 32 := Scalar.muli v39 c32_i32
  let v530 : BitVec 32 := Scalar.addi v40 c0_i32_234
  let v531 : Index := Scalar.indexCast v530
  let c256_235 : Index := 256#32
  ![v531.toNat, 256]
def k0_off3 (i : grid0.Coords) (c0_i32_390 : BitVec 32) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let c0_i32_16 : BitVec 32 := 0#32
  let v30 : BitVec 1 := Scalar.cmpi .eq c4_i32 c0_i32_16
  let c1_i32_17 : BitVec 32 := 1#32
  let v31 : BitVec 32 := Scalar.select v30 c1_i32_17 c4_i32
  let v32 : BitVec 32 := Scalar.remsi v9 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c32_i32 : BitVec 32 := 32#32
  let v40 : BitVec 32 := Scalar.muli v39 c32_i32
  let v884 : BitVec 32 := Scalar.addi v40 c0_i32_390
  let v885 : Index := Scalar.indexCast v884
  let c512_391 : Index := 512#32
  ![v885.toNat, 512]
def k0_off4 (i : grid0.Coords) (c0_i32_546 : BitVec 32) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let c0_i32_16 : BitVec 32 := 0#32
  let v30 : BitVec 1 := Scalar.cmpi .eq c4_i32 c0_i32_16
  let c1_i32_17 : BitVec 32 := 1#32
  let v31 : BitVec 32 := Scalar.select v30 c1_i32_17 c4_i32
  let v32 : BitVec 32 := Scalar.remsi v9 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c32_i32 : BitVec 32 := 32#32
  let v40 : BitVec 32 := Scalar.muli v39 c32_i32
  let v1238 : BitVec 32 := Scalar.addi v40 c0_i32_546
  let v1239 : Index := Scalar.indexCast v1238
  let c768_547 : Index := 768#32
  ![v1239.toNat, 768]
def k0_cond3 (i : grid0.Coords) : BitVec 1 :=
  let arg0 : BitVec 32 := BitVec.ofNat 32 (i 0).val
  let c448_i32 : BitVec 32 := 448#32
  let v1457 : BitVec 1 := Scalar.cmpi .slt arg0 c448_i32
  let v1458 : BitVec 32 := Scalar.extui v1457
  let c0_i32_636 : BitVec 32 := 0#32
  let v1459 : BitVec 1 := Scalar.cmpi .ne v1458 c0_i32_636
  v1459

def k0_cond4 (i : grid0.Coords) : BitVec 1 :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_639 : BitVec 32 := 4#32
  let c0_i32_640 : BitVec 32 := 0#32
  let v1465 : BitVec 1 := Scalar.cmpi .eq c4_i32_639 c0_i32_640
  let c1_i32_641 : BitVec 32 := 1#32
  let v1466 : BitVec 32 := Scalar.select v1465 c1_i32_641 c4_i32_639
  let v1467 : BitVec 32 := Scalar.remsi v9 v1466
  let c0_i32_643 : BitVec 32 := 0#32
  let v1469 : BitVec 1 := Scalar.cmpi .slt v1467 c0_i32_643
  let c0_i32_644 : BitVec 32 := 0#32
  let v1470 : BitVec 1 := Scalar.cmpi .slt v1466 c0_i32_644
  let v1471 : BitVec 1 := Scalar.xori v1469 v1470
  let c0_i32_642 : BitVec 32 := 0#32
  let v1468 : BitVec 1 := Scalar.cmpi .ne v1467 c0_i32_642
  let v1472 : BitVec 1 := Scalar.andi v1471 v1468
  let v1473 : BitVec 32 := Scalar.addi v1467 v1466
  let v1474 : BitVec 32 := Scalar.select v1472 v1473 v1467
  let c3_i32 : BitVec 32 := 3#32
  let v1475 : BitVec 1 := Scalar.cmpi .eq v1474 c3_i32
  let v1476 : BitVec 32 := Scalar.extui v1475
  let c0_i32_645 : BitVec 32 := 0#32
  let v1477 : BitVec 1 := Scalar.cmpi .ne v1476 c0_i32_645
  v1477

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c447_i32 : BitVec 32 := 447#32
  let v0 : BitVec 32 := Scalar.minsi arg0 c447_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c447_i32_3 : BitVec 32 := 447#32
  let v11 : BitVec 32 := Scalar.minsi arg0 c447_i32_3
  let c64_i32_4 : BitVec 32 := 64#32
  let v12 : BitVec 32 := Scalar.divsi v11 c64_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c64_i32_4 c0_i32_7
  let v19 : BitVec 32 := Scalar.extui v18
  let c0_i32_8 : BitVec 32 := 0#32
  let v20 : BitVec 1 := Scalar.cmpi .slt c64_i32_4 c0_i32_8
  let v21 : BitVec 32 := Scalar.extui v20
  let v22 : BitVec 32 := Scalar.subi v19 v21
  let v23 : BitVec 1 := Scalar.cmpi .ne v17 v22
  let v24 : BitVec 32 := Scalar.remsi v11 c64_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v10.toNat, v28.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let c0_i32_0 : BitVec 32 := 0#32
  let v2 : BitVec 1 := Scalar.cmpi .eq c64_i32 c0_i32_0
  let c1_i32_1 : BitVec 32 := 1#32
  let v3 : BitVec 32 := Scalar.select v2 c1_i32_1 c64_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_6 (i : grid0.Coords) : Fin 2 → Nat :=
  let arg0 : BitVec 32 := BitVec.ofNat 32 (i 0).val
  let c447_i32 : BitVec 32 := 447#32
  let v0 : BitVec 32 := Scalar.minsi arg0 c447_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c447_i32_4 : BitVec 32 := 447#32
  let v18 : BitVec 32 := Scalar.minsi arg0 c447_i32_4
  let c64_i32_5 : BitVec 32 := 64#32
  let c0_i32_6 : BitVec 32 := 0#32
  let v19 : BitVec 1 := Scalar.cmpi .eq c64_i32_5 c0_i32_6
  let c1_i32_7 : BitVec 32 := 1#32
  let v20 : BitVec 32 := Scalar.select v19 c1_i32_7 c64_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, v28.toNat]

def cc0_transform_7 (i : grid0.Coords) : Fin 2 → Nat :=
  let arg0 : BitVec 32 := BitVec.ofNat 32 (i 0).val
  let c447_i32 : BitVec 32 := 447#32
  let v0 : BitVec 32 := Scalar.minsi arg0 c447_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c447_i32_4 : BitVec 32 := 447#32
  let v18 : BitVec 32 := Scalar.minsi arg0 c447_i32_4
  let c64_i32_5 : BitVec 32 := 64#32
  let c0_i32_6 : BitVec 32 := 0#32
  let v19 : BitVec 1 := Scalar.cmpi .eq c64_i32_5 c0_i32_6
  let c1_i32_7 : BitVec 32 := 1#32
  let v20 : BitVec 32 := Scalar.select v19 c1_i32_7 c64_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.divsi v28 c4_i32
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c0_i32_13 : BitVec 32 := 0#32
  let v35 : BitVec 1 := Scalar.cmpi .sgt c4_i32 c0_i32_13
  let v36 : BitVec 32 := Scalar.extui v35
  let c0_i32_14 : BitVec 32 := 0#32
  let v37 : BitVec 1 := Scalar.cmpi .slt c4_i32 c0_i32_14
  let v38 : BitVec 32 := Scalar.extui v37
  let v39 : BitVec 32 := Scalar.subi v36 v38
  let v40 : BitVec 1 := Scalar.cmpi .ne v34 v39
  let v41 : BitVec 32 := Scalar.remsi v28 c4_i32
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c0_i32_17 : BitVec 32 := 0#32
  ![v17.toNat, v45.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1408x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2816x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x7168 : Shape := ⟨3, ![8, 4096, 7168]⟩
abbrev S16 : Shape := ⟨1, ![16]⟩
abbrev S1 : Shape := ⟨1, ![1]⟩
abbrev S1408x32768 : Shape := ⟨2, ![1408, 32768]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S2048x16x7168 : Shape := ⟨3, ![2048, 16, 7168]⟩
abbrev S2048x7168x16 : Shape := ⟨3, ![2048, 7168, 16]⟩
abbrev S2048x7168 : Shape := ⟨2, ![2048, 7168]⟩
abbrev S2048x1x7168 : Shape := ⟨3, ![2048, 1, 7168]⟩
abbrev S2048x8x2x7168 : Shape := ⟨4, ![2048, 8, 2, 7168]⟩
abbrev S2048x8x1x7168 : Shape := ⟨4, ![2048, 8, 1, 7168]⟩
abbrev S2048x8x7168 : Shape := ⟨3, ![2048, 8, 7168]⟩
abbrev S7168x2048x8 : Shape := ⟨3, ![7168, 2048, 8]⟩
abbrev S7168x16384 : Shape := ⟨2, ![7168, 16384]⟩
abbrev S7168x2048 : Shape := ⟨2, ![7168, 2048]⟩
abbrev S32768x7168 : Shape := ⟨2, ![32768, 7168]⟩
abbrev S1408x32768x2 : Shape := ⟨3, ![1408, 32768, 2]⟩
abbrev S1408x2x32768 : Shape := ⟨3, ![1408, 2, 32768]⟩
abbrev S2816x128x2x8x16 : Shape := ⟨5, ![2816, 128, 2, 8, 16]⟩
abbrev S2816x128x16x8x2 : Shape := ⟨5, ![2816, 128, 16, 8, 2]⟩
abbrev S2816x32768 : Shape := ⟨2, ![2816, 32768]⟩
abbrev S2816x7168 : Shape := ⟨2, ![2816, 7168]⟩
abbrev S1x1 : Shape := ⟨2, ![1, 1]⟩

abbrev nBuf : Space → Nat
  | .hbm => 192
  | .vmem => 3
  | .smem => 0
  | _ => 0

abbrev hbmTy0_0 (i : Nat) : BufTy := match i % 128 with
  | 0 => ⟨S8x4096x7168, .bf16⟩
  | 1 => ⟨S16, .f32⟩
  | 2 => ⟨S1, .f32⟩
  | 3 => ⟨S1, .f32⟩
  | 4 => ⟨S1408x32768, .i32⟩
  | 5 => ⟨S16, .i32⟩
  | 6 => ⟨S16x1, .i32⟩
  | 7 => ⟨S1x16, .i32⟩
  | 8 => ⟨S16x16, .i32⟩
  | 9 => ⟨S16x16, .i32⟩
  | 10 => ⟨S16x16, .i32⟩
  | 11 => ⟨S16x16, .i32⟩
  | 12 => ⟨S_, .i32⟩
  | 13 => ⟨S16x16, .i32⟩
  | 14 => ⟨S16x16, .i32⟩
  | 15 => ⟨S_, .i32⟩
  | 16 => ⟨S16x16, .i32⟩
  | 17 => ⟨S16x16, .i32⟩
  | 18 => ⟨S_, .i32⟩
  | 19 => ⟨S16x16, .i32⟩
  | 20 => ⟨S16x16, .i32⟩
  | 21 => ⟨S16x16, .f32⟩
  | 22 => ⟨S1x16, .f32⟩
  | 23 => ⟨S16x16, .f32⟩
  | 24 => ⟨S16x16, .f32⟩
  | 25 => ⟨S_, .f32⟩
  | 26 => ⟨S16x16, .f32⟩
  | 27 => ⟨S16x16, .f32⟩
  | 28 => ⟨S8x4096x7168, .f32⟩
  | 29 => ⟨S2048x16x7168, .f32⟩
  | 30 => ⟨S2048x7168x16, .f32⟩
  | 31 => ⟨S2048x16x7168, .f32⟩
  | 32 => ⟨S_, .f32⟩
  | 33 => ⟨S2048x16x7168, .f32⟩
  | 34 => ⟨S_, .f32⟩
  | 35 => ⟨S2048x7168, .f32⟩
  | 36 => ⟨S_, .f32⟩
  | 37 => ⟨S_, .f32⟩
  | 38 => ⟨S2048x7168, .f32⟩
  | 39 => ⟨S2048x7168, .f32⟩
  | 40 => ⟨S_, .f32⟩
  | 41 => ⟨S2048x7168, .f32⟩
  | 42 => ⟨S2048x7168, .f32⟩
  | 43 => ⟨S2048x7168, .fp8e4m3⟩
  | 44 => ⟨S2048x7168, .f32⟩
  | 45 => ⟨S2048x7168, .f32⟩
  | 46 => ⟨S2048x7168, .f32⟩
  | 47 => ⟨S2048x1x7168, .f32⟩
  | 48 => ⟨S_, .f32⟩
  | 49 => ⟨S2048x1x7168, .f32⟩
  | 50 => ⟨S2048x1x7168, .i1⟩
  | 51 => ⟨S_, .f32⟩
  | 52 => ⟨S2048x1x7168, .f32⟩
  | 53 => ⟨S2048x1x7168, .i1⟩
  | 54 => ⟨S_, .f32⟩
  | 55 => ⟨S_, .f32⟩
  | 56 => ⟨S2048x1x7168, .f32⟩
  | 57 => ⟨S2048x1x7168, .f32⟩
  | 58 => ⟨S2048x16x7168, .f32⟩
  | 59 => ⟨S2048x16x7168, .f32⟩
  | 60 => ⟨S_, .f32⟩
  | 61 => ⟨S_, .f32⟩
  | 62 => ⟨S2048x16x7168, .i1⟩
  | 63 => ⟨S2048x16x7168, .f32⟩
  | 64 => ⟨S2048x16x7168, .f32⟩
  | 65 => ⟨S2048x16x7168, .f32⟩
  | 66 => ⟨S_, .f32⟩
  | 67 => ⟨S2048x16x7168, .f32⟩
  | 68 => ⟨S2048x16x7168, .f32⟩
  | 69 => ⟨S_, .f32⟩
  | 70 => ⟨S2048x16x7168, .f32⟩
  | 71 => ⟨S2048x16x7168, .i1⟩
  | 72 => ⟨S2048x16x7168, .i32⟩
  | 73 => ⟨S_, .f32⟩
  | 74 => ⟨S2048x16x7168, .f32⟩
  | 75 => ⟨S2048x16x7168, .i1⟩
  | 76 => ⟨S2048x16x7168, .i32⟩
  | 77 => ⟨S2048x16x7168, .i32⟩
  | 78 => ⟨S_, .f32⟩
  | 79 => ⟨S2048x16x7168, .f32⟩
  | 80 => ⟨S2048x16x7168, .i1⟩
  | 81 => ⟨S2048x16x7168, .i32⟩
  | 82 => ⟨S2048x16x7168, .i32⟩
  | 83 => ⟨S_, .f32⟩
  | 84 => ⟨S2048x16x7168, .f32⟩
  | 85 => ⟨S2048x16x7168, .i1⟩
  | 86 => ⟨S2048x16x7168, .i32⟩
  | 87 => ⟨S2048x16x7168, .i32⟩
  | 88 => ⟨S_, .f32⟩
  | 89 => ⟨S2048x16x7168, .f32⟩
  | 90 => ⟨S2048x16x7168, .i1⟩
  | 91 => ⟨S2048x16x7168, .i32⟩
  | 92 => ⟨S2048x16x7168, .i32⟩
  | 93 => ⟨S_, .f32⟩
  | 94 => ⟨S2048x16x7168, .f32⟩
  | 95 => ⟨S2048x16x7168, .i1⟩
  | 96 => ⟨S2048x16x7168, .i32⟩
  | 97 => ⟨S2048x16x7168, .i32⟩
  | 98 => ⟨S_, .f32⟩
  | 99 => ⟨S2048x16x7168, .f32⟩
  | 100 => ⟨S2048x16x7168, .i1⟩
  | 101 => ⟨S2048x16x7168, .i32⟩
  | 102 => ⟨S2048x16x7168, .i32⟩
  | 103 => ⟨S_, .f32⟩
  | 104 => ⟨S2048x16x7168, .f32⟩
  | 105 => ⟨S2048x16x7168, .i1⟩
  | 106 => ⟨S_, .i32⟩
  | 107 => ⟨S2048x16x7168, .i32⟩
  | 108 => ⟨S2048x16x7168, .i1⟩
  | 109 => ⟨S2048x16x7168, .i1⟩
  | 110 => ⟨S2048x16x7168, .i32⟩
  | 111 => ⟨S_, .i32⟩
  | 112 => ⟨S2048x16x7168, .i32⟩
  | 113 => ⟨S2048x16x7168, .i32⟩
  | 114 => ⟨S2048x16x7168, .i32⟩
  | 115 => ⟨S2048x8x2x7168, .i32⟩
  | 116 => ⟨S2048x8x1x7168, .i32⟩
  | 117 => ⟨S2048x8x7168, .i32⟩
  | 118 => ⟨S2048x8x1x7168, .i32⟩
  | 119 => ⟨S2048x8x7168, .i32⟩
  | 120 => ⟨S_, .i32⟩
  | 121 => ⟨S2048x8x7168, .i32⟩
  | 122 => ⟨S2048x8x7168, .i32⟩
  | 123 => ⟨S2048x8x7168, .i32⟩
  | 124 => ⟨S7168x2048x8, .i32⟩
  | 125 => ⟨S7168x16384, .i32⟩
  | 126 => ⟨S7168x16384, .i8⟩
  | 127 => ⟨S7168x2048, .fp8e4m3⟩
  | _ => ⟨S8x4096x7168, .bf16⟩

abbrev hbmTy0_1 (i : Nat) : BufTy := match i % 128 with
  | 0 => ⟨S_, .i32⟩
  | 1 => ⟨S2048x16x7168, .i32⟩
  | 2 => ⟨S2048x16x7168, .i32⟩
  | 3 => ⟨S_, .i32⟩
  | 4 => ⟨S2048x16x7168, .i32⟩
  | 5 => ⟨S2048x16x7168, .i1⟩
  | 6 => ⟨S_, .i32⟩
  | 7 => ⟨S2048x16x7168, .i32⟩
  | 8 => ⟨S2048x16x7168, .i32⟩
  | 9 => ⟨S_, .i32⟩
  | 10 => ⟨S2048x16x7168, .i32⟩
  | 11 => ⟨S2048x16x7168, .i1⟩
  | 12 => ⟨S_, .i32⟩
  | 13 => ⟨S2048x16x7168, .i32⟩
  | 14 => ⟨S2048x16x7168, .i32⟩
  | 15 => ⟨S_, .i32⟩
  | 16 => ⟨S2048x16x7168, .i32⟩
  | 17 => ⟨S2048x16x7168, .i1⟩
  | 18 => ⟨S_, .i32⟩
  | 19 => ⟨S2048x16x7168, .i32⟩
  | 20 => ⟨S2048x16x7168, .i32⟩
  | 21 => ⟨S_, .i32⟩
  | 22 => ⟨S2048x16x7168, .i32⟩
  | 23 => ⟨S2048x16x7168, .i1⟩
  | 24 => ⟨S_, .bf16⟩
  | 25 => ⟨S_, .bf16⟩
  | 26 => ⟨S2048x16x7168, .bf16⟩
  | 27 => ⟨S2048x16x7168, .bf16⟩
  | 28 => ⟨S2048x16x7168, .bf16⟩
  | 29 => ⟨S_, .bf16⟩
  | 30 => ⟨S_, .bf16⟩
  | 31 => ⟨S2048x16x7168, .bf16⟩
  | 32 => ⟨S2048x16x7168, .bf16⟩
  | 33 => ⟨S2048x16x7168, .bf16⟩
  | 34 => ⟨S2048x16x7168, .bf16⟩
  | 35 => ⟨S_, .bf16⟩
  | 36 => ⟨S_, .bf16⟩
  | 37 => ⟨S2048x16x7168, .bf16⟩
  | 38 => ⟨S2048x16x7168, .bf16⟩
  | 39 => ⟨S2048x16x7168, .bf16⟩
  | 40 => ⟨S_, .bf16⟩
  | 41 => ⟨S_, .bf16⟩
  | 42 => ⟨S2048x16x7168, .bf16⟩
  | 43 => ⟨S2048x16x7168, .bf16⟩
  | 44 => ⟨S2048x16x7168, .bf16⟩
  | 45 => ⟨S2048x16x7168, .bf16⟩
  | 46 => ⟨S2048x16x7168, .bf16⟩
  | 47 => ⟨S2048x16x7168, .bf16⟩
  | 48 => ⟨S2048x16x7168, .bf16⟩
  | 49 => ⟨S2048x7168, .bf16⟩
  | 50 => ⟨S2048x1x7168, .bf16⟩
  | 51 => ⟨S2048x16x7168, .bf16⟩
  | 52 => ⟨S2048x16x7168, .bf16⟩
  | 53 => ⟨S32768x7168, .bf16⟩
  | 54 => ⟨S1408x32768x2, .bf16⟩
  | 55 => ⟨S1408x2x32768, .bf16⟩
  | 56 => ⟨S2816x128x2x8x16, .bf16⟩
  | 57 => ⟨S2816x128x16x8x2, .bf16⟩
  | 58 => ⟨S2816x32768, .bf16⟩
  | 59 => ⟨S2816x7168, .f32⟩
  | 60 => ⟨S1, .f32⟩
  | 61 => ⟨S1x1, .f32⟩
  | 62 => ⟨S2816x7168, .f32⟩
  | 63 => ⟨S2816x7168, .f32⟩
  | _ => ⟨S8x4096x7168, .bf16⟩

abbrev hbmTy (i : Nat) : BufTy := match i / 128 with
  | 0 => hbmTy0_0 i
  | 1 => hbmTy0_1 i
  | _ => ⟨S8x4096x7168, .bf16⟩

abbrev bufTy : (tb : Table) → Fin (tcTables nBuf tb) → BufTy
  | .hbm, ⟨i, _⟩ => hbmTy i
  | .local _ .vmem, ⟨0, _⟩ => ⟨S2048x7168, .f32⟩
  | .local _ .vmem, ⟨1, _⟩ => ⟨S2048x7168, .fp8e4m3⟩
  | .local _ .vmem, ⟨2, _⟩ => ⟨S2048x7168, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_19 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_21 : Ref sig .tc := ⟨.hbm, 128, rfl⟩
abbrev main_v94 : Ref sig .tc := ⟨.hbm, 129, rfl⟩
abbrev main_v95 : Ref sig .tc := ⟨.hbm, 130, rfl⟩
abbrev main_c_22 : Ref sig .tc := ⟨.hbm, 131, rfl⟩
abbrev main_v96 : Ref sig .tc := ⟨.hbm, 132, rfl⟩
abbrev main_v97 : Ref sig .tc := ⟨.hbm, 133, rfl⟩
abbrev main_c_23 : Ref sig .tc := ⟨.hbm, 134, rfl⟩
abbrev main_v98 : Ref sig .tc := ⟨.hbm, 135, rfl⟩
abbrev main_v99 : Ref sig .tc := ⟨.hbm, 136, rfl⟩
abbrev main_c_24 : Ref sig .tc := ⟨.hbm, 137, rfl⟩
abbrev main_v100 : Ref sig .tc := ⟨.hbm, 138, rfl⟩
abbrev main_v101 : Ref sig .tc := ⟨.hbm, 139, rfl⟩
abbrev main_c_25 : Ref sig .tc := ⟨.hbm, 140, rfl⟩
abbrev main_v102 : Ref sig .tc := ⟨.hbm, 141, rfl⟩
abbrev main_v103 : Ref sig .tc := ⟨.hbm, 142, rfl⟩
abbrev main_c_26 : Ref sig .tc := ⟨.hbm, 143, rfl⟩
abbrev main_v104 : Ref sig .tc := ⟨.hbm, 144, rfl⟩
abbrev main_v105 : Ref sig .tc := ⟨.hbm, 145, rfl⟩
abbrev main_c_27 : Ref sig .tc := ⟨.hbm, 146, rfl⟩
abbrev main_v106 : Ref sig .tc := ⟨.hbm, 147, rfl⟩
abbrev main_v107 : Ref sig .tc := ⟨.hbm, 148, rfl⟩
abbrev main_c_28 : Ref sig .tc := ⟨.hbm, 149, rfl⟩
abbrev main_v108 : Ref sig .tc := ⟨.hbm, 150, rfl⟩
abbrev main_v109 : Ref sig .tc := ⟨.hbm, 151, rfl⟩
abbrev main_cst_29 : Ref sig .tc := ⟨.hbm, 152, rfl⟩
abbrev main_cst_30 : Ref sig .tc := ⟨.hbm, 153, rfl⟩
abbrev main_call2_v0 : Ref sig .tc := ⟨.hbm, 154, rfl⟩
abbrev main_call2_v1 : Ref sig .tc := ⟨.hbm, 155, rfl⟩
abbrev main_v110 : Ref sig .tc := ⟨.hbm, 156, rfl⟩
abbrev main_cst_31 : Ref sig .tc := ⟨.hbm, 157, rfl⟩
abbrev main_cst_32 : Ref sig .tc := ⟨.hbm, 158, rfl⟩
abbrev main_call3_v0 : Ref sig .tc := ⟨.hbm, 159, rfl⟩
abbrev main_call3_v1 : Ref sig .tc := ⟨.hbm, 160, rfl⟩
abbrev main_v111 : Ref sig .tc := ⟨.hbm, 161, rfl⟩
abbrev main_v112 : Ref sig .tc := ⟨.hbm, 162, rfl⟩
abbrev main_cst_33 : Ref sig .tc := ⟨.hbm, 163, rfl⟩
abbrev main_cst_34 : Ref sig .tc := ⟨.hbm, 164, rfl⟩
abbrev main_call5_v0 : Ref sig .tc := ⟨.hbm, 165, rfl⟩
abbrev main_call5_v1 : Ref sig .tc := ⟨.hbm, 166, rfl⟩
abbrev main_v113 : Ref sig .tc := ⟨.hbm, 167, rfl⟩
abbrev main_cst_35 : Ref sig .tc := ⟨.hbm, 168, rfl⟩
abbrev main_cst_36 : Ref sig .tc := ⟨.hbm, 169, rfl⟩
abbrev main_call6_v0 : Ref sig .tc := ⟨.hbm, 170, rfl⟩
abbrev main_call6_v1 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelRun.Step.lean ====
module

public import proofs.«01_k».proof.Proof.Gen.KernelIdeal.Skeleton
public import proofs.«01_k».proof.Proof.Gen.KernelIdeal.Frame
public import Idealize.ShloMosaic.Lib.WritesUnit
public import Idealize.ShloMosaic.Lib.VecWindow

/-! What one step of the kernel leaves in its buffers, as plain functions of what it finds there: the conditions of
its branches, the quantised tile (scales, values, packed codes), and the five buffers it writes. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block counter of the product, `(step + 63) mod 64`, as the kernel computes it. -/
abbrev kmm (i : grid0.Coords) : BitVec 32 :=
  (Scalar.select (Scalar.andi (Scalar.xori (Scalar.cmpi .slt (Scalar.remsi (Scalar.subi (Scalar.addi (BitVec.ofNat 32 (i 0).val) 64#32) 1#32) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (Scalar.subi (Scalar.addi (BitVec.ofNat 32 (i 0).val) 64#32) 1#32) (Scalar.select (Scalar.cmpi .eq 64#32 0#32) 1#32 64#32)) 0#32)) (Scalar.addi (Scalar.remsi (Scalar.subi (Scalar.addi (BitVec.ofNat 32 (i 0).val) 64#32) 1#32) (Scalar.select (Scalar.cmpi .eq 64#32 0#32) 1#32 64#32)) (Scalar.select (Scalar.cmpi .eq 64#32 0#32) 1#32 64#32)) (Scalar.remsi (Scalar.subi (Scalar.addi (BitVec.ofNat 32 (i 0).val) 64#32) 1#32) (Scalar.select (Scalar.cmpi .eq 64#32 0#32) 1#32 64#32)))

/-- The kernel's first condition: the first step. -/
abbrev isFirst (i : grid0.Coords) : Prop :=
  (Scalar.cmpi .ne (Scalar.extui (Scalar.cmpi .eq (BitVec.ofNat 32 (i 0).val) 0#32)) 0#32) = 1#1
/-- Its second condition: the product block is the first of its column block. -/
abbrev startsBlock (i : grid0.Coords) : Prop :=
  (Scalar.cmpi .ne (Scalar.extui (Scalar.ori (Scalar.cmpi .eq (kmm i) 0#32) (Scalar.cmpi .eq (BitVec.ofNat 32 (i 0).val) 0#32))) 0#32) = 1#1
/-- Its last condition: the product block is the last of its column block. -/
abbrev endsBlock (i : grid0.Coords) : Prop :=
  (Scalar.cmpi .ne (Scalar.extui (Scalar.andi (Scalar.cmpi .eq (kmm i) 63#32) (Scalar.cmpi .sgt (BitVec.ofNat 32 (i 0).val) 0#32))) 0#32) = 1#1

/-- The branch conditions in closed form over the 449 steps. -/
theorem conds : ∀ t : Fin grid0.N, (isFirst (grid0.coords t) ↔ t.val = 0) ∧ (startsBlock (grid0.coords t) ↔ t.val % 64 = 1 ∨ t.val = 0)
    ∧ (k0_cond3 (grid0.coords t) = 1#1 ↔ t.val < 448) ∧ (k0_cond4 (grid0.coords t) = 1#1 ↔ t.val % 4 = 3)
    ∧ (endsBlock (grid0.coords t) ↔ t.val % 64 = 0 ∧ 0 < t.val) := by
  decide +kernel

/-- The rows and columns of the scale buffer the step writes for column tile 0. -/
theorem off1_eq : ∀ t : Fin grid0.N, k0_off1 (grid0.coords t) 0#32 = ![32 * (t.val % 4), 0]
    ∧ k0_off1 (grid0.coords t) 16#32 = ![32 * (t.val % 4) + 16, 0] := by
  decide +kernel

instance closedOff1_0 (t : Fin grid0.N) : ClosedOff (k0_off1 (grid0.coords t) 0#32) :=
  ⟨![32 * (t.val % 4), 0], (off1_eq t).1⟩
instance closedOff1_16 (t : Fin grid0.N) : ClosedOff (k0_off1 (grid0.coords t) 16#32) :=
  ⟨![32 * (t.val % 4) + 16, 0], (off1_eq t).2⟩

/-- The rows and columns of the scale buffer the step writes for column tile 1. -/
theorem off2_eq : ∀ t : Fin grid0.N, k0_off2 (grid0.coords t) 0#32 = ![32 * (t.val % 4), 256]
    ∧ k0_off2 (grid0.coords t) 16#32 = ![32 * (t.val % 4) + 16, 256] := by
  decide +kernel

instance closedOff2_0 (t : Fin grid0.N) : ClosedOff (k0_off2 (grid0.coords t) 0#32) :=
  ⟨![32 * (t.val % 4), 256], (off2_eq t).1⟩
instance closedOff2_16 (t : Fin grid0.N) : ClosedOff (k0_off2 (grid0.coords t) 16#32) :=
  ⟨![32 * (t.val % 4) + 16, 256], (off2_eq t).2⟩

/-- The rows and columns of the scale buffer the step writes for column tile 2. -/
theorem off3_eq : ∀ t : Fin grid0.N, k0_off3 (grid0.coords t) 0#32 = ![32 * (t.val % 4), 512]
    ∧ k0_off3 (grid0.coords t) 16#32 = ![32 * (t.val % 4) + 16, 512] := by
  decide +kernel

instance closedOff3_0 (t : Fin grid0.N) : ClosedOff (k0_off3 (grid0.coords t) 0#32) :=
  ⟨![32 * (t.val % 4), 512], (off3_eq t).1⟩
instance closedOff3_16 (t : Fin grid0.N) : ClosedOff (k0_off3 (grid0.coords t) 16#32) :=
  ⟨![32 * (t.val % 4) + 16, 512], (off3_eq t).2⟩

/-- The rows and columns of the scale buffer the step writes for column tile 3. -/
theorem off4_eq : ∀ t : Fin grid0.N, k0_off4 (grid0.coords t) 0#32 = ![32 * (t.val % 4), 768]
    ∧ k0_off4 (grid0.coords t) 16#32 = ![32 * (t.val % 4) + 16, 768] := by
  decide +kernel

instance closedOff4_0 (t : Fin grid0.N) : ClosedOff (k0_off4 (grid0.coords t) 0#32) :=
  ⟨![32 * (t.val % 4), 768], (off4_eq t).1⟩
instance closedOff4_16 (t : Fin grid0.N) : ClosedOff (k0_off4 (grid0.coords t) 16#32) :=
  ⟨![32 * (t.val % 4) + 16, 768], (off4_eq t).2⟩

/-! ## The quantised tile -/

section Tile
variable (rot xt : Vec F S256x256 .bf16) (st : Elt F .f32)

/-- The scales of a tile: one per group of sixteen tokens and channel. -/
def sbT : FVec F S16x256 .f32 := k0_pay8 rot xt st
/-- The rotated tile divided by its scales and clipped to `[-6, 6]`. -/
def vT : FVec F S256x256 .f32 := k0_pay12 (k0_pay7 rot xt) (k0_pay9 rot xt st) (k0_pay10 rot xt st) k0_pay11
/-- Its magnitude. -/
def mT : FVec F S256x256 .f32 := k0_pay13 (k0_pay7 rot xt) (k0_pay9 rot xt st) (k0_pay10 rot xt st) k0_pay11
/-- The four-bit codes of the tile, each in a 32-bit word. -/
def nibT : IVec S256x256 32 :=
  k0_pay16 (vT rot xt st) (mT rot xt st) (k0_pay14 (k0_pay7 rot xt) (k0_pay9 rot xt st) (k0_pay10 rot xt st) k0_pay11)
    (k0_pay15 (k0_pay7 rot xt) (k0_pay9 rot xt st) (k0_pay10 rot xt st) k0_pay11) 1#32
/-- The values the codes stand for, times the block scales: what the product reads. -/
def valsT : FVec F S256x256 .bf16 :=
  k0_pay23 (sbT rot xt st) (vT rot xt st) (k0_pay17 (mT rot xt st)) (k0_pay18 (mT rot xt st)) (k0_pay19 (mT rot xt st))
    (k0_pay20 (mT rot xt st)) (k0_pay21 (mT rot xt st)) (k0_pay22 (mT rot xt st)) (FloatOps.ofBits .f32 1069547520#32)
/-- The codes packed two to a byte, channels by rows. -/
def codesT (src : Vec F S1x128 .i32) : IVec S256x128 8 :=
  k0_pay27 src (k0_pay25 (nibT rot xt st)) (k0_pay26 (nibT rot xt st)) 2004318071#32
end Tile

/-! ## Blocks cut into tiles -/

/-- A block assembled from tiles: the tile an index falls in, at its place in the tile. -/
def tiled {α : Type} {nr nc h w R C : ℕ} (hh : 0 < h) (hw : 0 < w) (hR : R = nr * h) (hC : C = nc * w)
    (T : Fin nr → Fin nc → (⟨2, ![h, w]⟩ : Shape).Idx → α) (y : (⟨2, ![R, C]⟩ : Shape).Idx) : α :=
  T ⟨(y 0).val / h, Nat.div_lt_of_lt_mul (by have := (y 0).isLt; rw [Nat.mul_comm]; rw [← hR]; exact this)⟩
    ⟨(y 1).val / w, Nat.div_lt_of_lt_mul (by have := (y 1).isLt; rw [Nat.mul_comm]; rw [← hC]; exact this)⟩
    (Fin.cons ⟨(y 0).val % h, Nat.mod_lt _ hh⟩ (Fin.cons ⟨(y 1).val % w, Nat.mod_lt _ hw⟩ finZeroElim))

/-- An assembled block read inside one of its tiles is that tile. -/
theorem tiled_emb {α : Type} {nr nc h w R C : ℕ} (hh : 0 < h) (hw : 0 < w) (hR : R = nr * h) (hC : C = nc * w)
    (T : Fin nr → Fin nc → (⟨2, ![h, w]⟩ : Shape).Idx → α) (i : Fin nr) (j : Fin nc) {o0 o1 : ℕ} (e0 : o0 = h * i.val) (e1 : o1 = w * j.val)
    (inb : ∀ a, (![o0, o1] : Fin 2 → ℕ) a + (![h, w] : Fin 2 → ℕ) a ≤ (⟨2, ![R, C]⟩ : Shape).size a)
    (x : (⟨2, ![h, w]⟩ : Shape).Idx) :
    tiled hh hw hR hC T ((Rect.unit (s := ⟨2, ![R, C]⟩) ![o0, o1] ![h, w] inb).emb x) = T i j x := by
  subst e0 e1
  have x0 : (x 0).val < h := (x 0).isLt
  have x1 : (x 1).val < w := (x 1).isLt
  have v0 : (((Rect.unit (s := ⟨2, ![R, C]⟩) ![h * i.val, w * j.val] ![h, w] inb).emb x) 0).val = h * i.val + 1 * (x 0).val := rfl
  have v1 : (((Rect.unit (s := ⟨2, ![R, C]⟩) ![h * i.val, w * j.val] ![h, w] inb).emb x) 1).val = w * j.val + 1 * (x 1).val := rfl
  unfold tiled
  congr 1
  · exact Fin.ext (by show _ / h = _; rw [v0, Nat.one_mul, Nat.mul_add_div hh, Nat.div_eq_of_lt x0, Nat.add_zero])
  · exact Fin.ext (by show _ / w = _; rw [v1, Nat.one_mul, Nat.mul_add_div hw, Nat.div_eq_of_lt x1, Nat.add_zero])
  · funext a
    refine Fin.cases ?_ (fun b => Fin.cases ?_ (fun c => c.elim0) b) a
    · exact Fin.ext (by show _ % h = (x 0).val; rw [v0, Nat.one_mul, Nat.mul_add_mod, Nat.mod_eq_of_lt x0])
    · exact Fin.ext (by show _ % w = (x 1).val; rw [v1, Nat.one_mul, Nat.mul_add_mod, Nat.mod_eq_of_lt x1])

/-- The rectangle of tile `(s, n)` of the block of `x`. -/
def xRect (s : Fin 2) (n : Fin 4) : Rect S512x1024 :=
  Rect.unit ![256 * s.val, 256 * n.val] S256x256.size
    (Fin.forall_fin_two.mpr ⟨by show 256 * s.val + 256 ≤ 512; omega, by show 256 * n.val + 256 ≤ 1024; omega⟩)
/-- Tile `(s, n)` of the block of `x`. -/
def xTile (x3 : Vec F S512x1024 .bf16) (s : Fin 2) (n : Fin 4) : Vec F S256x256 .bf16 := View.ld x3 (xRect s n)
/-- The tensor scale of `x`, and that of `dy`. -/
def st0 (x0 : Vec F S2 .f32) : Elt F .f32 := View.ld x0 (Rect.unit ![0] S1.size inb_S2_S1_0) (Shape.Idx.first (by decide))
/-- The tensor scale of `dy`. -/
def st1 (x0 : Vec F S2 .f32) : Elt F .f32 := View.ld x0 (Rect.unit ![1] S1.size inb_S2_S1_1) (Shape.Idx.first (by decide))
/-- The row of lane sources. -/
def srcRow (x1 : Vec F S8x128 .i32) : Vec F S1x128 .i32 := View.ld x1 (Rect.unit ![0, 0] S1x128.size inb_S8x128_S1x128_0_0)

/-- The rotation matrix as the body loads it. -/
def rotOf (x2 : Vec F S256x256 .bf16) : Vec F S256x256 .bf16 := View.ld x2 (Rect.unit ![0, 0] S256x256.size inb_S256x256_S256x256_0_0)
/-- The block of packed values of `dy` as the body loads it. -/
def vtOf (x4 : Vec F S1408x512 .i32) : Vec F S1408x512 .i32 := View.ld x4 (Rect.unit ![0, 0] S1408x512.size inb_S1408x512_S1408x512_0_0)

/-- The dequantised block. -/
def valsOf (x0 : Vec F S2 .f32) (x2 : Vec F S256x256 .bf16) (x3 : Vec F S512x1024 .bf16) : Vec F S512x1024 .bf16 :=
  tiled (by decide) (by decide) rfl rfl fun (s : Fin 2) (n : Fin 4) => valsT (rotOf x2) (xTile x3 s n) (st0 x0)
/-- The packed codes of the block. -/
def codesOf (x0 : Vec F S2 .f32) (x1 : Vec F S8x128 .i32) (x2 : Vec F S256x256 .bf16) (x3 : Vec F S512x1024 .bf16) : Vec F S1024x256 .i8 :=
  tiled (by decide) (by decide) rfl rfl fun (n : Fin 4) (s : Fin 2) => codesT (rotOf x2) (xTile x3 s n) (st0 x0) (srcRow x1)
/-- Columns `256 n … 256 n + 255` of the accumulator. -/
def dwCols (x5 : Vec F S2816x1024 .f32) (n : Fin 4) : Vec F S2816x256 .f32 :=
  View.ld x5 (Rect.unit ![0, 256 * n.val] S2816x256.size
    (Fin.forall_fin_two.mpr ⟨by show 0 + 2816 ≤ 2816; omega, by show 256 * n.val + 256 ≤ 1024; omega⟩))
/-- Columns `256 n … 256 n + 255` of the dequantised block. -/
def valsCols (x8 : Vec F S512x1024 .bf16) (n : Fin 4) : Vec F S512x256 .bf16 :=
  View.ld x8 (Rect.unit ![0, 256 * n.val] S512x256.size
    (Fin.forall_fin_two.mpr ⟨by show 0 + 512 ≤ 512; omega, by show 256 * n.val + 256 ≤ 1024; omega⟩))
/-- The accumulator after one product is added to it. -/
def dwOf (x4 : Vec F S1408x512 .i32) (x5 : Vec F S2816x1024 .f32) (x8 : Vec F S512x1024 .bf16) : Vec F S2816x1024 .f32 :=
  tiled (by decide) (by decide) rfl rfl fun (_ : Fin 1) (n : Fin 4) => k0_pay6 (dwCols x5 n) (vtOf x4) (valsCols x8 n)

/-- The dequantised block read inside a tile is that tile. -/
theorem valsOf_emb (x0 : Vec F S2 .f32) (x2 : Vec F S256x256 .bf16) (x3 : Vec F S512x1024 .bf16) (s : Fin 2) (n : Fin 4) {o0 o1 : ℕ}
    (inb : ∀ a, (![o0, o1] : Fin 2 → ℕ) a + S256x256.size a ≤ S512x1024.size a) (x : S256x256.Idx)
    (e0 : o0 = 256 * s.val := by rfl) (e1 : o1 = 256 * n.val := by rfl) :
    valsOf x0 x2 x3 ((Rect.unit (s := S512x1024) ![o0, o1] S256x256.size inb).emb x) = valsT (rotOf x2) (xTile x3 s n) (st0 x0) x :=
  tiled_emb (by decide) (by decide) rfl rfl (fun (s : Fin 2) (n : Fin 4) => valsT (rotOf x2) (xTile x3 s n) (st0 x0)) s n e0 e1 inb x
/-- The packed codes read inside a tile are that tile's. -/
theorem codesOf_emb (x0 : Vec F S2 .f32) (x1 : Vec F S8x128 .i32) (x2 : Vec F S256x256 .bf16) (x3 : Vec F S512x1024 .bf16) (s : Fin 2) (n : Fin 4)
    {o0 o1 : ℕ} (inb : ∀ a, (![o0, o1] : Fin 2 → ℕ) a + S256x128.size a ≤ S1024x256.size a) (x : S256x128.Idx)
    (e0 : o0 = 256 * n.val := by rfl) (e1 : o1 = 128 * s.val := by rfl) :
    codesOf x0 x1 x2 x3 ((Rect.unit (s := S1024x256) ![o0, o1] S256x128.size inb).emb x) = codesT (rotOf x2) (xTile x3 s n) (st0 x0) (srcRow x1) x :=
  tiled_emb (by decide) (by decide) rfl rfl (fun (n : Fin 4) (s : Fin 2) => codesT (rotOf x2) (xTile x3 s n) (st0 x0) (srcRow x1)) n s e0 e1 inb x
/-- The accumulator read inside a column tile is that tile's product added. -/
theorem dwOf_emb (x4 : Vec F S1408x512 .i32) (x5 : Vec F S2816x1024 .f32) (x8 : Vec F S512x1024 .bf16) (n : Fin 4) {o1 : ℕ}
    (inb : ∀ a, (![0, o1] : Fin 2 → ℕ) a + S2816x256.size a ≤ S2816x1024.size a) (x : S2816x256.Idx) (e1 : o1 = 256 * n.val := by rfl) :
    dwOf x4 x5 x8 ((Rect.unit (s := S2816x1024) ![0, o1] S2816x256.size inb).emb x) = k0_pay6 (dwCols x5 n) (vtOf x4) (valsCols x8 n) x :=
  tiled_emb (by decide) (by decide) rfl rfl (fun (_ : Fin 1) (n : Fin 4) => k0_pay6 (dwCols x5 n) (vtOf x4) (valsCols x8 n)) 0 n rfl e1 inb x

/-- A scale buffer of 128 rows whose rows `32 j … 32 j + 31` are replaced by two tile rows. -/
def sbufMix (j : ℕ) (T : Fin 2 → Fin 4 → Vec F S16x256 .f32) (x9 : Vec F S128x1024 .f32) : Vec F S128x1024 .f32 := fun y =>
  if (y 0).val / 32 = j then
    T ⟨(y 0).val % 32 / 16, by omega⟩ ⟨(y 1).val / 256, by have h : (y 1).val < 1024 := (y 1).isLt; omega⟩
      (Fin.cons ⟨(y 0).val % 16, Nat.mod_lt _ (by decide)⟩ (Fin.cons ⟨(y 1).val % 256, Nat.mod_lt _ (by decide)⟩ finZeroElim))
  else x9 y

/-- The mixed buffer read inside one of the new tiles is that tile. -/
theorem sbufMix_emb (j : ℕ) (hj : j < 4) (T : Fin 2 → Fin 4 → Vec F S16x256 .f32) (x9 : Vec F S128x1024 .f32) (s : Fin 2) (n : Fin 4) {o0 o1 : ℕ}
    (inb : ∀ a, (![o0, o1] : Fin 2 → ℕ) a + S16x256.size a ≤ S128x1024.size a) (x : S16x256.Idx)
    (e0 : o0 = 32 * j + 16 * s.val := by rfl) (e1 : o1 = 256 * n.val := by rfl) :
    sbufMix j T x9 ((Rect.unit (s := S128x1024) ![o0, o1] S16x256.size inb).emb x) = T s n x := by
  subst e0 e1
  have x0 : (x 0).val < 16 := (x 0).isLt
  have x1 : (x 1).val < 256 := (x 1).isLt
  have v0 : (((Rect.unit (s := S128x1024) ![32 * j + 16 * s.val, 256 * n.val] S16x256.size inb).emb x) 0).val = 32 * j + 16 * s.val + 1 * (x 0).val := rfl
  have v1 : (((Rect.unit (s := S128x1024) ![32 * j + 16 * s.val, 256 * n.val] S16x256.size inb).emb x) 1).val = 256 * n.val + 1 * (x 1).val := rfl
  unfold sbufMix
  rw [if_pos (by rw [v0]; omega)]
  congr 1
  · exact Fin.ext (by show _ % 32 / 16 = _; rw [v0]; omega)
  · exact Fin.ext (by show _ / 256 = _; rw [v1]; omega)
  · funext a
    refine Fin.cases ?_ (fun b => Fin.cases ?_ (fun c => c.elim0) b) a
    · exact Fin.ext (by show _ % 16 = (x 0).val; rw [v0]; omega)
    · exact Fin.ext (by show _ % 256 = (x 1).val; rw [v1]; omega)

/-- The indices of a tile of the scale buffer. -/
theorem mem_scaleTile {o0 o1 : ℕ} (inb : ∀ a, (![o0, o1] : Fin 2 → ℕ) a + (![16, 256] : Fin 2 → ℕ) a ≤ S128x1024.size a) (y : S128x1024.Idx) :
    y ∈ (Rect.unit (s := S128x1024) ![o0, o1] ![16, 256] inb).set
      ↔ (o0 ≤ (y 0).val ∧ (y 0).val < o0 + 16) ∧ (o1 ≤ (y 1).val ∧ (y 1).val < o1 + 256) := by
  rw [Rect.mem_set_unit]
  exact Fin.forall_fin_two

/-- Eight tiles written into the scale buffer, whichever order of offsets names them, leave `sbufMix`. -/
theorem sbuf_tiles {sig : RefSig} {κ : Kind} {sp : Space} (v : View sig κ sp S128x1024 .f32) (f : v.ty.Contents (Elt F)) (j : ℕ) (hj : j < 4)
    (T : Fin 2 → Fin 4 → Vec F S16x256 .f32) {o13 o03 o12 o02 o11 o01 o10 o00 : Fin 2 → ℕ}
    (i13 : ∀ a, o13 a + S16x256.size a ≤ S128x1024.size a) (h13 : o13 = ![32 * j + 16, 768])
    (w13 : (Rect.unit (s := S128x1024) o13 S16x256.size i13).shape.Idx → Elt F .f32) (e13 : w13 = T 1 3)
    (i03 : ∀ a, o03 a + S16x256.size a ≤ S128x1024.size a) (h03 : o03 = ![32 * j + 0, 768])
    (w03 : (Rect.unit (s := S128x1024) o03 S16x256.size i03).shape.Idx → Elt F .f32) (e03 : w03 = T 0 3)
    (i12 : ∀ a, o12 a + S16x256.size a ≤ S128x1024.size a) (h12 : o12 = ![32 * j + 16, 512])
    (w12 : (Rect.unit (s := S128x1024) o12 S16x256.size i12).shape.Idx → Elt F .f32) (e12 : w12 = T 1 2)
    (i02 : ∀ a, o02 a + S16x256.size a ≤ S128x1024.size a) (h02 : o02 = ![32 * j + 0, 512])
    (w02 : (Rect.unit (s := S128x1024) o02 S16x256.size i02).shape.Idx → Elt F .f32) (e02 : w02 = T 0 2)
    (i11 : ∀ a, o11 a + S16x256.size a ≤ S128x1024.size a) (h11 : o11 = ![32 * j + 16, 256])
    (w11 : (Rect.unit (s := S128x1024) o11 S16x256.size i11).shape.Idx → Elt F .f32) (e11 : w11 = T 1 1)
    (i01 : ∀ a, o01 a + S16x256.size a ≤ S128x1024.size a) (h01 : o01 = ![32 * j + 0, 256])
    (w01 : (Rect.unit (s := S128x1024) o01 S16x256.size i01).shape.Idx → Elt F .f32) (e01 : w01 = T 0 1)
    (i10 : ∀ a, o10 a + S16x256.size a ≤ S128x1024.size a) (h10 : o10 = ![32 * j + 16, 0])
    (w10 : (Rect.unit (s := S128x1024) o10 S16x256.size i10).shape.Idx → Elt F .f32) (e10 : w10 = T 1 0)
    (i00 : ∀ a, o00 a + S16x256.size a ≤ S128x1024.size a) (h00 : o00 = ![32 * j + 0, 0])
    (w00 : (Rect.unit (s := S128x1024) o00 S16x256.size i00).shape.Idx → Elt F .f32) (e00 : w00 = T 0 0) :
    v.read (Elt F) (v.writes (Elt F) f [⟨Rect.unit (s := S128x1024) o13 S16x256.size i13, w13⟩, ⟨Rect.unit (s := S128x1024) o03 S16x256.size i03, w03⟩, ⟨Rect.unit (s := S128x1024) o12 S16x256.size i12, w12⟩, ⟨Rect.unit (s := S128x1024) o02 S16x256.size i02, w02⟩, ⟨Rect.unit (s := S128x1024) o11 S16x256.size i11, w11⟩, ⟨Rect.unit (s := S128x1024) o01 S16x256.size i01, w01⟩, ⟨Rect.unit (s := S128x1024) o10 S16x256.size i10, w10⟩, ⟨Rect.unit (s := S128x1024) o00 S16x256.size i00, w00⟩])
      = sbufMix j T (v.read (Elt F) f) := by
  subst h13 e13 h03 e03 h12 e12 h02 e02 h11 e11 h01 e01 h10 e10 h00 e00
  funext y
  have hy0 : (y 0).val < 128 := (y 0).isLt
  have hy1 : (y 1).val < 1024 := (y 1).isLt
  by_cases h : (y 0).val / 32 = j
  · refine View.read_writes_apply_of_pieces v f (sbufMix j T (v.read (Elt F) f)) _ ?_ y ?_
    · simp only [List.forall_mem_cons, List.not_mem_nil, false_imp_iff, implies_true, _root_.and_true]
      exact ⟨fun x => (sbufMix_emb j hj T _ 1 3 i13 x).symm, fun x => (sbufMix_emb j hj T _ 0 3 i03 x).symm, fun x => (sbufMix_emb j hj T _ 1 2 i12 x).symm, fun x => (sbufMix_emb j hj T _ 0 2 i02 x).symm, fun x => (sbufMix_emb j hj T _ 1 1 i11 x).symm, fun x => (sbufMix_emb j hj T _ 0 1 i01 x).symm, fun x => (sbufMix_emb j hj T _ 1 0 i10 x).symm, fun x => (sbufMix_emb j hj T _ 0 0 i00 x).symm⟩
    · have hs : (y 0).val % 32 / 16 = 0 ∨ (y 0).val % 32 / 16 = 1 := by omega
      have hn : (y 1).val / 256 = 0 ∨ (y 1).val / 256 = 1 ∨ (y 1).val / 256 = 2 ∨ (y 1).val / 256 = 3 := by omega
      simp only [List.exists_mem_cons_iff, mem_scaleTile, List.not_mem_nil, _root_.false_and, exists_false, _root_.or_false]
      omega
  · have hmix : sbufMix j T (v.read (Elt F) f) y = v.read (Elt F) f y := if_neg h
    rw [hmix]
    refine View.read_writes_apply_of_forall_not_mem v f y _ ?_
    simp only [List.forall_mem_cons, List.not_mem_nil, false_imp_iff, implies_true, _root_.and_true, mem_scaleTile]
    omega

/-! ## The loads of the body as these parts of what it finds -/

section Loads
theorem ld_st0 (X : Vec F S2 .f32) (h) : View.ld X (Rect.unit ![0] S1.size inb_S2_S1_0) (Shape.Idx.first h) = st0 X := rfl
theorem ld_st1 (X : Vec F S2 .f32) (h) : View.ld X (Rect.unit ![1] S1.size inb_S2_S1_1) (Shape.Idx.first h) = st1 X := rfl
theorem ld_rot (X : Vec F S256x256 .bf16) : View.ld X (Rect.unit ![0, 0] S256x256.size inb_S256x256_S256x256_0_0) = rotOf X := rfl
theorem ld_vt (X : Vec F S1408x512 .i32) : View.ld X (Rect.unit ![0, 0] S1408x512.size inb_S1408x512_S1408x512_0_0) = vtOf X := rfl
theorem ld_src (X : Vec F S8x128 .i32) : View.ld X (Rect.unit ![0, 0] S1x128.size inb_S8x128_S1x128_0_0) = srcRow X := rfl
theorem ld_x00 (X : Vec F S512x1024 .bf16) : View.ld X (Rect.unit ![0, 0] S256x256.size inb_S512x1024_S256x256_0_0) = xTile X 0 0 := rfl
theorem ld_x01 (X : Vec F S512x1024 .bf16) : View.ld X (Rect.unit ![0, 256] S256x256.size inb_S512x1024_S256x256_0_256) = xTile X 0 1 := rfl
theorem ld_x02 (X : Vec F S512x1024 .bf16) : View.ld X (Rect.unit ![0, 512] S256x256.size inb_S512x1024_S256x256_0_512) = xTile X 0 2 := rfl
theorem ld_x03 (X : Vec F S512x1024 .bf16) : View.ld X (Rect.unit ![0, 768] S256x256.size inb_S512x1024_S256x256_0_768) = xTile X 0 3 := rfl
theorem ld_x10 (X : Vec F S512x1024 .bf16) : View.ld X (Rect.unit ![256, 0] S256x256.size inb_S512x1024_S256x256_256_0) = xTile X 1 0 := rfl
theorem ld_x11 (X : Vec F S512x1024 .bf16) : View.ld X (Rect.unit ![256, 256] S256x256.size inb_S512x1024_S256x256_256_256) = xTile X 1 1 := rfl
theorem ld_x12 (X : Vec F S512x1024 .bf16) : View.ld X (Rect.unit ![256, 512] S256x256.size inb_S512x1024_S256x256_256_512) = xTile X 1 2 := rfl
theorem ld_x13 (X : Vec F S512x1024 .bf16) : View.ld X (Rect.unit ![256, 768] S256x256.size inb_S512x1024_S256x256_256_768) = xTile X 1 3 := rfl
end Loads

/-! ## Loads of a buffer some tiles of which were just stored -/

section Cov
variable {sig : RefSig} {κ : Kind} {sp : Space} {d : Fin 2 → ℕ} {e : EltTy} {Val : EltTy → Type}

/-- A load of columns none of which the newest piece holds is the load of what was there before. -/
theorem readCov_miss [∀ e, Nonempty (Val e)] (v : View sig κ sp (⟨2, d⟩ : Shape) e) {o o' z z' : Fin 2 → ℕ} (inb : ∀ a : Fin 2, o a + z a ≤ d a)
    (inb' : ∀ a : Fin 2, o' a + z' a ≤ d a) (w : (Rect.unit (s := ⟨2, d⟩) o z inb).shape.Idx → Val e) (L : List (View.Piece Val ⟨2, d⟩ e))
    (h : o 1 + z 1 ≤ o' 1 ∨ o' 1 + z' 1 ≤ o 1) :
    v.readCov (⟨Rect.unit (s := ⟨2, d⟩) o z inb, w⟩ :: L) (Rect.unit (s := ⟨2, d⟩) o' z' inb').toLoadRect
      = v.readCov L (Rect.unit (s := ⟨2, d⟩) o' z' inb').toLoadRect := by
  funext x
  refine View.read_writes_cons_unit_of_not_mem v v.junk inb w L _ rfl 1 ?_
  have hx : (x 1).val < z' 1 := (x 1).isLt
  show o' 1 + 1 * (x 1).val < o 1 ∨ o 1 + z 1 ≤ o' 1 + 1 * (x 1).val
  omega

/-- A load of a buffer stored whole is the load of what was stored. -/
theorem readCov_base [∀ e, Nonempty (Val e)] (v : View sig κ sp (⟨2, d⟩ : Shape) e) {o o' z' : Fin 2 → ℕ} (inb : ∀ a : Fin 2, o a + d a ≤ d a)
    (inb' : ∀ a : Fin 2, o' a + z' a ≤ d a) (w : (Rect.unit (s := ⟨2, d⟩) o d inb).shape.Idx → Val e) :
    v.readCov [⟨Rect.unit (s := ⟨2, d⟩) o d inb, w⟩] (Rect.unit (s := ⟨2, d⟩) o' z' inb').toLoadRect = View.ld w (Rect.unit (s := ⟨2, d⟩) o' z' inb') := by
  funext x
  exact congrFun (View.read_writes_full v v.junk inb w []) _

/-- A load of a buffer whose stores leave `X` whatever was there before reads `X`. -/
theorem readCov_all {s : Shape} [∀ e, Nonempty (Val e)] (v : View sig κ sp s e) (L : List (View.Piece Val s e)) (X : s.Idx → Val e)
    (h : ∀ f, v.read Val (v.writes Val f L) = X) (r : Rect s) : v.readCov L r.toLoadRect = View.ld X r := by
  rw [← h v.junk]; rfl

/-- Stores over a first store of the whole are stores over what it left. -/
theorem writes_over4 {s : Shape} (v : View sig κ sp s e) (f : v.ty.Contents Val) (a b c d z : View.Piece Val s e) :
    v.writes Val f [a, b, c, d, z] = v.writes Val (v.writes Val f [z]) [a, b, c, d] := rfl
theorem writes_over8 {s : Shape} (v : View sig κ sp s e) (f : v.ty.Contents Val) (a b c d a' b' c' d' z : View.Piece Val s e) :
    v.writes Val f [a, b, c, d, a', b', c', d', z] = v.writes Val (v.writes Val f [z]) [a, b, c, d, a', b', c', d'] := rfl
end Cov

/-- The accumulator scaled by the two tensor scales. -/
def dwEnd (x0 : Vec F S2 .f32) (x5 : Vec F S2816x1024 .f32) : Vec F S2816x1024 .f32 :=
  k0_pay3 (View.ld x5 (Rect.unit ![0, 0] S2816x1024.size inb_S2816x1024_S2816x1024_0_0)) (st1 x0) (st0 x0)
/-- The finished scales of 128 groups, channels by rows. -/
def sbOut (x9 : Vec F S128x1024 .f32) : Vec F S1024x128 .fp8e4m3 :=
  k0_pay2 (View.ld x9 (Rect.unit ![0, 0] S128x1024.size inb_S128x1024_S128x1024_0_0))

/-- The tiles of scales of the step's block. -/
def sbTiles (x0 : Vec F S2 .f32) (x2 : Vec F S256x256 .bf16) (x3 : Vec F S512x1024 .bf16) (s : Fin 2) (n : Fin 4) : Vec F S16x256 .f32 :=
  k0_pay24 (sbT (rotOf x2) (xTile x3 s n) (st0 x0))

/-- What one run of the kernel body does: from the five inputs' buffers at `x0 … x4` and the other five at
`x5 … x9` it runs to its end with the inputs' buffers as they were and the others at `y5 … y9`. -/
def BodyTriple (c : Dev nD) (i : grid0.Coords)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)
    (y5 : Vec F S2816x1024 .f32) (y6 : Vec F S1024x256 .i8) (y7 : Vec F S1024x128 .fp8e4m3) (y8 : Vec F S512x1024 .bf16) (y9 : Vec F S128x1024 .f32) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare y9) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10) K

end Cert.KernelIdeal.Gen

end
-- ==== Proof.KernelRun.RunA.lean ====
module

public import proofs.«01_k».proof.Proof.KernelRun.Step

/-! The first step: the accumulator and the values are zero-filled, then the step runs as any other. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_A (h1 : isFirst (grid0.coords t)) (h2 : startsBlock (grid0.coords t)) (h3 : k0_cond3 (grid0.coords t) = 1#1) (h4 : ¬k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 k0_pay5 k0_pay4) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    dsimp only [run_A.sl.H5_1, run_A.sl.H5_2, run_A.sl.H5_3, run_A.sl.H5_4]
    rw [writes_over4]
    funext y
    refine View.read_writes_apply_of_pieces _ _ (dwOf (arg5.view.read (Elt F) f4) (k0_pay5) (k0_pay4)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, View.readAt_eq_ld, ld_st0, ld_st1, ld_rot, ld_vt, ld_src, ld_x00,
        ld_x01, ld_x02, ld_x03, ld_x10, ld_x11, ld_x12, ld_x13, k0_pay7, k0_pay8, k0_pay9, k0_pay10, k0_pay11, k0_pay12, k0_pay13,
        k0_pay14, k0_pay15, k0_pay16, k0_pay17, k0_pay18, k0_pay19, k0_pay20, k0_pay21, k0_pay22, k0_pay23, k0_pay24, k0_pay25, k0_pay26,
        k0_pay27, k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51, k0_pay52,
        k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114,
        k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147,
        k0_pay148, k0_pay149, k0_pay1]
      all_goals simp (disch := decide) only [readCov_miss, readCov_base]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    dsimp only [run_A.sl.H8_1, run_A.sl.H8_3, run_A.sl.H8_5, run_A.sl.H8_7]
    rw [writes_over8]
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
    all_goals rfl

end Cert.KernelIdeal.Gen

end
-- ==== Proof.KernelRun.RunB.lean ====
module

public import proofs.«01_k».proof.Proof.KernelRun.Step

/-! The first multiplying step of a column block: the accumulator is zero-filled first. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_B (h1 : ¬isFirst (grid0.coords t)) (h2 : startsBlock (grid0.coords t)) (h3 : k0_cond3 (grid0.coords t) = 1#1) (h4 : ¬k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 k0_pay5 x8) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    dsimp only [run_B.sl.H5_1, run_B.sl.H5_2, run_B.sl.H5_3, run_B.sl.H5_4]
    rw [writes_over4]
    funext y
    refine View.read_writes_apply_of_pieces _ _ (dwOf (arg5.view.read (Elt F) f4) (k0_pay5) (arg9.view.read (Elt F) f8)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, View.readAt_eq_ld, ld_st0, ld_st1,
        ld_rot, ld_vt, ld_src, ld_x00, ld_x01, ld_x02, ld_x03, ld_x10, ld_x11, ld_x12, ld_x13, k0_pay7, k0_pay8, k0_pay9, k0_pay10,
        k0_pay11, k0_pay12, k0_pay13, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33, k0_pay34, k0_pay35, k0_pay36,
        k0_pay37, k0_pay38, k0_pay39, k0_pay40, k0_pay41, k0_pay42, k0_pay43, k0_pay44, k0_pay45, k0_pay46, k0_pay47, k0_pay48, k0_pay49,
        k0_pay50, k0_pay51, k0_pay52, k0_pay53, k0_pay54, k0_pay55, k0_pay56, k0_pay57, k0_pay58, k0_pay59, k0_pay60, k0_pay61, k0_pay62,
        k0_pay63, k0_pay64, k0_pay65, k0_pay66, k0_pay67, k0_pay68, k0_pay69, k0_pay70, k0_pay71, k0_pay72, k0_pay73, k0_pay74, k0_pay75,
        k0_pay76, k0_pay77, k0_pay78, k0_pay79, k0_pay80, k0_pay81, k0_pay82, k0_pay83, k0_pay84, k0_pay85, k0_pay86, k0_pay87, k0_pay88,
        k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120, k0_pay121, k0_pay122,
        k0_pay123, k0_pay124, k0_pay125, k0_pay126, k0_pay127, k0_pay128, k0_pay129, k0_pay130, k0_pay131, k0_pay132, k0_pay133,
        k0_pay134, k0_pay135, k0_pay136, k0_pay137, k0_pay138, k0_pay139, k0_pay140, k0_pay141, k0_pay142, k0_pay143, k0_pay144,
        k0_pay145, k0_pay146, k0_pay147, k0_pay148, k0_pay149, k0_pay1]
      all_goals simp (disch := decide) only [readCov_miss, readCov_base]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
    all_goals rfl

end Cert.KernelIdeal.Gen

end
-- ==== Proof.KernelRun.RunC.lean ====
module

public import proofs.«01_k».proof.Proof.KernelRun.Step

/-! A step that ends a group of four: the finished scales go out. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_C (h1 : ¬isFirst (grid0.coords t)) (h2 : ¬startsBlock (grid0.coords t)) (h3 : k0_cond3 (grid0.coords t) = 1#1) (h4 : k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 x5 x8) (codesOf x0 x1 x2 x3) (sbOut (sbufMix (t.val % 4) (sbTiles x0 x2 x3) x9)) (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    funext y
    refine View.read_writes_apply_of_pieces _ _ (dwOf (arg5.view.read (Elt F) f4) (arg6.view.read (Elt F) f5) (arg9.view.read (Elt F) f8)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, View.readAt_eq_ld, ld_st0, ld_st1, ld_rot, ld_vt, ld_src, ld_x00,
        ld_x01, ld_x02, ld_x03, ld_x10, ld_x11, ld_x12, ld_x13, k0_pay7, k0_pay8, k0_pay9, k0_pay10, k0_pay11, k0_pay12, k0_pay13,
        k0_pay14, k0_pay15, k0_pay16, k0_pay17, k0_pay18, k0_pay19, k0_pay20, k0_pay21, k0_pay22, k0_pay23, k0_pay24, k0_pay25, k0_pay26,
        k0_pay27, k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51, k0_pay52,
        k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114,
        k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147,
        k0_pay148, k0_pay149, k0_pay1]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    have hd : arg10.view.read (Elt F) (arg10.view.writes (Elt F) f9 (run_C.sl.H9_8 c t arg1 arg3 arg4 f0 f2 f3)) = sbufMix (t.val % 4) (sbTiles (arg1.view.read (Elt F) f0) (arg3.view.read (Elt F) f2) (arg4.view.read (Elt F) f3)) (arg10.view.read (Elt F) f9) := by
      dsimp only [run_C.sl.H9_8]
      refine sbuf_tiles _ _ (t.val % 4) (Nat.mod_lt _ (by decide)) (sbTiles (arg1.view.read (Elt F) f0) (arg3.view.read (Elt F) f2) (arg4.view.read (Elt F) f3))
        _ (off4_eq t).2 _ ?_
        _ (off4_eq t).1 _ ?_
        _ (off3_eq t).2 _ ?_
        _ (off3_eq t).1 _ ?_
        _ (off2_eq t).2 _ ?_
        _ (off2_eq t).1 _ ?_
        _ (off1_eq t).2 _ ?_
        _ (off1_eq t).1 _ ?_
      all_goals dsimp only [run_C.sl.cst_76, run_C.sl.cst_173, run_C.sl.cst_192, run_C.sl.cst_303, run_C.sl.cst_446, run_C.sl.cst_539,
          run_C.sl.cst_571, run_C.sl.r, run_C.sl.r_1, run_C.sl.r_2, run_C.sl.r_3, run_C.sl.r_4, run_C.sl.r_5, run_C.sl.r_6, run_C.sl.r_7,
          run_C.sl.r_8, run_C.sl.r_9, run_C.sl.r_10, run_C.sl.r_11, run_C.sl.r_12, run_C.sl.r_13, run_C.sl.r_14, run_C.sl.r_15,
          run_C.sl.r_16, run_C.sl.r_17, run_C.sl.r_18, run_C.sl.r_19, run_C.sl.r_20, run_C.sl.r_21, run_C.sl.r_22, run_C.sl.r_23,
          run_C.sl.r_24, run_C.sl.r_25, run_C.sl.r_26, run_C.sl.r_27, run_C.sl.r_28, run_C.sl.r_29, run_C.sl.r_30, run_C.sl.r_31,
          run_C.sl.r_32, run_C.sl.r_33, run_C.sl.r_34, run_C.sl.r_35, run_C.sl.r_36, run_C.sl.r_37, run_C.sl.r_38, run_C.sl.r_39,
          run_C.sl.r_40, run_C.sl.r_41, run_C.sl.r_42, run_C.sl.r_43, run_C.sl.r_44, run_C.sl.r_45, run_C.sl.r_46, run_C.sl.r_47,
          run_C.sl.r_48, run_C.sl.r_49, run_C.sl.r_50, run_C.sl.r_51, run_C.sl.r_52, run_C.sl.r_53, run_C.sl.r_54, run_C.sl.r_55,
          run_C.sl.r_56, run_C.sl.r_57, run_C.sl.r_58, run_C.sl.r_59, run_C.sl.r_60, run_C.sl.r_61, run_C.sl.r_62, run_C.sl.r_63,
          run_C.sl.r_64, run_C.sl.r_65, run_C.sl.r_66, run_C.sl.r_67, run_C.sl.r_68, run_C.sl.r_69, run_C.sl.r_70, run_C.sl.r_71,
          run_C.sl.r_72, run_C.sl.r_73, run_C.sl.r_74, run_C.sl.r_75, run_C.sl.r_76, run_C.sl.r_77, run_C.sl.r_78, run_C.sl.r_79,
          run_C.sl.r_80, run_C.sl.r_81, run_C.sl.r_82, run_C.sl.r_83, run_C.sl.r_84, run_C.sl.r_85, run_C.sl.r_86, run_C.sl.r_87,
          run_C.sl.r_88, run_C.sl.r_89, run_C.sl.r_90, run_C.sl.r_91, run_C.sl.r_92, run_C.sl.r_93, run_C.sl.r_94, run_C.sl.r_95,
          run_C.sl.r_96, run_C.sl.r_97, run_C.sl.r_98, run_C.sl.r_99, run_C.sl.r_100, run_C.sl.r_101, run_C.sl.r_102, run_C.sl.r_103,
          run_C.sl.r_104, run_C.sl.r_105, run_C.sl.v2, run_C.sl.v3, run_C.sl.v4, run_C.sl.v6, run_C.sl.v7, run_C.sl.v8, run_C.sl.v9,
          run_C.sl.v10, run_C.sl.v11, run_C.sl.v14, run_C.sl.v15, run_C.sl.v16, run_C.sl.v18, run_C.sl.v19, run_C.sl.v20, run_C.sl.v21,
          run_C.sl.v22, run_C.sl.v23, run_C.sl.v24, run_C.sl.v25, run_C.sl.v27, run_C.sl.v28, run_C.sl.v29, run_C.sl.v32, run_C.sl.v33,
          run_C.sl.v34, run_C.sl.v36, run_C.sl.v37, run_C.sl.v38, run_C.sl.v39, run_C.sl.v40, run_C.sl.v395, run_C.sl.v399, run_C.sl.v749,
          run_C.sl.v753, run_C.sl.v890, run_C.sl.v891, run_C.sl.v892, run_C.sl.v893, run_C.sl.v894, run_C.sl.v895, run_C.sl.v896,
          run_C.sl.v897, run_C.sl.v898, run_C.sl.v899, run_C.sl.v900, run_C.sl.v902, run_C.sl.v904, run_C.sl.v905, run_C.sl.v906,
          run_C.sl.v907, run_C.sl.v908, run_C.sl.v909, run_C.sl.v910, run_C.sl.v912, run_C.sl.v913, run_C.sl.v914, run_C.sl.v915,
          run_C.sl.v916, run_C.sl.v917, run_C.sl.v918, run_C.sl.v919, run_C.sl.v920, run_C.sl.v921, run_C.sl.v922, run_C.sl.v923,
          run_C.sl.v924, run_C.sl.v925, run_C.sl.v926, run_C.sl.v927, run_C.sl.v928, run_C.sl.v931, run_C.sl.v1057, run_C.sl.v1058,
          run_C.sl.v1059, run_C.sl.v1060, run_C.sl.v1061, run_C.sl.v1063, run_C.sl.v1064, run_C.sl.v1066, run_C.sl.v1067, run_C.sl.v1069,
          run_C.sl.v1070, run_C.sl.v1071, run_C.sl.v1073, run_C.sl.v1075, run_C.sl.v1077, run_C.sl.v1078, run_C.sl.v1080, run_C.sl.v1081,
          run_C.sl.v1083, run_C.sl.v1085, run_C.sl.v1086, run_C.sl.v1087, run_C.sl.v1088, run_C.sl.v1089, run_C.sl.v1090, run_C.sl.v1100,
          run_C.sl.v1101, run_C.sl.v1103, run_C.sl.v1107, run_C.sl.v1478, codesT, valsT, nibT, vT, mT, sbT, sbTiles, View.readAt_eq_ld,
          ld_st0, ld_st1, ld_rot, ld_vt, ld_src, ld_x00, ld_x01, ld_x02, ld_x03, ld_x10, ld_x11, ld_x12, ld_x13, k0_pay6, k0_pay7, k0_pay8,
          k0_pay9, k0_pay10, k0_pay11, k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31, k0_pay32, k0_pay33, k0_pay34,
          k0_pay35, k0_pay36, k0_pay37, k0_pay38, k0_pay39, k0_pay40, k0_pay41, k0_pay42, k0_pay43, k0_pay44, k0_pay45, k0_pay46, k0_pay47,
          k0_pay48, k0_pay49, k0_pay50, k0_pay51, k0_pay52, k0_pay53, k0_pay54, k0_pay55, k0_pay56, k0_pay57, k0_pay58, k0_pay59, k0_pay60,
          k0_pay61, k0_pay62, k0_pay63, k0_pay64, k0_pay65, k0_pay66, k0_pay67, k0_pay68, k0_pay69, k0_pay70, k0_pay71, k0_pay72, k0_pay73,
          k0_pay74, k0_pay75, k0_pay76, k0_pay77, k0_pay78, k0_pay79, k0_pay80, k0_pay81, k0_pay82, k0_pay83, k0_pay84, k0_pay85, k0_pay86,
          k0_pay87, k0_pay88, k0_pay89, k0_pay90, k0_pay91, k0_pay92, k0_pay93, k0_pay94, k0_pay95, k0_pay96, k0_pay97, k0_pay98, k0_pay99,
          k0_pay100, k0_pay101, k0_pay102, k0_pay103, k0_pay104, k0_pay105, k0_pay106, k0_pay107, k0_pay108, k0_pay109, k0_pay110,
          k0_pay111, k0_pay112, k0_pay113, k0_pay114, k0_pay115, k0_pay116, k0_pay117, k0_pay118, k0_pay119, k0_pay120, k0_pay121,
          k0_pay122, k0_pay123, k0_pay124, k0_pay125, k0_pay126, k0_pay127, k0_pay128, k0_pay129, k0_pay130, k0_pay131, k0_pay132,
          k0_pay133, k0_pay134, k0_pay135, k0_pay136, k0_pay137, k0_pay138, k0_pay139, k0_pay140, k0_pay141, k0_pay142, k0_pay143,
          k0_pay144, k0_pay145, k0_pay146, k0_pay147, k0_pay148, k0_pay149, k0_pay1]
      all_goals rfl
    refine (View.read_writes_full _ _ _ _ _).trans ?_
    dsimp only [run_C.sl.v1478, View.readAt_eq_ld, sbOut]
    rw [hd]
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
    all_goals rfl

end Cert.KernelIdeal.Gen

end
-- ==== Proof.KernelRun.RunD.lean ====
module

public import proofs.«01_k».proof.Proof.KernelRun.Step

/-! The last multiplying step of a column block but the last: the accumulator is scaled by the two tensor scales. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_D (h1 : ¬isFirst (grid0.coords t)) (h2 : ¬startsBlock (grid0.coords t)) (h3 : k0_cond3 (grid0.coords t) = 1#1) (h4 : ¬k0_cond4 (grid0.coords t) = 1#1) (h5 : endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwEnd x0 (dwOf x4 x5 x8)) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    have hd : ∀ f, arg6.view.read (Elt F) (arg6.view.writes (Elt F) f (run_D.sl.H5_4 c arg5 arg6 arg9 f4 f5 f8)) = dwOf (arg5.view.read (Elt F) f4) (arg6.view.read (Elt F) f5) (arg9.view.read (Elt F) f8) := by
      intro f; funext y
      dsimp only [run_D.sl.H5_4]
      refine View.read_writes_apply_of_pieces _ _ (dwOf (arg5.view.read (Elt F) f4) (arg6.view.read (Elt F) f5) (arg9.view.read (Elt F) f8)) _ ?_ y ?_
      · simp only [List.forall_mem_cons, List.not_mem_nil, false_imp_iff, implies_true, _root_.and_true]
        refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
        all_goals dsimp only [run_D.sl.cst_76, run_D.sl.cst_173, run_D.sl.cst_192, run_D.sl.cst_303, run_D.sl.cst_446, run_D.sl.cst_539,
          run_D.sl.cst_571, run_D.sl.r, run_D.sl.r_1, run_D.sl.r_2, run_D.sl.r_3, run_D.sl.r_4, run_D.sl.r_5, run_D.sl.r_6, run_D.sl.r_7,
          run_D.sl.r_8, run_D.sl.r_9, run_D.sl.r_10, run_D.sl.r_11, run_D.sl.r_12, run_D.sl.r_13, run_D.sl.r_14, run_D.sl.r_15,
          run_D.sl.r_16, run_D.sl.r_17, run_D.sl.r_18, run_D.sl.r_19, run_D.sl.r_20, run_D.sl.r_21, run_D.sl.r_22, run_D.sl.r_23,
          run_D.sl.r_24, run_D.sl.r_25, run_D.sl.r_26, run_D.sl.r_27, run_D.sl.r_28, run_D.sl.r_29, run_D.sl.r_30, run_D.sl.r_31,
          run_D.sl.r_32, run_D.sl.r_33, run_D.sl.r_34, run_D.sl.r_35, run_D.sl.r_36, run_D.sl.r_37, run_D.sl.r_38, run_D.sl.r_39,
          run_D.sl.r_40, run_D.sl.r_41, run_D.sl.r_42, run_D.sl.r_43, run_D.sl.r_44, run_D.sl.r_45, run_D.sl.r_46, run_D.sl.r_47,
          run_D.sl.r_48, run_D.sl.r_49, run_D.sl.r_50, run_D.sl.r_51, run_D.sl.r_52, run_D.sl.r_53, run_D.sl.r_54, run_D.sl.r_55,
          run_D.sl.r_56, run_D.sl.r_57, run_D.sl.r_58, run_D.sl.r_59, run_D.sl.r_60, run_D.sl.r_61, run_D.sl.r_62, run_D.sl.r_63,
          run_D.sl.r_64, run_D.sl.r_65, run_D.sl.r_66, run_D.sl.r_67, run_D.sl.r_68, run_D.sl.r_69, run_D.sl.r_70, run_D.sl.r_71,
          run_D.sl.r_72, run_D.sl.r_73, run_D.sl.r_74, run_D.sl.r_75, run_D.sl.r_76, run_D.sl.r_77, run_D.sl.r_78, run_D.sl.r_79,
          run_D.sl.r_80, run_D.sl.r_81, run_D.sl.r_82, run_D.sl.r_83, run_D.sl.r_84, run_D.sl.r_85, run_D.sl.r_86, run_D.sl.r_87,
          run_D.sl.r_88, run_D.sl.r_89, run_D.sl.r_90, run_D.sl.r_91, run_D.sl.r_92, run_D.sl.r_93, run_D.sl.r_94, run_D.sl.r_95,
          run_D.sl.r_96, run_D.sl.r_97, run_D.sl.r_98, run_D.sl.r_99, run_D.sl.r_100, run_D.sl.r_101, run_D.sl.r_102, run_D.sl.r_103,
          run_D.sl.r_104, run_D.sl.r_105, run_D.sl.r_106, run_D.sl.r_107, run_D.sl.v2, run_D.sl.v3, run_D.sl.v4, run_D.sl.v6, run_D.sl.v7,
          run_D.sl.v8, run_D.sl.v9, run_D.sl.v10, run_D.sl.v11, run_D.sl.v14, run_D.sl.v15, run_D.sl.v16, run_D.sl.v18, run_D.sl.v19,
          run_D.sl.v20, run_D.sl.v21, run_D.sl.v22, run_D.sl.v23, run_D.sl.v24, run_D.sl.v25, run_D.sl.v27, run_D.sl.v28, run_D.sl.v29,
          run_D.sl.v32, run_D.sl.v33, run_D.sl.v34, run_D.sl.v36, run_D.sl.v37, run_D.sl.v38, run_D.sl.v39, run_D.sl.v40, run_D.sl.v395,
          run_D.sl.v399, run_D.sl.v749, run_D.sl.v753, run_D.sl.v890, run_D.sl.v891, run_D.sl.v892, run_D.sl.v893, run_D.sl.v894,
          run_D.sl.v895, run_D.sl.v896, run_D.sl.v897, run_D.sl.v898, run_D.sl.v899, run_D.sl.v900, run_D.sl.v902, run_D.sl.v904,
          run_D.sl.v905, run_D.sl.v906, run_D.sl.v907, run_D.sl.v908, run_D.sl.v909, run_D.sl.v910, run_D.sl.v912, run_D.sl.v913,
          run_D.sl.v914, run_D.sl.v915, run_D.sl.v916, run_D.sl.v917, run_D.sl.v918, run_D.sl.v919, run_D.sl.v920, run_D.sl.v921,
          run_D.sl.v922, run_D.sl.v923, run_D.sl.v924, run_D.sl.v925, run_D.sl.v926, run_D.sl.v927, run_D.sl.v928, run_D.sl.v931,
          run_D.sl.v1057, run_D.sl.v1058, run_D.sl.v1059, run_D.sl.v1060, run_D.sl.v1061, run_D.sl.v1063, run_D.sl.v1064, run_D.sl.v1066,
          run_D.sl.v1067, run_D.sl.v1069, run_D.sl.v1070, run_D.sl.v1071, run_D.sl.v1073, run_D.sl.v1075, run_D.sl.v1077, run_D.sl.v1078,
          run_D.sl.v1080, run_D.sl.v1081, run_D.sl.v1083, run_D.sl.v1085, run_D.sl.v1086, run_D.sl.v1087, run_D.sl.v1088, run_D.sl.v1089,
          run_D.sl.v1090, run_D.sl.v1100, run_D.sl.v1101, run_D.sl.v1103, run_D.sl.v1107, run_D.sl.v1465, View.readAt_eq_ld, ld_st0, ld_st1,
          ld_rot, ld_vt, ld_src, ld_x00, ld_x01, ld_x02, ld_x03, ld_x10, ld_x11, ld_x12, ld_x13, k0_pay7, k0_pay8, k0_pay9, k0_pay10,
          k0_pay11, k0_pay12, k0_pay13, k0_pay14, k0_pay15, k0_pay16, k0_pay17, k0_pay18, k0_pay19, k0_pay20, k0_pay21, k0_pay22, k0_pay23,
          k0_pay24, k0_pay25, k0_pay26, k0_pay27, k0_pay28, k0_pay29, k0_pay30, k0_pay31, k0_pay32, k0_pay33, k0_pay34, k0_pay35, k0_pay36,
          k0_pay37, k0_pay38, k0_pay39, k0_pay40, k0_pay41, k0_pay42, k0_pay43, k0_pay44, k0_pay45, k0_pay46, k0_pay47, k0_pay48, k0_pay49,
          k0_pay50, k0_pay51, k0_pay52, k0_pay53, k0_pay54, k0_pay55, k0_pay56, k0_pay57, k0_pay58, k0_pay59, k0_pay60, k0_pay61, k0_pay62,
          k0_pay63, k0_pay64, k0_pay65, k0_pay66, k0_pay67, k0_pay68, k0_pay69, k0_pay70, k0_pay71, k0_pay72, k0_pay73, k0_pay74, k0_pay75,
          k0_pay76, k0_pay77, k0_pay78, k0_pay79, k0_pay80, k0_pay81, k0_pay82, k0_pay83, k0_pay84, k0_pay85, k0_pay86, k0_pay87, k0_pay88,
          k0_pay89, k0_pay90, k0_pay91, k0_pay92, k0_pay93, k0_pay94, k0_pay95, k0_pay96, k0_pay97, k0_pay98, k0_pay99, k0_pay100,
          k0_pay101, k0_pay102, k0_pay103, k0_pay104, k0_pay105, k0_pay106, k0_pay107, k0_pay108, k0_pay109, k0_pay110, k0_pay111,
          k0_pay112, k0_pay113, k0_pay114, k0_pay115, k0_pay116, k0_pay117, k0_pay118, k0_pay119, k0_pay120, k0_pay121, k0_pay122,
          k0_pay123, k0_pay124, k0_pay125, k0_pay126, k0_pay127, k0_pay128, k0_pay129, k0_pay130, k0_pay131, k0_pay132, k0_pay133,
          k0_pay134, k0_pay135, k0_pay136, k0_pay137, k0_pay138, k0_pay139, k0_pay140, k0_pay141, k0_pay142, k0_pay143, k0_pay144,
          k0_pay145, k0_pay146, k0_pay147, k0_pay148, k0_pay149, k0_pay1]
        all_goals rfl
      · exact View.cover_of_tiled _ (![2816, 256] : Fin 2 → ℕ) (by rfl) y
    refine (View.read_writes_full _ _ _ _ _).trans ?_
    dsimp only [run_D.sl.r_106, run_D.sl.r_107, run_D.sl.v1465, View.readAt_eq_ld, dwEnd]
    rw [readCov_all _ _ _ hd]
    rfl
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_D.sl.H5_4, run_D.sl.cst_76, run_D.sl.cst_173, run_D.sl.cst_192, run_D.sl.cst_303, run_D.sl.cst_446, run_D.sl.cst_539,
        run_D.sl.cst_571, run_D.sl.r, run_D.sl.r_1, run_D.sl.r_2, run_D.sl.r_3, run_D.sl.r_4, run_D.sl.r_5, run_D.sl.r_6, run_D.sl.r_7,
        run_D.sl.r_8, run_D.sl.r_9, run_D.sl.r_10, run_D.sl.r_11, run_D.sl.r_12, run_D.sl.r_13, run_D.sl.r_14, run_D.sl.r_15,
        run_D.sl.r_16, run_D.sl.r_17, run_D.sl.r_18, run_D.sl.r_19, run_D.sl.r_20, run_D.sl.r_21, run_D.sl.r_22, run_D.sl.r_23,
        run_D.sl.r_24, run_D.sl.r_25, run_D.sl.r_26, run_D.sl.r_27, run_D.sl.r_28, run_D.sl.r_29, run_D.sl.r_30, run_D.sl.r_31,
        run_D.sl.r_32, run_D.sl.r_33, run_D.sl.r_34, run_D.sl.r_35, run_D.sl.r_36, run_D.sl.r_37, run_D.sl.r_38, run_D.sl.r_39,
        run_D.sl.r_40, run_D.sl.r_41, run_D.sl.r_42, run_D.sl.r_43, run_D.sl.r_44, run_D.sl.r_45, run_D.sl.r_46, run_D.sl.r_47,
        run_D.sl.r_48, run_D.sl.r_49, run_D.sl.r_50, run_D.sl.r_51, run_D.sl.r_52, run_D.sl.r_53, run_D.sl.r_54, run_D.sl.r_55,
        run_D.sl.r_56, run_D.sl.r_57, run_D.sl.r_58, run_D.sl.r_59, run_D.sl.r_60, run_D.sl.r_61, run_D.sl.r_62, run_D.sl.r_63,
        run_D.sl.r_64, run_D.sl.r_65, run_D.sl.r_66, run_D.sl.r_67, run_D.sl.r_68, run_D.sl.r_69, run_D.sl.r_70, run_D.sl.r_71,
        run_D.sl.r_72, run_D.sl.r_73, run_D.sl.r_74, run_D.sl.r_75, run_D.sl.r_76, run_D.sl.r_77, run_D.sl.r_78, run_D.sl.r_79,
        run_D.sl.r_80, run_D.sl.r_81, run_D.sl.r_82, run_D.sl.r_83, run_D.sl.r_84, run_D.sl.r_85, run_D.sl.r_86, run_D.sl.r_87,
        run_D.sl.r_88, run_D.sl.r_89, run_D.sl.r_90, run_D.sl.r_91, run_D.sl.r_92, run_D.sl.r_93, run_D.sl.r_94, run_D.sl.r_95,
        run_D.sl.r_96, run_D.sl.r_97, run_D.sl.r_98, run_D.sl.r_99, run_D.sl.r_100, run_D.sl.r_101, run_D.sl.r_102, run_D.sl.r_103,
        run_D.sl.r_104, run_D.sl.r_105, run_D.sl.r_106, run_D.sl.r_107, run_D.sl.v2, run_D.sl.v3, run_D.sl.v4, run_D.sl.v6, run_D.sl.v7,
        run_D.sl.v8, run_D.sl.v9, run_D.sl.v10, run_D.sl.v11, run_D.sl.v14, run_D.sl.v15, run_D.sl.v16, run_D.sl.v18, run_D.sl.v19,
        run_D.sl.v20, run_D.sl.v21, run_D.sl.v22, run_D.sl.v23, run_D.sl.v24, run_D.sl.v25, run_D.sl.v27, run_D.sl.v28, run_D.sl.v29,
        run_D.sl.v32, run_D.sl.v33, run_D.sl.v34, run_D.sl.v36, run_D.sl.v37, run_D.sl.v38, run_D.sl.v39, run_D.sl.v40, run_D.sl.v395,
        run_D.sl.v399, run_D.sl.v749, run_D.sl.v753, run_D.sl.v890, run_D.sl.v891, run_D.sl.v892, run_D.sl.v893, run_D.sl.v894,
        run_D.sl.v895, run_D.sl.v896, run_D.sl.v897, run_D.sl.v898, run_D.sl.v899, run_D.sl.v900, run_D.sl.v902, run_D.sl.v904,
        run_D.sl.v905, run_D.sl.v906, run_D.sl.v907, run_D.sl.v908, run_D.sl.v909, run_D.sl.v910, run_D.sl.v912, run_D.sl.v913,
        run_D.sl.v914, run_D.sl.v915, run_D.sl.v916, run_D.sl.v917, run_D.sl.v918, run_D.sl.v919, run_D.sl.v920, run_D.sl.v921,
        run_D.sl.v922, run_D.sl.v923, run_D.sl.v924, run_D.sl.v925, run_D.sl.v926, run_D.sl.v927, run_D.sl.v928, run_D.sl.v931,
        run_D.sl.v1057, run_D.sl.v1058, run_D.sl.v1059, run_D.sl.v1060, run_D.sl.v1061, run_D.sl.v1063, run_D.sl.v1064, run_D.sl.v1066,
        run_D.sl.v1067, run_D.sl.v1069, run_D.sl.v1070, run_D.sl.v1071, run_D.sl.v1073, run_D.sl.v1075, run_D.sl.v1077, run_D.sl.v1078,
        run_D.sl.v1080, run_D.sl.v1081, run_D.sl.v1083, run_D.sl.v1085, run_D.sl.v1086, run_D.sl.v1087, run_D.sl.v1088, run_D.sl.v1089,
        run_D.sl.v1090, run_D.sl.v1100, run_D.sl.v1101, run_D.sl.v1103, run_D.sl.v1107, run_D.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_D.sl.H5_4, run_D.sl.cst_76, run_D.sl.cst_173, run_D.sl.cst_192, run_D.sl.cst_303, run_D.sl.cst_446, run_D.sl.cst_539,
        run_D.sl.cst_571, run_D.sl.r, run_D.sl.r_1, run_D.sl.r_2, run_D.sl.r_3, run_D.sl.r_4, run_D.sl.r_5, run_D.sl.r_6, run_D.sl.r_7,
        run_D.sl.r_8, run_D.sl.r_9, run_D.sl.r_10, run_D.sl.r_11, run_D.sl.r_12, run_D.sl.r_13, run_D.sl.r_14, run_D.sl.r_15,
        run_D.sl.r_16, run_D.sl.r_17, run_D.sl.r_18, run_D.sl.r_19, run_D.sl.r_20, run_D.sl.r_21, run_D.sl.r_22, run_D.sl.r_23,
        run_D.sl.r_24, run_D.sl.r_25, run_D.sl.r_26, run_D.sl.r_27, run_D.sl.r_28, run_D.sl.r_29, run_D.sl.r_30, run_D.sl.r_31,
        run_D.sl.r_32, run_D.sl.r_33, run_D.sl.r_34, run_D.sl.r_35, run_D.sl.r_36, run_D.sl.r_37, run_D.sl.r_38, run_D.sl.r_39,
        run_D.sl.r_40, run_D.sl.r_41, run_D.sl.r_42, run_D.sl.r_43, run_D.sl.r_44, run_D.sl.r_45, run_D.sl.r_46, run_D.sl.r_47,
        run_D.sl.r_48, run_D.sl.r_49, run_D.sl.r_50, run_D.sl.r_51, run_D.sl.r_52, run_D.sl.r_53, run_D.sl.r_54, run_D.sl.r_55,
        run_D.sl.r_56, run_D.sl.r_57, run_D.sl.r_58, run_D.sl.r_59, run_D.sl.r_60, run_D.sl.r_61, run_D.sl.r_62, run_D.sl.r_63,
        run_D.sl.r_64, run_D.sl.r_65, run_D.sl.r_66, run_D.sl.r_67, run_D.sl.r_68, run_D.sl.r_69, run_D.sl.r_70, run_D.sl.r_71,
        run_D.sl.r_72, run_D.sl.r_73, run_D.sl.r_74, run_D.sl.r_75, run_D.sl.r_76, run_D.sl.r_77, run_D.sl.r_78, run_D.sl.r_79,
        run_D.sl.r_80, run_D.sl.r_81, run_D.sl.r_82, run_D.sl.r_83, run_D.sl.r_84, run_D.sl.r_85, run_D.sl.r_86, run_D.sl.r_87,
        run_D.sl.r_88, run_D.sl.r_89, run_D.sl.r_90, run_D.sl.r_91, run_D.sl.r_92, run_D.sl.r_93, run_D.sl.r_94, run_D.sl.r_95,
        run_D.sl.r_96, run_D.sl.r_97, run_D.sl.r_98, run_D.sl.r_99, run_D.sl.r_100, run_D.sl.r_101, run_D.sl.r_102, run_D.sl.r_103,
        run_D.sl.r_104, run_D.sl.r_105, run_D.sl.r_106, run_D.sl.r_107, run_D.sl.v2, run_D.sl.v3, run_D.sl.v4, run_D.sl.v6, run_D.sl.v7,
        run_D.sl.v8, run_D.sl.v9, run_D.sl.v10, run_D.sl.v11, run_D.sl.v14, run_D.sl.v15, run_D.sl.v16, run_D.sl.v18, run_D.sl.v19,
        run_D.sl.v20, run_D.sl.v21, run_D.sl.v22, run_D.sl.v23, run_D.sl.v24, run_D.sl.v25, run_D.sl.v27, run_D.sl.v28, run_D.sl.v29,
        run_D.sl.v32, run_D.sl.v33, run_D.sl.v34, run_D.sl.v36, run_D.sl.v37, run_D.sl.v38, run_D.sl.v39, run_D.sl.v40, run_D.sl.v395,
        run_D.sl.v399, run_D.sl.v749, run_D.sl.v753, run_D.sl.v890, run_D.sl.v891, run_D.sl.v892, run_D.sl.v893, run_D.sl.v894,
        run_D.sl.v895, run_D.sl.v896, run_D.sl.v897, run_D.sl.v898, run_D.sl.v899, run_D.sl.v900, run_D.sl.v902, run_D.sl.v904,
        run_D.sl.v905, run_D.sl.v906, run_D.sl.v907, run_D.sl.v908, run_D.sl.v909, run_D.sl.v910, run_D.sl.v912, run_D.sl.v913,
        run_D.sl.v914, run_D.sl.v915, run_D.sl.v916, run_D.sl.v917, run_D.sl.v918, run_D.sl.v919, run_D.sl.v920, run_D.sl.v921,
        run_D.sl.v922, run_D.sl.v923, run_D.sl.v924, run_D.sl.v925, run_D.sl.v926, run_D.sl.v927, run_D.sl.v928, run_D.sl.v931,
        run_D.sl.v1057, run_D.sl.v1058, run_D.sl.v1059, run_D.sl.v1060, run_D.sl.v1061, run_D.sl.v1063, run_D.sl.v1064, run_D.sl.v1066,
        run_D.sl.v1067, run_D.sl.v1069, run_D.sl.v1070, run_D.sl.v1071, run_D.sl.v1073, run_D.sl.v1075, run_D.sl.v1077, run_D.sl.v1078,
        run_D.sl.v1080, run_D.sl.v1081, run_D.sl.v1083, run_D.sl.v1085, run_D.sl.v1086, run_D.sl.v1087, run_D.sl.v1088, run_D.sl.v1089,
        run_D.sl.v1090, run_D.sl.v1100, run_D.sl.v1101, run_D.sl.v1103, run_D.sl.v1107, run_D.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_D.sl.H5_4, run_D.sl.cst_76, run_D.sl.cst_173, run_D.sl.cst_192, run_D.sl.cst_303, run_D.sl.cst_446, run_D.sl.cst_539,
        run_D.sl.cst_571, run_D.sl.r, run_D.sl.r_1, run_D.sl.r_2, run_D.sl.r_3, run_D.sl.r_4, run_D.sl.r_5, run_D.sl.r_6, run_D.sl.r_7,
        run_D.sl.r_8, run_D.sl.r_9, run_D.sl.r_10, run_D.sl.r_11, run_D.sl.r_12, run_D.sl.r_13, run_D.sl.r_14, run_D.sl.r_15,
        run_D.sl.r_16, run_D.sl.r_17, run_D.sl.r_18, run_D.sl.r_19, run_D.sl.r_20, run_D.sl.r_21, run_D.sl.r_22, run_D.sl.r_23,
        run_D.sl.r_24, run_D.sl.r_25, run_D.sl.r_26, run_D.sl.r_27, run_D.sl.r_28, run_D.sl.r_29, run_D.sl.r_30, run_D.sl.r_31,
        run_D.sl.r_32, run_D.sl.r_33, run_D.sl.r_34, run_D.sl.r_35, run_D.sl.r_36, run_D.sl.r_37, run_D.sl.r_38, run_D.sl.r_39,
        run_D.sl.r_40, run_D.sl.r_41, run_D.sl.r_42, run_D.sl.r_43, run_D.sl.r_44, run_D.sl.r_45, run_D.sl.r_46, run_D.sl.r_47,
        run_D.sl.r_48, run_D.sl.r_49, run_D.sl.r_50, run_D.sl.r_51, run_D.sl.r_52, run_D.sl.r_53, run_D.sl.r_54, run_D.sl.r_55,
        run_D.sl.r_56, run_D.sl.r_57, run_D.sl.r_58, run_D.sl.r_59, run_D.sl.r_60, run_D.sl.r_61, run_D.sl.r_62, run_D.sl.r_63,
        run_D.sl.r_64, run_D.sl.r_65, run_D.sl.r_66, run_D.sl.r_67, run_D.sl.r_68, run_D.sl.r_69, run_D.sl.r_70, run_D.sl.r_71,
        run_D.sl.r_72, run_D.sl.r_73, run_D.sl.r_74, run_D.sl.r_75, run_D.sl.r_76, run_D.sl.r_77, run_D.sl.r_78, run_D.sl.r_79,
        run_D.sl.r_80, run_D.sl.r_81, run_D.sl.r_82, run_D.sl.r_83, run_D.sl.r_84, run_D.sl.r_85, run_D.sl.r_86, run_D.sl.r_87,
        run_D.sl.r_88, run_D.sl.r_89, run_D.sl.r_90, run_D.sl.r_91, run_D.sl.r_92, run_D.sl.r_93, run_D.sl.r_94, run_D.sl.r_95,
        run_D.sl.r_96, run_D.sl.r_97, run_D.sl.r_98, run_D.sl.r_99, run_D.sl.r_100, run_D.sl.r_101, run_D.sl.r_102, run_D.sl.r_103,
        run_D.sl.r_104, run_D.sl.r_105, run_D.sl.r_106, run_D.sl.r_107, run_D.sl.v2, run_D.sl.v3, run_D.sl.v4, run_D.sl.v6, run_D.sl.v7,
        run_D.sl.v8, run_D.sl.v9, run_D.sl.v10, run_D.sl.v11, run_D.sl.v14, run_D.sl.v15, run_D.sl.v16, run_D.sl.v18, run_D.sl.v19,
        run_D.sl.v20, run_D.sl.v21, run_D.sl.v22, run_D.sl.v23, run_D.sl.v24, run_D.sl.v25, run_D.sl.v27, run_D.sl.v28, run_D.sl.v29,
        run_D.sl.v32, run_D.sl.v33, run_D.sl.v34, run_D.sl.v36, run_D.sl.v37, run_D.sl.v38, run_D.sl.v39, run_D.sl.v40, run_D.sl.v395,
        run_D.sl.v399, run_D.sl.v749, run_D.sl.v753, run_D.sl.v890, run_D.sl.v891, run_D.sl.v892, run_D.sl.v893, run_D.sl.v894,
        run_D.sl.v895, run_D.sl.v896, run_D.sl.v897, run_D.sl.v898, run_D.sl.v899, run_D.sl.v900, run_D.sl.v902, run_D.sl.v904,
        run_D.sl.v905, run_D.sl.v906, run_D.sl.v907, run_D.sl.v908, run_D.sl.v909, run_D.sl.v910, run_D.sl.v912, run_D.sl.v913,
        run_D.sl.v914, run_D.sl.v915, run_D.sl.v916, run_D.sl.v917, run_D.sl.v918, run_D.sl.v919, run_D.sl.v920, run_D.sl.v921,
        run_D.sl.v922, run_D.sl.v923, run_D.sl.v924, run_D.sl.v925, run_D.sl.v926, run_D.sl.v927, run_D.sl.v928, run_D.sl.v931,
        run_D.sl.v1057, run_D.sl.v1058, run_D.sl.v1059, run_D.sl.v1060, run_D.sl.v1061, run_D.sl.v1063, run_D.sl.v1064, run_D.sl.v1066,
        run_D.sl.v1067, run_D.sl.v1069, run_D.sl.v1070, run_D.sl.v1071, run_D.sl.v1073, run_D.sl.v1075, run_D.sl.v1077, run_D.sl.v1078,
        run_D.sl.v1080, run_D.sl.v1081, run_D.sl.v1083, run_D.sl.v1085, run_D.sl.v1086, run_D.sl.v1087, run_D.sl.v1088, run_D.sl.v1089,
        run_D.sl.v1090, run_D.sl.v1100, run_D.sl.v1101, run_D.sl.v1103, run_D.sl.v1107, run_D.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
    all_goals rfl

end Cert.KernelIdeal.Gen

end
-- ==== Proof.KernelRun.RunE.lean ====
module

public import proofs.«01_k».proof.Proof.KernelRun.Step

/-! The last step: the accumulator is scaled by the two tensor scales. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_E (h1 : ¬isFirst (grid0.coords t)) (h2 : ¬startsBlock (grid0.coords t)) (h3 : ¬k0_cond3 (grid0.coords t) = 1#1) (h4 : ¬k0_cond4 (grid0.coords t) = 1#1) (h5 : endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwEnd x0 (dwOf x4 x5 x8)) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    have hd : ∀ f, arg6.view.read (Elt F) (arg6.view.writes (Elt F) f (run_E.sl.H5_4 c arg5 arg6 arg9 f4 f5 f8)) = dwOf (arg5.view.read (Elt F) f4) (arg6.view.read (Elt F) f5) (arg9.view.read (Elt F) f8) := by
      intro f; funext y
      dsimp only [run_E.sl.H5_4]
      refine View.read_writes_apply_of_pieces _ _ (dwOf (arg5.view.read (Elt F) f4) (arg6.view.read (Elt F) f5) (arg9.view.read (Elt F) f8)) _ ?_ y ?_
      · simp only [List.forall_mem_cons, List.not_mem_nil, false_imp_iff, implies_true, _root_.and_true]
        refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
        all_goals dsimp only [run_E.sl.cst_76, run_E.sl.cst_173, run_E.sl.cst_192, run_E.sl.cst_303, run_E.sl.cst_446, run_E.sl.cst_539,
          run_E.sl.cst_571, run_E.sl.r, run_E.sl.r_1, run_E.sl.r_2, run_E.sl.r_3, run_E.sl.r_4, run_E.sl.r_5, run_E.sl.r_6, run_E.sl.r_7,
          run_E.sl.r_8, run_E.sl.r_9, run_E.sl.r_10, run_E.sl.r_11, run_E.sl.r_12, run_E.sl.r_13, run_E.sl.r_14, run_E.sl.r_15,
          run_E.sl.r_16, run_E.sl.r_17, run_E.sl.r_18, run_E.sl.r_19, run_E.sl.r_20, run_E.sl.r_21, run_E.sl.r_22, run_E.sl.r_23,
          run_E.sl.r_24, run_E.sl.r_25, run_E.sl.r_26, run_E.sl.r_27, run_E.sl.r_28, run_E.sl.r_29, run_E.sl.r_30, run_E.sl.r_31,
          run_E.sl.r_32, run_E.sl.r_33, run_E.sl.r_34, run_E.sl.r_35, run_E.sl.r_36, run_E.sl.r_37, run_E.sl.r_38, run_E.sl.r_39,
          run_E.sl.r_40, run_E.sl.r_41, run_E.sl.r_42, run_E.sl.r_43, run_E.sl.r_44, run_E.sl.r_45, run_E.sl.r_46, run_E.sl.r_47,
          run_E.sl.r_48, run_E.sl.r_49, run_E.sl.r_50, run_E.sl.r_51, run_E.sl.r_52, run_E.sl.r_53, run_E.sl.r_54, run_E.sl.r_55,
          run_E.sl.r_56, run_E.sl.r_57, run_E.sl.r_58, run_E.sl.r_59, run_E.sl.r_60, run_E.sl.r_61, run_E.sl.r_62, run_E.sl.r_63,
          run_E.sl.r_64, run_E.sl.r_65, run_E.sl.r_66, run_E.sl.r_67, run_E.sl.r_68, run_E.sl.r_69, run_E.sl.r_70, run_E.sl.r_71,
          run_E.sl.r_72, run_E.sl.r_73, run_E.sl.r_74, run_E.sl.r_75, run_E.sl.r_76, run_E.sl.r_77, run_E.sl.r_78, run_E.sl.r_79,
          run_E.sl.r_80, run_E.sl.r_81, run_E.sl.r_82, run_E.sl.r_83, run_E.sl.r_84, run_E.sl.r_85, run_E.sl.r_86, run_E.sl.r_87,
          run_E.sl.r_88, run_E.sl.r_89, run_E.sl.r_90, run_E.sl.r_91, run_E.sl.r_92, run_E.sl.r_93, run_E.sl.r_94, run_E.sl.r_95,
          run_E.sl.r_96, run_E.sl.r_97, run_E.sl.r_98, run_E.sl.r_99, run_E.sl.r_100, run_E.sl.r_101, run_E.sl.r_102, run_E.sl.r_103,
          run_E.sl.r_104, run_E.sl.r_105, run_E.sl.r_106, run_E.sl.r_107, run_E.sl.v2, run_E.sl.v3, run_E.sl.v4, run_E.sl.v6, run_E.sl.v7,
          run_E.sl.v8, run_E.sl.v9, run_E.sl.v10, run_E.sl.v11, run_E.sl.v14, run_E.sl.v15, run_E.sl.v16, run_E.sl.v18, run_E.sl.v19,
          run_E.sl.v20, run_E.sl.v21, run_E.sl.v22, run_E.sl.v23, run_E.sl.v24, run_E.sl.v25, run_E.sl.v27, run_E.sl.v28, run_E.sl.v29,
          run_E.sl.v32, run_E.sl.v33, run_E.sl.v34, run_E.sl.v36, run_E.sl.v37, run_E.sl.v38, run_E.sl.v39, run_E.sl.v40, run_E.sl.v395,
          run_E.sl.v399, run_E.sl.v749, run_E.sl.v753, run_E.sl.v890, run_E.sl.v891, run_E.sl.v892, run_E.sl.v893, run_E.sl.v894,
          run_E.sl.v895, run_E.sl.v896, run_E.sl.v897, run_E.sl.v898, run_E.sl.v899, run_E.sl.v900, run_E.sl.v902, run_E.sl.v904,
          run_E.sl.v905, run_E.sl.v906, run_E.sl.v907, run_E.sl.v908, run_E.sl.v909, run_E.sl.v910, run_E.sl.v912, run_E.sl.v913,
          run_E.sl.v914, run_E.sl.v915, run_E.sl.v916, run_E.sl.v917, run_E.sl.v918, run_E.sl.v919, run_E.sl.v920, run_E.sl.v921,
          run_E.sl.v922, run_E.sl.v923, run_E.sl.v924, run_E.sl.v925, run_E.sl.v926, run_E.sl.v927, run_E.sl.v928, run_E.sl.v931,
          run_E.sl.v1057, run_E.sl.v1058, run_E.sl.v1059, run_E.sl.v1060, run_E.sl.v1061, run_E.sl.v1063, run_E.sl.v1064, run_E.sl.v1066,
          run_E.sl.v1067, run_E.sl.v1069, run_E.sl.v1070, run_E.sl.v1071, run_E.sl.v1073, run_E.sl.v1075, run_E.sl.v1077, run_E.sl.v1078,
          run_E.sl.v1080, run_E.sl.v1081, run_E.sl.v1083, run_E.sl.v1085, run_E.sl.v1086, run_E.sl.v1087, run_E.sl.v1088, run_E.sl.v1089,
          run_E.sl.v1090, run_E.sl.v1100, run_E.sl.v1101, run_E.sl.v1103, run_E.sl.v1107, run_E.sl.v1465, View.readAt_eq_ld, ld_st0, ld_st1,
          ld_rot, ld_vt, ld_src, ld_x00, ld_x01, ld_x02, ld_x03, ld_x10, ld_x11, ld_x12, ld_x13, k0_pay7, k0_pay8, k0_pay9, k0_pay10,
          k0_pay11, k0_pay12, k0_pay13, k0_pay14, k0_pay15, k0_pay16, k0_pay17, k0_pay18, k0_pay19, k0_pay20, k0_pay21, k0_pay22, k0_pay23,
          k0_pay24, k0_pay25, k0_pay26, k0_pay27, k0_pay28, k0_pay29, k0_pay30, k0_pay31, k0_pay32, k0_pay33, k0_pay34, k0_pay35, k0_pay36,
          k0_pay37, k0_pay38, k0_pay39, k0_pay40, k0_pay41, k0_pay42, k0_pay43, k0_pay44, k0_pay45, k0_pay46, k0_pay47, k0_pay48, k0_pay49,
          k0_pay50, k0_pay51, k0_pay52, k0_pay53, k0_pay54, k0_pay55, k0_pay56, k0_pay57, k0_pay58, k0_pay59, k0_pay60, k0_pay61, k0_pay62,
          k0_pay63, k0_pay64, k0_pay65, k0_pay66, k0_pay67, k0_pay68, k0_pay69, k0_pay70, k0_pay71, k0_pay72, k0_pay73, k0_pay74, k0_pay75,
          k0_pay76, k0_pay77, k0_pay78, k0_pay79, k0_pay80, k0_pay81, k0_pay82, k0_pay83, k0_pay84, k0_pay85, k0_pay86, k0_pay87, k0_pay88,
          k0_pay89, k0_pay90, k0_pay91, k0_pay92, k0_pay93, k0_pay94, k0_pay95, k0_pay96, k0_pay97, k0_pay98, k0_pay99, k0_pay100,
          k0_pay101, k0_pay102, k0_pay103, k0_pay104, k0_pay105, k0_pay106, k0_pay107, k0_pay108, k0_pay109, k0_pay110, k0_pay111,
          k0_pay112, k0_pay113, k0_pay114, k0_pay115, k0_pay116, k0_pay117, k0_pay118, k0_pay119, k0_pay120, k0_pay121, k0_pay122,
          k0_pay123, k0_pay124, k0_pay125, k0_pay126, k0_pay127, k0_pay128, k0_pay129, k0_pay130, k0_pay131, k0_pay132, k0_pay133,
          k0_pay134, k0_pay135, k0_pay136, k0_pay137, k0_pay138, k0_pay139, k0_pay140, k0_pay141, k0_pay142, k0_pay143, k0_pay144,
          k0_pay145, k0_pay146, k0_pay147, k0_pay148, k0_pay149, k0_pay1]
        all_goals rfl
      · exact View.cover_of_tiled _ (![2816, 256] : Fin 2 → ℕ) (by rfl) y
    refine (View.read_writes_full _ _ _ _ _).trans ?_
    dsimp only [run_E.sl.r_106, run_E.sl.r_107, run_E.sl.v1465, View.readAt_eq_ld, dwEnd]
    rw [readCov_all _ _ _ hd]
    rfl
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_E.sl.H5_4, run_E.sl.cst_76, run_E.sl.cst_173, run_E.sl.cst_192, run_E.sl.cst_303, run_E.sl.cst_446, run_E.sl.cst_539,
        run_E.sl.cst_571, run_E.sl.r, run_E.sl.r_1, run_E.sl.r_2, run_E.sl.r_3, run_E.sl.r_4, run_E.sl.r_5, run_E.sl.r_6, run_E.sl.r_7,
        run_E.sl.r_8, run_E.sl.r_9, run_E.sl.r_10, run_E.sl.r_11, run_E.sl.r_12, run_E.sl.r_13, run_E.sl.r_14, run_E.sl.r_15,
        run_E.sl.r_16, run_E.sl.r_17, run_E.sl.r_18, run_E.sl.r_19, run_E.sl.r_20, run_E.sl.r_21, run_E.sl.r_22, run_E.sl.r_23,
        run_E.sl.r_24, run_E.sl.r_25, run_E.sl.r_26, run_E.sl.r_27, run_E.sl.r_28, run_E.sl.r_29, run_E.sl.r_30, run_E.sl.r_31,
        run_E.sl.r_32, run_E.sl.r_33, run_E.sl.r_34, run_E.sl.r_35, run_E.sl.r_36, run_E.sl.r_37, run_E.sl.r_38, run_E.sl.r_39,
        run_E.sl.r_40, run_E.sl.r_41, run_E.sl.r_42, run_E.sl.r_43, run_E.sl.r_44, run_E.sl.r_45, run_E.sl.r_46, run_E.sl.r_47,
        run_E.sl.r_48, run_E.sl.r_49, run_E.sl.r_50, run_E.sl.r_51, run_E.sl.r_52, run_E.sl.r_53, run_E.sl.r_54, run_E.sl.r_55,
        run_E.sl.r_56, run_E.sl.r_57, run_E.sl.r_58, run_E.sl.r_59, run_E.sl.r_60, run_E.sl.r_61, run_E.sl.r_62, run_E.sl.r_63,
        run_E.sl.r_64, run_E.sl.r_65, run_E.sl.r_66, run_E.sl.r_67, run_E.sl.r_68, run_E.sl.r_69, run_E.sl.r_70, run_E.sl.r_71,
        run_E.sl.r_72, run_E.sl.r_73, run_E.sl.r_74, run_E.sl.r_75, run_E.sl.r_76, run_E.sl.r_77, run_E.sl.r_78, run_E.sl.r_79,
        run_E.sl.r_80, run_E.sl.r_81, run_E.sl.r_82, run_E.sl.r_83, run_E.sl.r_84, run_E.sl.r_85, run_E.sl.r_86, run_E.sl.r_87,
        run_E.sl.r_88, run_E.sl.r_89, run_E.sl.r_90, run_E.sl.r_91, run_E.sl.r_92, run_E.sl.r_93, run_E.sl.r_94, run_E.sl.r_95,
        run_E.sl.r_96, run_E.sl.r_97, run_E.sl.r_98, run_E.sl.r_99, run_E.sl.r_100, run_E.sl.r_101, run_E.sl.r_102, run_E.sl.r_103,
        run_E.sl.r_104, run_E.sl.r_105, run_E.sl.r_106, run_E.sl.r_107, run_E.sl.v2, run_E.sl.v3, run_E.sl.v4, run_E.sl.v6, run_E.sl.v7,
        run_E.sl.v8, run_E.sl.v9, run_E.sl.v10, run_E.sl.v11, run_E.sl.v14, run_E.sl.v15, run_E.sl.v16, run_E.sl.v18, run_E.sl.v19,
        run_E.sl.v20, run_E.sl.v21, run_E.sl.v22, run_E.sl.v23, run_E.sl.v24, run_E.sl.v25, run_E.sl.v27, run_E.sl.v28, run_E.sl.v29,
        run_E.sl.v32, run_E.sl.v33, run_E.sl.v34, run_E.sl.v36, run_E.sl.v37, run_E.sl.v38, run_E.sl.v39, run_E.sl.v40, run_E.sl.v395,
        run_E.sl.v399, run_E.sl.v749, run_E.sl.v753, run_E.sl.v890, run_E.sl.v891, run_E.sl.v892, run_E.sl.v893, run_E.sl.v894,
        run_E.sl.v895, run_E.sl.v896, run_E.sl.v897, run_E.sl.v898, run_E.sl.v899, run_E.sl.v900, run_E.sl.v902, run_E.sl.v904,
        run_E.sl.v905, run_E.sl.v906, run_E.sl.v907, run_E.sl.v908, run_E.sl.v909, run_E.sl.v910, run_E.sl.v912, run_E.sl.v913,
        run_E.sl.v914, run_E.sl.v915, run_E.sl.v916, run_E.sl.v917, run_E.sl.v918, run_E.sl.v919, run_E.sl.v920, run_E.sl.v921,
        run_E.sl.v922, run_E.sl.v923, run_E.sl.v924, run_E.sl.v925, run_E.sl.v926, run_E.sl.v927, run_E.sl.v928, run_E.sl.v931,
        run_E.sl.v1057, run_E.sl.v1058, run_E.sl.v1059, run_E.sl.v1060, run_E.sl.v1061, run_E.sl.v1063, run_E.sl.v1064, run_E.sl.v1066,
        run_E.sl.v1067, run_E.sl.v1069, run_E.sl.v1070, run_E.sl.v1071, run_E.sl.v1073, run_E.sl.v1075, run_E.sl.v1077, run_E.sl.v1078,
        run_E.sl.v1080, run_E.sl.v1081, run_E.sl.v1083, run_E.sl.v1085, run_E.sl.v1086, run_E.sl.v1087, run_E.sl.v1088, run_E.sl.v1089,
        run_E.sl.v1090, run_E.sl.v1100, run_E.sl.v1101, run_E.sl.v1103, run_E.sl.v1107, run_E.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_E.sl.H5_4, run_E.sl.cst_76, run_E.sl.cst_173, run_E.sl.cst_192, run_E.sl.cst_303, run_E.sl.cst_446, run_E.sl.cst_539,
        run_E.sl.cst_571, run_E.sl.r, run_E.sl.r_1, run_E.sl.r_2, run_E.sl.r_3, run_E.sl.r_4, run_E.sl.r_5, run_E.sl.r_6, run_E.sl.r_7,
        run_E.sl.r_8, run_E.sl.r_9, run_E.sl.r_10, run_E.sl.r_11, run_E.sl.r_12, run_E.sl.r_13, run_E.sl.r_14, run_E.sl.r_15,
        run_E.sl.r_16, run_E.sl.r_17, run_E.sl.r_18, run_E.sl.r_19, run_E.sl.r_20, run_E.sl.r_21, run_E.sl.r_22, run_E.sl.r_23,
        run_E.sl.r_24, run_E.sl.r_25, run_E.sl.r_26, run_E.sl.r_27, run_E.sl.r_28, run_E.sl.r_29, run_E.sl.r_30, run_E.sl.r_31,
        run_E.sl.r_32, run_E.sl.r_33, run_E.sl.r_34, run_E.sl.r_35, run_E.sl.r_36, run_E.sl.r_37, run_E.sl.r_38, run_E.sl.r_39,
        run_E.sl.r_40, run_E.sl.r_41, run_E.sl.r_42, run_E.sl.r_43, run_E.sl.r_44, run_E.sl.r_45, run_E.sl.r_46, run_E.sl.r_47,
        run_E.sl.r_48, run_E.sl.r_49, run_E.sl.r_50, run_E.sl.r_51, run_E.sl.r_52, run_E.sl.r_53, run_E.sl.r_54, run_E.sl.r_55,
        run_E.sl.r_56, run_E.sl.r_57, run_E.sl.r_58, run_E.sl.r_59, run_E.sl.r_60, run_E.sl.r_61, run_E.sl.r_62, run_E.sl.r_63,
        run_E.sl.r_64, run_E.sl.r_65, run_E.sl.r_66, run_E.sl.r_67, run_E.sl.r_68, run_E.sl.r_69, run_E.sl.r_70, run_E.sl.r_71,
        run_E.sl.r_72, run_E.sl.r_73, run_E.sl.r_74, run_E.sl.r_75, run_E.sl.r_76, run_E.sl.r_77, run_E.sl.r_78, run_E.sl.r_79,
        run_E.sl.r_80, run_E.sl.r_81, run_E.sl.r_82, run_E.sl.r_83, run_E.sl.r_84, run_E.sl.r_85, run_E.sl.r_86, run_E.sl.r_87,
        run_E.sl.r_88, run_E.sl.r_89, run_E.sl.r_90, run_E.sl.r_91, run_E.sl.r_92, run_E.sl.r_93, run_E.sl.r_94, run_E.sl.r_95,
        run_E.sl.r_96, run_E.sl.r_97, run_E.sl.r_98, run_E.sl.r_99, run_E.sl.r_100, run_E.sl.r_101, run_E.sl.r_102, run_E.sl.r_103,
        run_E.sl.r_104, run_E.sl.r_105, run_E.sl.r_106, run_E.sl.r_107, run_E.sl.v2, run_E.sl.v3, run_E.sl.v4, run_E.sl.v6, run_E.sl.v7,
        run_E.sl.v8, run_E.sl.v9, run_E.sl.v10, run_E.sl.v11, run_E.sl.v14, run_E.sl.v15, run_E.sl.v16, run_E.sl.v18, run_E.sl.v19,
        run_E.sl.v20, run_E.sl.v21, run_E.sl.v22, run_E.sl.v23, run_E.sl.v24, run_E.sl.v25, run_E.sl.v27, run_E.sl.v28, run_E.sl.v29,
        run_E.sl.v32, run_E.sl.v33, run_E.sl.v34, run_E.sl.v36, run_E.sl.v37, run_E.sl.v38, run_E.sl.v39, run_E.sl.v40, run_E.sl.v395,
        run_E.sl.v399, run_E.sl.v749, run_E.sl.v753, run_E.sl.v890, run_E.sl.v891, run_E.sl.v892, run_E.sl.v893, run_E.sl.v894,
        run_E.sl.v895, run_E.sl.v896, run_E.sl.v897, run_E.sl.v898, run_E.sl.v899, run_E.sl.v900, run_E.sl.v902, run_E.sl.v904,
        run_E.sl.v905, run_E.sl.v906, run_E.sl.v907, run_E.sl.v908, run_E.sl.v909, run_E.sl.v910, run_E.sl.v912, run_E.sl.v913,
        run_E.sl.v914, run_E.sl.v915, run_E.sl.v916, run_E.sl.v917, run_E.sl.v918, run_E.sl.v919, run_E.sl.v920, run_E.sl.v921,
        run_E.sl.v922, run_E.sl.v923, run_E.sl.v924, run_E.sl.v925, run_E.sl.v926, run_E.sl.v927, run_E.sl.v928, run_E.sl.v931,
        run_E.sl.v1057, run_E.sl.v1058, run_E.sl.v1059, run_E.sl.v1060, run_E.sl.v1061, run_E.sl.v1063, run_E.sl.v1064, run_E.sl.v1066,
        run_E.sl.v1067, run_E.sl.v1069, run_E.sl.v1070, run_E.sl.v1071, run_E.sl.v1073, run_E.sl.v1075, run_E.sl.v1077, run_E.sl.v1078,
        run_E.sl.v1080, run_E.sl.v1081, run_E.sl.v1083, run_E.sl.v1085, run_E.sl.v1086, run_E.sl.v1087, run_E.sl.v1088, run_E.sl.v1089,
        run_E.sl.v1090, run_E.sl.v1100, run_E.sl.v1101, run_E.sl.v1103, run_E.sl.v1107, run_E.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_E.sl.H5_4, run_E.sl.cst_76, run_E.sl.cst_173, run_E.sl.cst_192, run_E.sl.cst_303, run_E.sl.cst_446, run_E.sl.cst_539,
        run_E.sl.cst_571, run_E.sl.r, run_E.sl.r_1, run_E.sl.r_2, run_E.sl.r_3, run_E.sl.r_4, run_E.sl.r_5, run_E.sl.r_6, run_E.sl.r_7,
        run_E.sl.r_8, run_E.sl.r_9, run_E.sl.r_10, run_E.sl.r_11, run_E.sl.r_12, run_E.sl.r_13, run_E.sl.r_14, run_E.sl.r_15,
        run_E.sl.r_16, run_E.sl.r_17, run_E.sl.r_18, run_E.sl.r_19, run_E.sl.r_20, run_E.sl.r_21, run_E.sl.r_22, run_E.sl.r_23,
        run_E.sl.r_24, run_E.sl.r_25, run_E.sl.r_26, run_E.sl.r_27, run_E.sl.r_28, run_E.sl.r_29, run_E.sl.r_30, run_E.sl.r_31,
        run_E.sl.r_32, run_E.sl.r_33, run_E.sl.r_34, run_E.sl.r_35, run_E.sl.r_36, run_E.sl.r_37, run_E.sl.r_38, run_E.sl.r_39,
        run_E.sl.r_40, run_E.sl.r_41, run_E.sl.r_42, run_E.sl.r_43, run_E.sl.r_44, run_E.sl.r_45, run_E.sl.r_46, run_E.sl.r_47,
        run_E.sl.r_48, run_E.sl.r_49, run_E.sl.r_50, run_E.sl.r_51, run_E.sl.r_52, run_E.sl.r_53, run_E.sl.r_54, run_E.sl.r_55,
        run_E.sl.r_56, run_E.sl.r_57, run_E.sl.r_58, run_E.sl.r_59, run_E.sl.r_60, run_E.sl.r_61, run_E.sl.r_62, run_E.sl.r_63,
        run_E.sl.r_64, run_E.sl.r_65, run_E.sl.r_66, run_E.sl.r_67, run_E.sl.r_68, run_E.sl.r_69, run_E.sl.r_70, run_E.sl.r_71,
        run_E.sl.r_72, run_E.sl.r_73, run_E.sl.r_74, run_E.sl.r_75, run_E.sl.r_76, run_E.sl.r_77, run_E.sl.r_78, run_E.sl.r_79,
        run_E.sl.r_80, run_E.sl.r_81, run_E.sl.r_82, run_E.sl.r_83, run_E.sl.r_84, run_E.sl.r_85, run_E.sl.r_86, run_E.sl.r_87,
        run_E.sl.r_88, run_E.sl.r_89, run_E.sl.r_90, run_E.sl.r_91, run_E.sl.r_92, run_E.sl.r_93, run_E.sl.r_94, run_E.sl.r_95,
        run_E.sl.r_96, run_E.sl.r_97, run_E.sl.r_98, run_E.sl.r_99, run_E.sl.r_100, run_E.sl.r_101, run_E.sl.r_102, run_E.sl.r_103,
        run_E.sl.r_104, run_E.sl.r_105, run_E.sl.r_106, run_E.sl.r_107, run_E.sl.v2, run_E.sl.v3, run_E.sl.v4, run_E.sl.v6, run_E.sl.v7,
        run_E.sl.v8, run_E.sl.v9, run_E.sl.v10, run_E.sl.v11, run_E.sl.v14, run_E.sl.v15, run_E.sl.v16, run_E.sl.v18, run_E.sl.v19,
        run_E.sl.v20, run_E.sl.v21, run_E.sl.v22, run_E.sl.v23, run_E.sl.v24, run_E.sl.v25, run_E.sl.v27, run_E.sl.v28, run_E.sl.v29,
        run_E.sl.v32, run_E.sl.v33, run_E.sl.v34, run_E.sl.v36, run_E.sl.v37, run_E.sl.v38, run_E.sl.v39, run_E.sl.v40, run_E.sl.v395,
        run_E.sl.v399, run_E.sl.v749, run_E.sl.v753, run_E.sl.v890, run_E.sl.v891, run_E.sl.v892, run_E.sl.v893, run_E.sl.v894,
        run_E.sl.v895, run_E.sl.v896, run_E.sl.v897, run_E.sl.v898, run_E.sl.v899, run_E.sl.v900, run_E.sl.v902, run_E.sl.v904,
        run_E.sl.v905, run_E.sl.v906, run_E.sl.v907, run_E.sl.v908, run_E.sl.v909, run_E.sl.v910, run_E.sl.v912, run_E.sl.v913,
        run_E.sl.v914, run_E.sl.v915, run_E.sl.v916, run_E.sl.v917, run_E.sl.v918, run_E.sl.v919, run_E.sl.v920, run_E.sl.v921,
        run_E.sl.v922, run_E.sl.v923, run_E.sl.v924, run_E.sl.v925, run_E.sl.v926, run_E.sl.v927, run_E.sl.v928, run_E.sl.v931,
        run_E.sl.v1057, run_E.sl.v1058, run_E.sl.v1059, run_E.sl.v1060, run_E.sl.v1061, run_E.sl.v1063, run_E.sl.v1064, run_E.sl.v1066,
        run_E.sl.v1067, run_E.sl.v1069, run_E.sl.v1070, run_E.sl.v1071, run_E.sl.v1073, run_E.sl.v1075, run_E.sl.v1077, run_E.sl.v1078,
        run_E.sl.v1080, run_E.sl.v1081, run_E.sl.v1083, run_E.sl.v1085, run_E.sl.v1086, run_E.sl.v1087, run_E.sl.v1088, run_E.sl.v1089,
        run_E.sl.v1090, run_E.sl.v1100, run_E.sl.v1101, run_E.sl.v1103, run_E.sl.v1107, run_E.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
    all_goals rfl

end Cert.KernelIdeal.Gen

end
-- ==== Proof.KernelRun.RunF.lean ====
module

public import proofs.«01_k».proof.Proof.KernelRun.Step

/-! A step in the middle of a column block and of a group of four. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_F (h1 : ¬isFirst (grid0.coords t)) (h2 : ¬startsBlock (grid0.coords t)) (h3 : k0_cond3 (grid0.coords t) = 1#1) (h4 : ¬k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 x5 x8) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    funext y
    refine View.read_writes_apply_of_pieces _ _ (dwOf (arg5.view.read (Elt F) f4) (arg6.view.read (Elt F) f5) (arg9.view.read (Elt F) f8)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, View.readAt_eq_ld, ld_st0, ld_st1, ld_rot, ld_vt, ld_src, ld_x00, ld_x01, ld_x02, ld_x03, ld_x10,
        ld_x11, ld_x12, ld_x13, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67, k0_pay68, k0_pay69,
        k0_pay70, k0_pay71, k0_pay72, k0_pay73, k0_pay74, k0_pay75, k0_pay76, k0_pay77, k0_pay78, k0_pay79, k0_pay80, k0_pay81, k0_pay82,
        k0_pay83, k0_pay84, k0_pay85, k0_pay86, k0_pay87, k0_pay88, k0_pay89, k0_pay90, k0_pay91, k0_pay92, k0_pay93, k0_pay94, k0_pay95,
        k0_pay96, k0_pay97, k0_pay98, k0_pay99, k0_pay100, k0_pay101, k0_pay102, k0_pay103, k0_pay104, k0_pay105, k0_pay106, k0_pay107,
        k0_pay108, k0_pay109, k0_pay110, k0_pay111, k0_pay112, k0_pay113, k0_pay114, k0_pay115, k0_pay116, k0_pay117, k0_pay118,
        k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140,
        k0_pay141, k0_pay142, k0_pay143, k0_pay144, k0_pay145, k0_pay146, k0_pay147, k0_pay148, k0_pay149, k0_pay1]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, codesT, valsT, nibT, vT, mT, sbT, sbTiles, View.readAt_eq_ld, ld_st0, ld_st1, ld_rot, ld_vt,
        ld_src, ld_x00, ld_x01, ld_x02, ld_x03, ld_x10, ld_x11, ld_x12, ld_x13, k0_pay6, k0_pay7, k0_pay8, k0_pay9, k0_pay10, k0_pay11,
        k0_pay12, k0_pay13, k0_pay14, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, codesT, valsT, nibT, vT, mT, sbT, sbTiles, View.readAt_eq_ld, ld_st0, ld_st1, ld_rot, ld_vt,
        ld_src, ld_x00, ld_x01, ld_x02, ld_x03, ld_x10, ld_x11, ld_x12, ld_x13, k0_pay6, k0_pay7, k0_pay8, k0_pay9, k0_pay10, k0_pay11,
        k0_pay12, k0_pay13, k0_pay14, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, codesT, valsT, nibT, vT, mT, sbT, sbTiles, View.readAt_eq_ld, ld_st0, ld_st1, ld_rot, ld_vt,
        ld_src, ld_x00, ld_x01, ld_x02, ld_x03, ld_x10, ld_x11, ld_x12, ld_x13, k0_pay6, k0_pay7, k0_pay8, k0_pay9, k0_pay10, k0_pay11,
        k0_pay12, k0_pay13, k0_pay14, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay1]
    all_goals rfl

end Cert.KernelIdeal.Gen

end
-- ==== Proof.KernelRun.Body.lean ====
module

public import proofs.«01_k».proof.Proof.KernelRun.RunA
public import proofs.«01_k».proof.Proof.KernelRun.RunB
public import proofs.«01_k».proof.Proof.KernelRun.RunC
public import proofs.«01_k».proof.Proof.KernelRun.RunD
public import proofs.«01_k».proof.Proof.KernelRun.RunE
public import proofs.«01_k».proof.Proof.KernelRun.RunF

/-! One step of the kernel at any grid point: the six cases of its branches as one statement. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the step leaves in the accumulator: the product added (to zero at the start of a column block, of zeros at the
first step), scaled at the end of the column block. -/
def dwStep (n : ℕ) (x0 : Vec F S2 .f32) (x4 : Vec F S1408x512 .i32) (x5 : Vec F S2816x1024 .f32) (x8 : Vec F S512x1024 .bf16) :
    Vec F S2816x1024 .f32 :=
  if n % 64 = 0 ∧ 0 < n then dwEnd x0 (dwOf x4 x5 x8)
  else dwOf x4 (if n % 64 = 1 ∨ n = 0 then k0_pay5 else x5) (if n = 0 then k0_pay4 else x8)
/-- What the step leaves in the window of finished scales. -/
def sbStep (n : ℕ) (x7 : Vec F S1024x128 .fp8e4m3) (s : Vec F S128x1024 .f32) : Vec F S1024x128 .fp8e4m3 :=
  if n % 4 = 3 then sbOut s else x7

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

/-- The kernel body at any grid point. -/
theorem body_run :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwStep t.val x0 x4 x5 x8) (codesOf x0 x1 x2 x3) (sbStep t.val x7 (sbufMix (t.val % 4) (sbTiles x0 x2 x3) x9))
      (valsOf x0 x2 x3) (sbufMix (t.val % 4) (sbTiles x0 x2 x3) x9) := by
  have hN : t.val < 449 := t.isLt
  obtain ⟨k1, k2, k3, k4, k5⟩ := conds t
  unfold dwStep sbStep
  by_cases hz : t.val = 0
  · rw [if_neg (by omega), if_pos (by omega), if_pos hz, if_neg (by omega)]
    exact run_A c t arg1 harg1 arg2 harg2 arg3 harg3 arg4 harg4 arg5 harg5 arg6 harg6 arg7 harg7 arg8 harg8 arg9 harg9 arg10 harg10 x0 x1 x2 x3 x4 x5 x6 x7 x8 x9 (k1.mpr (by omega)) (k2.mpr (by omega)) (k3.mpr (by omega)) (fun h => absurd (k4.mp h) (by omega)) (fun h => absurd (k5.mp h) (by omega))
  by_cases h1 : t.val % 64 = 1
  · rw [if_neg (by omega), if_pos (by omega), if_neg hz, if_neg (by omega)]
    exact run_B c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (k2.mpr (by omega)) (k3.mpr (by omega)) (fun h => absurd (k4.mp h) (by omega)) (fun h => absurd (k5.mp h) (by omega))
  by_cases h0 : t.val % 64 = 0
  · rw [if_pos (by omega), if_neg (by omega)]
    by_cases he : t.val = 448
    · exact run_E c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (fun h => absurd (k3.mp h) (by omega)) (fun h => absurd (k4.mp h) (by omega)) (k5.mpr (by omega))
    · exact run_D c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (k3.mpr (by omega)) (fun h => absurd (k4.mp h) (by omega)) (k5.mpr (by omega))
  rw [if_neg (by omega), if_neg (by omega), if_neg hz]
  by_cases h3 : t.val % 4 = 3
  · rw [if_pos h3]
    exact run_C c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (k3.mpr (by omega)) (k4.mpr (by omega)) (fun h => absurd (k5.mp h) (by omega))
  · rw [if_neg h3]
    exact run_F c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (k3.mpr (by omega)) (fun h => absurd (k4.mp h) (by omega)) (fun h => absurd (k5.mp h) (by omega))

end Cert.KernelIdeal.Gen

end
-- ==== Proof.KernelRun.Frame.lean ====
module

public import proofs.«01_k».proof.Proof.KernelRun.Body
public import Idealize.ShloMosaic.Lib.Pipeline.TableIdle
public import Idealize.ShloMosaic.Lib.Claim

/-! The kernel's whole run: what every buffer holds after each of the 449 steps, and the frame claim. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the pipeline passes -/

abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1408x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .fp8e4m3 := win0_7.stage (cfg0.slots t 7)
abbrev hs0_7 (t : Fin cfg0.N) : (ms0_7 t).IsWhole := hstage0_7 ((cfg0.slots t 7).cast nbuf0_7)
abbrev scM0_0 : Memref sig .tc .vmem S512x1024 .bf16 := Memref.whole cc0_scratch0
abbrev scM0_1 : Memref sig .tc .vmem S128x1024 .f32 := Memref.whole cc0_scratch1

/-- What the launch hands the region, the two scratch buffers as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## When the output windows are written back -/

theorem flush5 : ∀ t : Fin grid0.N, win0_5.flush t = true ↔ t.val % 64 = 0 ∧ 0 < t.val := by
  simp only [Pipeline.Window.flush_eq_flushF]; decide +kernel
theorem flush7 : ∀ t : Fin grid0.N, win0_7.flush t = true ↔ (t.val % 4 = 3 ∧ t.val ≠ 447) ∨ t.val = 448 := by
  simp only [Pipeline.Window.flush_eq_flushF]; decide +kernel
theorem idle7 : ∀ t : Fin grid0.N, idle0 7 (grid0.coords t) = !decide (t.val % 4 = 3) := by
  decide +kernel
/-- The window of finished scales holds what some step stored at the last step only. -/
theorem fresh7 : ∀ n, n ≤ cfg0.N → cfg0.fresh 7 n = decide (n ≠ 448) :=
  cfg0.fresh_tab 7 (fun n => decide (n ≠ 448)) rfl fun (t : Fin grid0.N) => by
    have hN : t.val < 449 := t.isLt
    show decide (t.val + 1 ≠ 448) = (win0_7.flush t || (idle0 7 (grid0.coords t) && decide (t.val ≠ 448)))
    rw [idle7]
    have h := flush7 t
    cases hf : win0_7.flush t <;> rw [hf] at h
    · have h' : ¬((t.val % 4 = 3 ∧ t.val ≠ 447) ∨ t.val = 448) := fun hh => Bool.false_ne_true (h.mpr hh)
      by_cases h3 : t.val % 4 = 3
      · have : t.val = 447 := by omega
        simp [this]
      · have : t.val ≠ 447 ∧ t.val ≠ 448 := by omega
        simp [h3, this.2]; omega
    · have := h.mp rfl
      simp; omega

/-! ## What the buffers hold after each step -/

/-- Step `n`, the last if there are fewer. -/
def pt (n : ℕ) : Fin cfg0.N := ⟨min n 448, Nat.lt_of_le_of_lt (Nat.min_le_right _ _) (show 448 < cfg0.N by rw [show cfg0.N = 449 from N_0]; decide)⟩
theorem pt_val (t : Fin cfg0.N) : pt t.val = t := Fin.ext (by
  have h : t.val < 449 := lt_of_lt_of_eq t.isLt (show cfg0.N = 449 from N_0)
  show min t.val 448 = t.val; omega)

/-- The dequantised block of step `n`. -/
def valsAt (c : Dev nD) (n : ℕ) : Vec F S512x1024 .bf16 := valsOf (iblk m c 0 (pt n)) (iblk m c 2 (pt n)) (iblk m c 3 (pt n))
/-- The packed codes of step `n`. -/
def codesAt (c : Dev nD) (n : ℕ) : Vec F S1024x256 .i8 := codesOf (iblk m c 0 (pt n)) (iblk m c 1 (pt n)) (iblk m c 2 (pt n)) (iblk m c 3 (pt n))
/-- The accumulator after step `n`. -/
def dwAt (c : Dev nD) : ℕ → Vec F S2816x1024 .f32
  | 0 => dwStep 0 (iblk m c 0 (pt 0)) (iblk m c 4 (pt 0)) k0_pay5 k0_pay4
  | n + 1 => dwStep (n + 1) (iblk m c 0 (pt (n + 1))) (iblk m c 4 (pt (n + 1))) (dwAt c n) (valsAt m c n)
/-- The scale buffer once the steps `4 g … 4 g + 3` have written it. -/
def sbGroup (c : Dev nD) (g : ℕ) : Vec F S128x1024 .f32 := fun y =>
  sbufMix ((y 0).val / 32) (sbTiles (iblk m c 0 (pt (4 * g + (y 0).val / 32))) (iblk m c 2 (pt (4 * g + (y 0).val / 32))) (iblk m c 3 (pt (4 * g + (y 0).val / 32))))
    (fun _ => FloatOps.ofBits .f32 0#32) y
/-- The scale buffer after step `n`: the rows of its group written so far are the group's. -/
def SbOk (c : Dev nD) (n : ℕ) (d : Vec F S128x1024 .f32) : Prop := ∀ y, (y 0).val / 32 ≤ n % 4 → d y = sbGroup m c (n / 4) y
/-- The window of finished scales after step `n`. -/
def sbAt (c : Dev nD) (n : ℕ) : Vec F S1024x128 .fp8e4m3 := sbOut (sbGroup m c (min n 447 / 4))

/-- The step keeps `SbOk`. -/
theorem sbOk_step (c : Dev nD) (t : Fin cfg0.N) (d : Vec F S128x1024 .f32) (h : t.val % 4 ≠ 0 → SbOk m c (t.val - 1) d) :
    SbOk m c t.val (sbufMix (t.val % 4) (sbTiles (iblk m c 0 t) (iblk m c 2 t) (iblk m c 3 t)) d) := by
  intro y hy
  by_cases e : (y 0).val / 32 = t.val % 4
  · have ep : pt (4 * (t.val / 4) + (y 0).val / 32) = t := by
      rw [e, show 4 * (t.val / 4) + t.val % 4 = t.val by omega, pt_val]
    unfold sbGroup
    rw [ep, e]
    unfold sbufMix
    rw [if_pos e, if_pos e]
  · rw [show sbufMix (t.val % 4) (sbTiles (iblk m c 0 t) (iblk m c 2 t) (iblk m c 3 t)) d y = d y from if_neg e,
      h (by omega) y (by omega), show (t.val - 1) / 4 = t.val / 4 by omega]
/-- At the end of a group the whole buffer is the group's. -/
theorem sbOk_full (c : Dev nD) (n : ℕ) (h3 : n % 4 = 3) (d : Vec F S128x1024 .f32) (h : SbOk m c n d) : d = sbGroup m c (n / 4) := by
  funext y
  exact h y (by have hy : (y 0).val < 128 := (y 0).isLt; omega)

/-- What holds between the steps: the scratch buffers at what the step before left. -/
def PhiS (c : Dev nD) : ℕ → sProp 𝕄
  | 0 => Pipeline.ΦA spec0 c
  | n + 1 => iprop(iprop(owns (c : Thread nD τ) scM0_0 fullShare (valsAt m c n) ∗ (∃ d, ⌜SbOk m c n d⌝ ∗ owns (c : Thread nD τ) scM0_1 fullShare d)) ∗ (∃ r, prngReg c r))
theorem PhiS_succ (c : Dev nD) (n : ℕ) :
    PhiS m c (n + 1) = iprop(iprop(owns (c : Thread nD τ) scM0_0 fullShare (valsAt m c n) ∗ (∃ d, ⌜SbOk m c n d⌝ ∗ owns (c : Thread nD τ) scM0_1 fullShare d)) ∗ (∃ r, prngReg c r)) := rfl

/-- The proof data: the arrays as the region finds them, the inputs' buffers at their blocks, the outputs' at the
contents named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwAt m c t.val
    | ⟨6, _⟩ => codesAt m c t.val
    | ⟨7, _⟩ => sbAt m c t.val
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dwAt m c t.val := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = sbAt m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- Within a column block the accumulator is what the step before left. -/
theorem before0_5 (c : Dev nD) (t : Fin cfg0.N) (h1 : t.val % 64 ≠ 1) (h0 : t.val ≠ 0) (d) :
    (dats m 0 c).before 5 t d = dwAt m c (t.val - 1) := by
  rw [Dat.before_out_kept _ 5 rfl t h0 (Bool.eq_false_iff.mpr fun h => by have := (flush5 _).mp h; dsimp only at this; omega)
    (fun _ => rfl) (fun _ _ => rfl)]
  dsimp only [dats]
/-- The window of finished scales: anything, but at the last step what the step before left. -/
theorem before0_7 (c : Dev nD) (t : Fin cfg0.N) (d) :
    (dats m 0 c).before 7 t d = if t.val = 448 then sbAt m c 448 else d := by
  have hN : t.val < 449 := lt_of_lt_of_eq t.isLt (show cfg0.N = 449 from N_0)
  rw [(dats m 0 c).before_out_traj 7 rfl (fun _ _ => rfl) (fun t ht hi hf => by
    rw [fresh7 t.val (le_of_lt t.isLt)] at hf
    have h448 : t.val = 448 := by simpa using hf
    rw [after0_7, after0_7]
    dsimp only
    rw [h448]; rfl) t.val t rfl d, fresh7 t.val (le_of_lt t.isLt)]
  by_cases h : t.val = 448
  · rw [if_neg (by simp [h]), if_pos h, after0_7]
    dsimp only
    rw [h]; rfl
  · rw [if_pos (by simp [h]), if_neg h]

/-! ## The body obligation -/

/-- What the body is called with at a step, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t)

/-- At the start of a column block what the accumulator held does not matter. -/
theorem dwStep_start (n : ℕ) (h : n % 64 = 1) (x0 : Vec F S2 .f32) (x4 : Vec F S1408x512 .i32) (a b : Vec F S2816x1024 .f32) (x8 : Vec F S512x1024 .bf16) :
    dwStep n x0 x4 a x8 = dwStep n x0 x4 b x8 := by
  have h1 : ¬(n % 64 = 0 ∧ 0 < n) := by omega
  have h2 : n % 64 = 1 ∨ n = 0 := Or.inl h
  unfold dwStep
  simp only [if_neg h1, if_pos h2]
/-- The accumulator after a step, from what the step finds. -/
theorem dwAt_step (c : Dev nD) (t : Fin cfg0.N) (x8 : Vec F S512x1024 .bf16) (h8 : t.val ≠ 0 → x8 = valsAt m c (t.val - 1)) (d) :
    dwStep t.val (iblk m c 0 t) (iblk m c 4 t) ((dats m 0 c).before 5 t d) x8 = dwAt m c t.val := by
  obtain ⟨n, hn⟩ := t
  have ep : pt n = ⟨n, hn⟩ := pt_val ⟨n, hn⟩
  cases n with
  | zero =>
    show dwStep 0 _ _ _ _ = dwStep 0 (iblk m c 0 (pt 0)) (iblk m c 4 (pt 0)) k0_pay5 k0_pay4
    rw [ep]; rfl
  | succ n =>
    rw [h8 (Nat.succ_ne_zero n)]
    show dwStep (n + 1) _ _ _ _ = dwStep (n + 1) (iblk m c 0 (pt (n + 1))) (iblk m c 4 (pt (n + 1))) (dwAt m c n) (valsAt m c n)
    rw [ep]
    by_cases h1 : (n + 1) % 64 = 1
    · exact dwStep_start (n + 1) h1 _ _ _ _ _
    · rw [before0_5 m c ⟨n + 1, hn⟩ h1 (Nat.succ_ne_zero n)]
      rfl
/-- What the step leaves in the window of finished scales is what the pipeline asks of it. -/
theorem leaves7 (c : Dev nD) (t : Fin cfg0.N) (d7) (d : Vec F S128x1024 .f32) (hd : SbOk m c t.val d) :
    owns (c : Thread nD τ) (ms0_7 t) fullShare (sbStep t.val ((dats m 0 c).before 7 t d7) d) ⊢ ((dats m 0 c).leavesExact 7 t : sProp 𝕄) := by
  have hN : t.val < 449 := lt_of_lt_of_eq t.isLt (show cfg0.N = 449 from N_0)
  have hi : cfg0.idle 7 (cfg0.grid.coords t) = !decide (t.val % 4 = 3) := idle7 t
  by_cases h3 : t.val % 4 = 3
  · rw [show sbStep t.val ((dats m 0 c).before 7 t d7) d = sbAt m c t.val from by
      unfold sbStep sbAt; rw [if_pos h3, sbOk_full m c t.val h3 d hd, show min t.val 447 = t.val by omega]]
    unfold Dat.leavesExact
    rw [hi, show (!decide (t.val % 4 = 3)) = false by simp [h3]]
    rw [after0_7]
  · rw [show sbStep t.val ((dats m 0 c).before 7 t d7) d = (dats m 0 c).before 7 t d7 from if_neg h3]
    by_cases h8 : t.val = 448
    · unfold Dat.leavesExact
      rw [hi, show (!decide (t.val % 4 = 3)) = true by simp [h3],
        show (cfg0.win 7).flush t = true from (flush7 t).mpr (Or.inr h8)]
      rw [after0_7, before0_7, if_pos h8, h8]
    · rw [Dat.leavesExact_idle _ 7 t (hi.trans (by simp [h3])) (Bool.eq_false_iff.mpr fun h => by have := (flush7 t).mp h; omega)]
      iintro H; iexists _; iexact H

set_option maxHeartbeats 3200000 in
/-- The body at any step. -/
theorem sound_body (c : Dev nD) (t : Fin cfg0.N) :
    bodyPre m c t ⊢ wp frame (wpE (defs₀ (F := F)) Variants.none c none) Set.univ (bodyAt0 t) (fun _ => bodyPost m c t) := by
  have key : ∀ (x8 : Vec F S512x1024 .bf16) (x9 : Vec F S128x1024 .f32) (h8 : t.val ≠ 0 → x8 = valsAt m c (t.val - 1))
      (h9 : t.val % 4 ≠ 0 → SbOk m c (t.val - 1) x9),
      iprop((iprop(owns (c : Thread nD τ) scM0_0 fullShare x8 ∗ owns (c : Thread nD τ) scM0_1 fullShare x9) ∗ (∃ r, prngReg c r))
        ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
      ⊢ wp frame (wpE (defs₀ (F := F)) Variants.none c none) Set.univ (bodyAt0 t) (fun _ => bodyPost m c t) := by
    intro x8 x9 h8 h9
    unfold bodyPost bodyAt0
    simp only [before0_0, before0_1, before0_2, before0_3, before0_4]
    rw [show (dats m 0 c).owesAt () t.succ = (dats m 0 c).owesAt () t.castSucc from rfl,
      after0_0, after0_1, after0_2, after0_3, after0_4, after0_5, after0_6]
    rw [show (dats m 0 c).Φ t.succ = PhiS m c (t.val + 1) from rfl, PhiS_succ]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_run c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) ((dats m 0 c).before 5 t d5) ((dats m 0 c).before 6 t d6)
      ((dats m 0 c).before 7 t d7) x8 x9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · rw [show valsAt m c t.val = valsOf (iblk m c 0 t) (iblk m c 2 t) (iblk m c 3 t) from by unfold valsAt; rw [pt_val]]
          iexact HS0
        · iexists _; isplitr
          swap; · iexact HS1
          ipureintro; exact sbOk_step m c t x9 h9
      · iexact Hg
    isplitl [Ho]; · iexact Ho
    isplitl [H0]; · iexact H0
    isplitl [H1]; · iexact H1
    isplitl [H2]; · iexact H2
    isplitl [H3]; · iexact H3
    isplitl [H4]; · iexact H4
    isplitl [H5]
    · rw [← dwAt_step m c t x8 h8 d5]; iexact H5
    isplitl [H6]
    · rw [show codesAt m c t.val = codesOf (iblk m c 0 t) (iblk m c 1 t) (iblk m c 2 t) (iblk m c 3 t) from by unfold codesAt; rw [pt_val]]
      iexact H6
    iapply (leaves7 m c t d7 _ (sbOk_step m c t x9 h9))
    iexact H7
  unfold bodyPre
  rw [show (dats m 0 c).Φ t.castSucc = PhiS m c t.val from rfl]
  rcases hn : t.val with _ | n
  · show iprop(Pipeline.ΦA spec0 c ∗ _) ⊢ _
    rw [PhiA0_eq]
    iintro ⟨⟨⟨⟨%x8, HS0⟩, ⟨%x9, HS1⟩⟩, Hg⟩, Hr⟩
    iapply (key x8 x9 (fun h => absurd hn h) (fun h => absurd (by rw [hn]) h))
    isplitl [HS0 HS1 Hg]
    · isplitl [HS0 HS1]
      · isplitl [HS0]; · iexact HS0
        iexact HS1
      · iexact Hg
    iexact Hr
  · rw [PhiS_succ]
    iintro ⟨⟨⟨HS0, ⟨%x9, %h9, HS1⟩⟩, Hg⟩, Hr⟩
    iapply (key (valsAt m c n) x9 (fun _ => by rw [hn]; rfl) (fun _ => by rw [hn]; exact h9))
    isplitl [HS0 HS1 Hg]
    · isplitl [HS0 HS1]
      · isplitl [HS0]; · iexact HS0
        iexact HS1
      · iexact Hg
    iexact Hr

/-- The body table's row at a step is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = PhiS m c (448 + 1) from congrArg (PhiS m c) (show cfg0.N = 449 from N_0), PhiS_succ, PhiA0_eq]
  iintro ⟨⟨HS0, ⟨%d, %hd, HS1⟩⟩, Hg⟩
  isplitl [HS0 HS1]
  · isplitl [HS0]
    · iexists _; iexact HS0
    iexists _; iexact HS1
  iexact Hg

/-! ## The run and the frame -/

set_option backward.isDefEq.respectTransparency.types false in
/-- The run: it ends, every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The frame claim: the run ends, the arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.BitsRun.Step.lean ====
module

public import proofs.«01_k».proof.Proof.Gen.Kernel.Skeleton
public import proofs.«01_k».proof.Proof.Gen.Kernel.Frame
public import Idealize.ShloMosaic.Lib.WritesUnit
public import Idealize.ShloMosaic.Lib.VecWindow

/-! What one step of the kernel leaves in its buffers, as plain functions of what it finds there: the conditions of
its branches, the quantised tile (scales, values, packed codes), and the five buffers it writes. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block counter of the product, `(step + 63) mod 64`, as the kernel computes it. -/
abbrev kmm (i : grid0.Coords) : BitVec 32 :=
  (Scalar.select (Scalar.andi (Scalar.xori (Scalar.cmpi .slt (Scalar.remsi (Scalar.subi (Scalar.addi (BitVec.ofNat 32 (i 0).val) 64#32) 1#32) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (Scalar.subi (Scalar.addi (BitVec.ofNat 32 (i 0).val) 64#32) 1#32) (Scalar.select (Scalar.cmpi .eq 64#32 0#32) 1#32 64#32)) 0#32)) (Scalar.addi (Scalar.remsi (Scalar.subi (Scalar.addi (BitVec.ofNat 32 (i 0).val) 64#32) 1#32) (Scalar.select (Scalar.cmpi .eq 64#32 0#32) 1#32 64#32)) (Scalar.select (Scalar.cmpi .eq 64#32 0#32) 1#32 64#32)) (Scalar.remsi (Scalar.subi (Scalar.addi (BitVec.ofNat 32 (i 0).val) 64#32) 1#32) (Scalar.select (Scalar.cmpi .eq 64#32 0#32) 1#32 64#32)))

/-- The kernel's first condition: the first step. -/
abbrev isFirst (i : grid0.Coords) : Prop :=
  (Scalar.cmpi .ne (Scalar.extui (Scalar.cmpi .eq (BitVec.ofNat 32 (i 0).val) 0#32)) 0#32) = 1#1
/-- Its second condition: the product block is the first of its column block. -/
abbrev startsBlock (i : grid0.Coords) : Prop :=
  (Scalar.cmpi .ne (Scalar.extui (Scalar.ori (Scalar.cmpi .eq (kmm i) 0#32) (Scalar.cmpi .eq (BitVec.ofNat 32 (i 0).val) 0#32))) 0#32) = 1#1
/-- Its last condition: the product block is the last of its column block. -/
abbrev endsBlock (i : grid0.Coords) : Prop :=
  (Scalar.cmpi .ne (Scalar.extui (Scalar.andi (Scalar.cmpi .eq (kmm i) 63#32) (Scalar.cmpi .sgt (BitVec.ofNat 32 (i 0).val) 0#32))) 0#32) = 1#1

/-- The branch conditions in closed form over the 449 steps. -/
theorem conds : ∀ t : Fin grid0.N, (isFirst (grid0.coords t) ↔ t.val = 0) ∧ (startsBlock (grid0.coords t) ↔ t.val % 64 = 1 ∨ t.val = 0)
    ∧ (k0_cond3 (grid0.coords t) = 1#1 ↔ t.val < 448) ∧ (k0_cond4 (grid0.coords t) = 1#1 ↔ t.val % 4 = 3)
    ∧ (endsBlock (grid0.coords t) ↔ t.val % 64 = 0 ∧ 0 < t.val) := by
  decide +kernel

/-- The rows and columns of the scale buffer the step writes for column tile 0. -/
theorem off1_eq : ∀ t : Fin grid0.N, k0_off1 (grid0.coords t) 0#32 = ![32 * (t.val % 4), 0]
    ∧ k0_off1 (grid0.coords t) 16#32 = ![32 * (t.val % 4) + 16, 0] := by
  decide +kernel

instance closedOff1_0 (t : Fin grid0.N) : ClosedOff (k0_off1 (grid0.coords t) 0#32) :=
  ⟨![32 * (t.val % 4), 0], (off1_eq t).1⟩
instance closedOff1_16 (t : Fin grid0.N) : ClosedOff (k0_off1 (grid0.coords t) 16#32) :=
  ⟨![32 * (t.val % 4) + 16, 0], (off1_eq t).2⟩

/-- The rows and columns of the scale buffer the step writes for column tile 1. -/
theorem off2_eq : ∀ t : Fin grid0.N, k0_off2 (grid0.coords t) 0#32 = ![32 * (t.val % 4), 256]
    ∧ k0_off2 (grid0.coords t) 16#32 = ![32 * (t.val % 4) + 16, 256] := by
  decide +kernel

instance closedOff2_0 (t : Fin grid0.N) : ClosedOff (k0_off2 (grid0.coords t) 0#32) :=
  ⟨![32 * (t.val % 4), 256], (off2_eq t).1⟩
instance closedOff2_16 (t : Fin grid0.N) : ClosedOff (k0_off2 (grid0.coords t) 16#32) :=
  ⟨![32 * (t.val % 4) + 16, 256], (off2_eq t).2⟩

/-- The rows and columns of the scale buffer the step writes for column tile 2. -/
theorem off3_eq : ∀ t : Fin grid0.N, k0_off3 (grid0.coords t) 0#32 = ![32 * (t.val % 4), 512]
    ∧ k0_off3 (grid0.coords t) 16#32 = ![32 * (t.val % 4) + 16, 512] := by
  decide +kernel

instance closedOff3_0 (t : Fin grid0.N) : ClosedOff (k0_off3 (grid0.coords t) 0#32) :=
  ⟨![32 * (t.val % 4), 512], (off3_eq t).1⟩
instance closedOff3_16 (t : Fin grid0.N) : ClosedOff (k0_off3 (grid0.coords t) 16#32) :=
  ⟨![32 * (t.val % 4) + 16, 512], (off3_eq t).2⟩

/-- The rows and columns of the scale buffer the step writes for column tile 3. -/
theorem off4_eq : ∀ t : Fin grid0.N, k0_off4 (grid0.coords t) 0#32 = ![32 * (t.val % 4), 768]
    ∧ k0_off4 (grid0.coords t) 16#32 = ![32 * (t.val % 4) + 16, 768] := by
  decide +kernel

instance closedOff4_0 (t : Fin grid0.N) : ClosedOff (k0_off4 (grid0.coords t) 0#32) :=
  ⟨![32 * (t.val % 4), 768], (off4_eq t).1⟩
instance closedOff4_16 (t : Fin grid0.N) : ClosedOff (k0_off4 (grid0.coords t) 16#32) :=
  ⟨![32 * (t.val % 4) + 16, 768], (off4_eq t).2⟩

/-! ## The quantised tile -/

section Tile
variable (rot xt : Vec F S256x256 .bf16) (st : Elt F .f32)

/-- The scales of a tile: one per group of sixteen tokens and channel. -/
def sbT : FVec F S16x256 .f32 := k0_pay8 rot xt st
/-- The rotated tile divided by its scales and clipped to `[-6, 6]`. -/
def vT : FVec F S256x256 .f32 := k0_pay12 (k0_pay7 rot xt) (k0_pay9 rot xt st) (k0_pay10 rot xt st) k0_pay11
/-- Its magnitude. -/
def mT : FVec F S256x256 .f32 := k0_pay13 (k0_pay7 rot xt) (k0_pay9 rot xt st) (k0_pay10 rot xt st) k0_pay11
/-- The four-bit codes of the tile, each in a 32-bit word. -/
def nibT : IVec S256x256 32 :=
  k0_pay16 (vT rot xt st) (mT rot xt st) (k0_pay14 (k0_pay7 rot xt) (k0_pay9 rot xt st) (k0_pay10 rot xt st) k0_pay11)
    (k0_pay15 (k0_pay7 rot xt) (k0_pay9 rot xt st) (k0_pay10 rot xt st) k0_pay11) 1#32
/-- The values the codes stand for, times the block scales: what the product reads. -/
def valsT : FVec F S256x256 .bf16 :=
  k0_pay23 (sbT rot xt st) (vT rot xt st) (k0_pay17 (mT rot xt st)) (k0_pay18 (mT rot xt st)) (k0_pay19 (mT rot xt st))
    (k0_pay20 (mT rot xt st)) (k0_pay21 (mT rot xt st)) (k0_pay22 (mT rot xt st)) (FloatOps.ofBits .f32 1069547520#32)
/-- The codes packed two to a byte, channels by rows. -/
def codesT (src : Vec F S1x128 .i32) : IVec S256x128 8 :=
  k0_pay27 src (k0_pay25 (nibT rot xt st)) (k0_pay26 (nibT rot xt st)) 2004318071#32
end Tile

/-! ## Blocks cut into tiles -/

/-- A block assembled from tiles: the tile an index falls in, at its place in the tile. -/
def tiled {α : Type} {nr nc h w R C : ℕ} (hh : 0 < h) (hw : 0 < w) (hR : R = nr * h) (hC : C = nc * w)
    (T : Fin nr → Fin nc → (⟨2, ![h, w]⟩ : Shape).Idx → α) (y : (⟨2, ![R, C]⟩ : Shape).Idx) : α :=
  T ⟨(y 0).val / h, Nat.div_lt_of_lt_mul (by have := (y 0).isLt; rw [Nat.mul_comm]; rw [← hR]; exact this)⟩
    ⟨(y 1).val / w, Nat.div_lt_of_lt_mul (by have := (y 1).isLt; rw [Nat.mul_comm]; rw [← hC]; exact this)⟩
    (Fin.cons ⟨(y 0).val % h, Nat.mod_lt _ hh⟩ (Fin.cons ⟨(y 1).val % w, Nat.mod_lt _ hw⟩ finZeroElim))

/-- An assembled block read inside one of its tiles is that tile. -/
theorem tiled_emb {α : Type} {nr nc h w R C : ℕ} (hh : 0 < h) (hw : 0 < w) (hR : R = nr * h) (hC : C = nc * w)
    (T : Fin nr → Fin nc → (⟨2, ![h, w]⟩ : Shape).Idx → α) (i : Fin nr) (j : Fin nc) {o0 o1 : ℕ} (e0 : o0 = h * i.val) (e1 : o1 = w * j.val)
    (inb : ∀ a, (![o0, o1] : Fin 2 → ℕ) a + (![h, w] : Fin 2 → ℕ) a ≤ (⟨2, ![R, C]⟩ : Shape).size a)
    (x : (⟨2, ![h, w]⟩ : Shape).Idx) :
    tiled hh hw hR hC T ((Rect.unit (s := ⟨2, ![R, C]⟩) ![o0, o1] ![h, w] inb).emb x) = T i j x := by
  subst e0 e1
  have x0 : (x 0).val < h := (x 0).isLt
  have x1 : (x 1).val < w := (x 1).isLt
  have v0 : (((Rect.unit (s := ⟨2, ![R, C]⟩) ![h * i.val, w * j.val] ![h, w] inb).emb x) 0).val = h * i.val + 1 * (x 0).val := rfl
  have v1 : (((Rect.unit (s := ⟨2, ![R, C]⟩) ![h * i.val, w * j.val] ![h, w] inb).emb x) 1).val = w * j.val + 1 * (x 1).val := rfl
  unfold tiled
  congr 1
  · exact Fin.ext (by show _ / h = _; rw [v0, Nat.one_mul, Nat.mul_add_div hh, Nat.div_eq_of_lt x0, Nat.add_zero])
  · exact Fin.ext (by show _ / w = _; rw [v1, Nat.one_mul, Nat.mul_add_div hw, Nat.div_eq_of_lt x1, Nat.add_zero])
  · funext a
    refine Fin.cases ?_ (fun b => Fin.cases ?_ (fun c => c.elim0) b) a
    · exact Fin.ext (by show _ % h = (x 0).val; rw [v0, Nat.one_mul, Nat.mul_add_mod, Nat.mod_eq_of_lt x0])
    · exact Fin.ext (by show _ % w = (x 1).val; rw [v1, Nat.one_mul, Nat.mul_add_mod, Nat.mod_eq_of_lt x1])

/-- The rectangle of tile `(s, n)` of the block of `x`. -/
def xRect (s : Fin 2) (n : Fin 4) : Rect S512x1024 :=
  Rect.unit ![256 * s.val, 256 * n.val] S256x256.size
    (Fin.forall_fin_two.mpr ⟨by show 256 * s.val + 256 ≤ 512; omega, by show 256 * n.val + 256 ≤ 1024; omega⟩)
/-- Tile `(s, n)` of the block of `x`. -/
def xTile (x3 : Vec F S512x1024 .bf16) (s : Fin 2) (n : Fin 4) : Vec F S256x256 .bf16 := View.ld x3 (xRect s n)
/-- The tensor scale of `x`, and that of `dy`. -/
def st0 (x0 : Vec F S2 .f32) : Elt F .f32 := View.ld x0 (Rect.unit ![0] S1.size inb_S2_S1_0) (Shape.Idx.first (by decide))
/-- The tensor scale of `dy`. -/
def st1 (x0 : Vec F S2 .f32) : Elt F .f32 := View.ld x0 (Rect.unit ![1] S1.size inb_S2_S1_1) (Shape.Idx.first (by decide))
/-- The row of lane sources. -/
def srcRow (x1 : Vec F S8x128 .i32) : Vec F S1x128 .i32 := View.ld x1 (Rect.unit ![0, 0] S1x128.size inb_S8x128_S1x128_0_0)

/-- The rotation matrix as the body loads it. -/
def rotOf (x2 : Vec F S256x256 .bf16) : Vec F S256x256 .bf16 := View.ld x2 (Rect.unit ![0, 0] S256x256.size inb_S256x256_S256x256_0_0)
/-- The block of packed values of `dy` as the body loads it. -/
def vtOf (x4 : Vec F S1408x512 .i32) : Vec F S1408x512 .i32 := View.ld x4 (Rect.unit ![0, 0] S1408x512.size inb_S1408x512_S1408x512_0_0)

/-- The dequantised block. -/
def valsOf (x0 : Vec F S2 .f32) (x2 : Vec F S256x256 .bf16) (x3 : Vec F S512x1024 .bf16) : Vec F S512x1024 .bf16 :=
  tiled (by decide) (by decide) rfl rfl fun (s : Fin 2) (n : Fin 4) => valsT (rotOf x2) (xTile x3 s n) (st0 x0)
/-- The packed codes of the block. -/
def codesOf (x0 : Vec F S2 .f32) (x1 : Vec F S8x128 .i32) (x2 : Vec F S256x256 .bf16) (x3 : Vec F S512x1024 .bf16) : Vec F S1024x256 .i8 :=
  tiled (by decide) (by decide) rfl rfl fun (n : Fin 4) (s : Fin 2) => codesT (rotOf x2) (xTile x3 s n) (st0 x0) (srcRow x1)
/-- Columns `256 n … 256 n + 255` of the accumulator. -/
def dwCols (x5 : Vec F S2816x1024 .f32) (n : Fin 4) : Vec F S2816x256 .f32 :=
  View.ld x5 (Rect.unit ![0, 256 * n.val] S2816x256.size
    (Fin.forall_fin_two.mpr ⟨by show 0 + 2816 ≤ 2816; omega, by show 256 * n.val + 256 ≤ 1024; omega⟩))
/-- Columns `256 n … 256 n + 255` of the dequantised block. -/
def valsCols (x8 : Vec F S512x1024 .bf16) (n : Fin 4) : Vec F S512x256 .bf16 :=
  View.ld x8 (Rect.unit ![0, 256 * n.val] S512x256.size
    (Fin.forall_fin_two.mpr ⟨by show 0 + 512 ≤ 512; omega, by show 256 * n.val + 256 ≤ 1024; omega⟩))
/-- The accumulator after one product is added to it. -/
def dwOf (x4 : Vec F S1408x512 .i32) (x5 : Vec F S2816x1024 .f32) (x8 : Vec F S512x1024 .bf16) : Vec F S2816x1024 .f32 :=
  tiled (by decide) (by decide) rfl rfl fun (_ : Fin 1) (n : Fin 4) => k0_pay6 (dwCols x5 n) (vtOf x4) (valsCols x8 n)

/-- The dequantised block read inside a tile is that tile. -/
theorem valsOf_emb (x0 : Vec F S2 .f32) (x2 : Vec F S256x256 .bf16) (x3 : Vec F S512x1024 .bf16) (s : Fin 2) (n : Fin 4) {o0 o1 : ℕ}
    (inb : ∀ a, (![o0, o1] : Fin 2 → ℕ) a + S256x256.size a ≤ S512x1024.size a) (x : S256x256.Idx)
    (e0 : o0 = 256 * s.val := by rfl) (e1 : o1 = 256 * n.val := by rfl) :
    valsOf x0 x2 x3 ((Rect.unit (s := S512x1024) ![o0, o1] S256x256.size inb).emb x) = valsT (rotOf x2) (xTile x3 s n) (st0 x0) x :=
  tiled_emb (by decide) (by decide) rfl rfl (fun (s : Fin 2) (n : Fin 4) => valsT (rotOf x2) (xTile x3 s n) (st0 x0)) s n e0 e1 inb x
/-- The packed codes read inside a tile are that tile's. -/
theorem codesOf_emb (x0 : Vec F S2 .f32) (x1 : Vec F S8x128 .i32) (x2 : Vec F S256x256 .bf16) (x3 : Vec F S512x1024 .bf16) (s : Fin 2) (n : Fin 4)
    {o0 o1 : ℕ} (inb : ∀ a, (![o0, o1] : Fin 2 → ℕ) a + S256x128.size a ≤ S1024x256.size a) (x : S256x128.Idx)
    (e0 : o0 = 256 * n.val := by rfl) (e1 : o1 = 128 * s.val := by rfl) :
    codesOf x0 x1 x2 x3 ((Rect.unit (s := S1024x256) ![o0, o1] S256x128.size inb).emb x) = codesT (rotOf x2) (xTile x3 s n) (st0 x0) (srcRow x1) x :=
  tiled_emb (by decide) (by decide) rfl rfl (fun (n : Fin 4) (s : Fin 2) => codesT (rotOf x2) (xTile x3 s n) (st0 x0) (srcRow x1)) n s e0 e1 inb x
/-- The accumulator read inside a column tile is that tile's product added. -/
theorem dwOf_emb (x4 : Vec F S1408x512 .i32) (x5 : Vec F S2816x1024 .f32) (x8 : Vec F S512x1024 .bf16) (n : Fin 4) {o1 : ℕ}
    (inb : ∀ a, (![0, o1] : Fin 2 → ℕ) a + S2816x256.size a ≤ S2816x1024.size a) (x : S2816x256.Idx) (e1 : o1 = 256 * n.val := by rfl) :
    dwOf x4 x5 x8 ((Rect.unit (s := S2816x1024) ![0, o1] S2816x256.size inb).emb x) = k0_pay6 (dwCols x5 n) (vtOf x4) (valsCols x8 n) x :=
  tiled_emb (by decide) (by decide) rfl rfl (fun (_ : Fin 1) (n : Fin 4) => k0_pay6 (dwCols x5 n) (vtOf x4) (valsCols x8 n)) 0 n rfl e1 inb x

/-- A scale buffer of 128 rows whose rows `32 j … 32 j + 31` are replaced by two tile rows. -/
def sbufMix (j : ℕ) (T : Fin 2 → Fin 4 → Vec F S16x256 .f32) (x9 : Vec F S128x1024 .f32) : Vec F S128x1024 .f32 := fun y =>
  if (y 0).val / 32 = j then
    T ⟨(y 0).val % 32 / 16, by omega⟩ ⟨(y 1).val / 256, by have h : (y 1).val < 1024 := (y 1).isLt; omega⟩
      (Fin.cons ⟨(y 0).val % 16, Nat.mod_lt _ (by decide)⟩ (Fin.cons ⟨(y 1).val % 256, Nat.mod_lt _ (by decide)⟩ finZeroElim))
  else x9 y

/-- The mixed buffer read inside one of the new tiles is that tile. -/
theorem sbufMix_emb (j : ℕ) (hj : j < 4) (T : Fin 2 → Fin 4 → Vec F S16x256 .f32) (x9 : Vec F S128x1024 .f32) (s : Fin 2) (n : Fin 4) {o0 o1 : ℕ}
    (inb : ∀ a, (![o0, o1] : Fin 2 → ℕ) a + S16x256.size a ≤ S128x1024.size a) (x : S16x256.Idx)
    (e0 : o0 = 32 * j + 16 * s.val := by rfl) (e1 : o1 = 256 * n.val := by rfl) :
    sbufMix j T x9 ((Rect.unit (s := S128x1024) ![o0, o1] S16x256.size inb).emb x) = T s n x := by
  subst e0 e1
  have x0 : (x 0).val < 16 := (x 0).isLt
  have x1 : (x 1).val < 256 := (x 1).isLt
  have v0 : (((Rect.unit (s := S128x1024) ![32 * j + 16 * s.val, 256 * n.val] S16x256.size inb).emb x) 0).val = 32 * j + 16 * s.val + 1 * (x 0).val := rfl
  have v1 : (((Rect.unit (s := S128x1024) ![32 * j + 16 * s.val, 256 * n.val] S16x256.size inb).emb x) 1).val = 256 * n.val + 1 * (x 1).val := rfl
  unfold sbufMix
  rw [if_pos (by rw [v0]; omega)]
  congr 1
  · exact Fin.ext (by show _ % 32 / 16 = _; rw [v0]; omega)
  · exact Fin.ext (by show _ / 256 = _; rw [v1]; omega)
  · funext a
    refine Fin.cases ?_ (fun b => Fin.cases ?_ (fun c => c.elim0) b) a
    · exact Fin.ext (by show _ % 16 = (x 0).val; rw [v0]; omega)
    · exact Fin.ext (by show _ % 256 = (x 1).val; rw [v1]; omega)

/-- The indices of a tile of the scale buffer. -/
theorem mem_scaleTile {o0 o1 : ℕ} (inb : ∀ a, (![o0, o1] : Fin 2 → ℕ) a + (![16, 256] : Fin 2 → ℕ) a ≤ S128x1024.size a) (y : S128x1024.Idx) :
    y ∈ (Rect.unit (s := S128x1024) ![o0, o1] ![16, 256] inb).set
      ↔ (o0 ≤ (y 0).val ∧ (y 0).val < o0 + 16) ∧ (o1 ≤ (y 1).val ∧ (y 1).val < o1 + 256) := by
  rw [Rect.mem_set_unit]
  exact Fin.forall_fin_two

/-- Eight tiles written into the scale buffer, whichever order of offsets names them, leave `sbufMix`. -/
theorem sbuf_tiles {sig : RefSig} {κ : Kind} {sp : Space} (v : View sig κ sp S128x1024 .f32) (f : v.ty.Contents (Elt F)) (j : ℕ) (hj : j < 4)
    (T : Fin 2 → Fin 4 → Vec F S16x256 .f32) {o13 o03 o12 o02 o11 o01 o10 o00 : Fin 2 → ℕ}
    (i13 : ∀ a, o13 a + S16x256.size a ≤ S128x1024.size a) (h13 : o13 = ![32 * j + 16, 768])
    (w13 : (Rect.unit (s := S128x1024) o13 S16x256.size i13).shape.Idx → Elt F .f32) (e13 : w13 = T 1 3)
    (i03 : ∀ a, o03 a + S16x256.size a ≤ S128x1024.size a) (h03 : o03 = ![32 * j + 0, 768])
    (w03 : (Rect.unit (s := S128x1024) o03 S16x256.size i03).shape.Idx → Elt F .f32) (e03 : w03 = T 0 3)
    (i12 : ∀ a, o12 a + S16x256.size a ≤ S128x1024.size a) (h12 : o12 = ![32 * j + 16, 512])
    (w12 : (Rect.unit (s := S128x1024) o12 S16x256.size i12).shape.Idx → Elt F .f32) (e12 : w12 = T 1 2)
    (i02 : ∀ a, o02 a + S16x256.size a ≤ S128x1024.size a) (h02 : o02 = ![32 * j + 0, 512])
    (w02 : (Rect.unit (s := S128x1024) o02 S16x256.size i02).shape.Idx → Elt F .f32) (e02 : w02 = T 0 2)
    (i11 : ∀ a, o11 a + S16x256.size a ≤ S128x1024.size a) (h11 : o11 = ![32 * j + 16, 256])
    (w11 : (Rect.unit (s := S128x1024) o11 S16x256.size i11).shape.Idx → Elt F .f32) (e11 : w11 = T 1 1)
    (i01 : ∀ a, o01 a + S16x256.size a ≤ S128x1024.size a) (h01 : o01 = ![32 * j + 0, 256])
    (w01 : (Rect.unit (s := S128x1024) o01 S16x256.size i01).shape.Idx → Elt F .f32) (e01 : w01 = T 0 1)
    (i10 : ∀ a, o10 a + S16x256.size a ≤ S128x1024.size a) (h10 : o10 = ![32 * j + 16, 0])
    (w10 : (Rect.unit (s := S128x1024) o10 S16x256.size i10).shape.Idx → Elt F .f32) (e10 : w10 = T 1 0)
    (i00 : ∀ a, o00 a + S16x256.size a ≤ S128x1024.size a) (h00 : o00 = ![32 * j + 0, 0])
    (w00 : (Rect.unit (s := S128x1024) o00 S16x256.size i00).shape.Idx → Elt F .f32) (e00 : w00 = T 0 0) :
    v.read (Elt F) (v.writes (Elt F) f [⟨Rect.unit (s := S128x1024) o13 S16x256.size i13, w13⟩, ⟨Rect.unit (s := S128x1024) o03 S16x256.size i03, w03⟩, ⟨Rect.unit (s := S128x1024) o12 S16x256.size i12, w12⟩, ⟨Rect.unit (s := S128x1024) o02 S16x256.size i02, w02⟩, ⟨Rect.unit (s := S128x1024) o11 S16x256.size i11, w11⟩, ⟨Rect.unit (s := S128x1024) o01 S16x256.size i01, w01⟩, ⟨Rect.unit (s := S128x1024) o10 S16x256.size i10, w10⟩, ⟨Rect.unit (s := S128x1024) o00 S16x256.size i00, w00⟩])
      = sbufMix j T (v.read (Elt F) f) := by
  subst h13 e13 h03 e03 h12 e12 h02 e02 h11 e11 h01 e01 h10 e10 h00 e00
  funext y
  have hy0 : (y 0).val < 128 := (y 0).isLt
  have hy1 : (y 1).val < 1024 := (y 1).isLt
  by_cases h : (y 0).val / 32 = j
  · refine View.read_writes_apply_of_pieces v f (sbufMix j T (v.read (Elt F) f)) _ ?_ y ?_
    · simp only [List.forall_mem_cons, List.not_mem_nil, false_imp_iff, implies_true, _root_.and_true]
      exact ⟨fun x => (sbufMix_emb j hj T _ 1 3 i13 x).symm, fun x => (sbufMix_emb j hj T _ 0 3 i03 x).symm, fun x => (sbufMix_emb j hj T _ 1 2 i12 x).symm, fun x => (sbufMix_emb j hj T _ 0 2 i02 x).symm, fun x => (sbufMix_emb j hj T _ 1 1 i11 x).symm, fun x => (sbufMix_emb j hj T _ 0 1 i01 x).symm, fun x => (sbufMix_emb j hj T _ 1 0 i10 x).symm, fun x => (sbufMix_emb j hj T _ 0 0 i00 x).symm⟩
    · have hs : (y 0).val % 32 / 16 = 0 ∨ (y 0).val % 32 / 16 = 1 := by omega
      have hn : (y 1).val / 256 = 0 ∨ (y 1).val / 256 = 1 ∨ (y 1).val / 256 = 2 ∨ (y 1).val / 256 = 3 := by omega
      simp only [List.exists_mem_cons_iff, mem_scaleTile, List.not_mem_nil, _root_.false_and, exists_false, _root_.or_false]
      omega
  · have hmix : sbufMix j T (v.read (Elt F) f) y = v.read (Elt F) f y := if_neg h
    rw [hmix]
    refine View.read_writes_apply_of_forall_not_mem v f y _ ?_
    simp only [List.forall_mem_cons, List.not_mem_nil, false_imp_iff, implies_true, _root_.and_true, mem_scaleTile]
    omega

/-! ## The loads of the body as these parts of what it finds -/

section Loads
theorem ld_st0 (X : Vec F S2 .f32) (h) : View.ld X (Rect.unit ![0] S1.size inb_S2_S1_0) (Shape.Idx.first h) = st0 X := rfl
theorem ld_st1 (X : Vec F S2 .f32) (h) : View.ld X (Rect.unit ![1] S1.size inb_S2_S1_1) (Shape.Idx.first h) = st1 X := rfl
theorem ld_rot (X : Vec F S256x256 .bf16) : View.ld X (Rect.unit ![0, 0] S256x256.size inb_S256x256_S256x256_0_0) = rotOf X := rfl
theorem ld_vt (X : Vec F S1408x512 .i32) : View.ld X (Rect.unit ![0, 0] S1408x512.size inb_S1408x512_S1408x512_0_0) = vtOf X := rfl
theorem ld_src (X : Vec F S8x128 .i32) : View.ld X (Rect.unit ![0, 0] S1x128.size inb_S8x128_S1x128_0_0) = srcRow X := rfl
theorem ld_x00 (X : Vec F S512x1024 .bf16) : View.ld X (Rect.unit ![0, 0] S256x256.size inb_S512x1024_S256x256_0_0) = xTile X 0 0 := rfl
theorem ld_x01 (X : Vec F S512x1024 .bf16) : View.ld X (Rect.unit ![0, 256] S256x256.size inb_S512x1024_S256x256_0_256) = xTile X 0 1 := rfl
theorem ld_x02 (X : Vec F S512x1024 .bf16) : View.ld X (Rect.unit ![0, 512] S256x256.size inb_S512x1024_S256x256_0_512) = xTile X 0 2 := rfl
theorem ld_x03 (X : Vec F S512x1024 .bf16) : View.ld X (Rect.unit ![0, 768] S256x256.size inb_S512x1024_S256x256_0_768) = xTile X 0 3 := rfl
theorem ld_x10 (X : Vec F S512x1024 .bf16) : View.ld X (Rect.unit ![256, 0] S256x256.size inb_S512x1024_S256x256_256_0) = xTile X 1 0 := rfl
theorem ld_x11 (X : Vec F S512x1024 .bf16) : View.ld X (Rect.unit ![256, 256] S256x256.size inb_S512x1024_S256x256_256_256) = xTile X 1 1 := rfl
theorem ld_x12 (X : Vec F S512x1024 .bf16) : View.ld X (Rect.unit ![256, 512] S256x256.size inb_S512x1024_S256x256_256_512) = xTile X 1 2 := rfl
theorem ld_x13 (X : Vec F S512x1024 .bf16) : View.ld X (Rect.unit ![256, 768] S256x256.size inb_S512x1024_S256x256_256_768) = xTile X 1 3 := rfl
end Loads

/-! ## Loads of a buffer some tiles of which were just stored -/

section Cov
variable {sig : RefSig} {κ : Kind} {sp : Space} {d : Fin 2 → ℕ} {e : EltTy} {Val : EltTy → Type}

/-- A load of columns none of which the newest piece holds is the load of what was there before. -/
theorem readCov_miss [∀ e, Nonempty (Val e)] (v : View sig κ sp (⟨2, d⟩ : Shape) e) {o o' z z' : Fin 2 → ℕ} (inb : ∀ a : Fin 2, o a + z a ≤ d a)
    (inb' : ∀ a : Fin 2, o' a + z' a ≤ d a) (w : (Rect.unit (s := ⟨2, d⟩) o z inb).shape.Idx → Val e) (L : List (View.Piece Val ⟨2, d⟩ e))
    (h : o 1 + z 1 ≤ o' 1 ∨ o' 1 + z' 1 ≤ o 1) :
    v.readCov (⟨Rect.unit (s := ⟨2, d⟩) o z inb, w⟩ :: L) (Rect.unit (s := ⟨2, d⟩) o' z' inb').toLoadRect
      = v.readCov L (Rect.unit (s := ⟨2, d⟩) o' z' inb').toLoadRect := by
  funext x
  refine View.read_writes_cons_unit_of_not_mem v v.junk inb w L _ rfl 1 ?_
  have hx : (x 1).val < z' 1 := (x 1).isLt
  show o' 1 + 1 * (x 1).val < o 1 ∨ o 1 + z 1 ≤ o' 1 + 1 * (x 1).val
  omega

/-- A load of a buffer stored whole is the load of what was stored. -/
theorem readCov_base [∀ e, Nonempty (Val e)] (v : View sig κ sp (⟨2, d⟩ : Shape) e) {o o' z' : Fin 2 → ℕ} (inb : ∀ a : Fin 2, o a + d a ≤ d a)
    (inb' : ∀ a : Fin 2, o' a + z' a ≤ d a) (w : (Rect.unit (s := ⟨2, d⟩) o d inb).shape.Idx → Val e) :
    v.readCov [⟨Rect.unit (s := ⟨2, d⟩) o d inb, w⟩] (Rect.unit (s := ⟨2, d⟩) o' z' inb').toLoadRect = View.ld w (Rect.unit (s := ⟨2, d⟩) o' z' inb') := by
  funext x
  exact congrFun (View.read_writes_full v v.junk inb w []) _

/-- A load of a buffer whose stores leave `X` whatever was there before reads `X`. -/
theorem readCov_all {s : Shape} [∀ e, Nonempty (Val e)] (v : View sig κ sp s e) (L : List (View.Piece Val s e)) (X : s.Idx → Val e)
    (h : ∀ f, v.read Val (v.writes Val f L) = X) (r : Rect s) : v.readCov L r.toLoadRect = View.ld X r := by
  rw [← h v.junk]; rfl

/-- Stores over a first store of the whole are stores over what it left. -/
theorem writes_over4 {s : Shape} (v : View sig κ sp s e) (f : v.ty.Contents Val) (a b c d z : View.Piece Val s e) :
    v.writes Val f [a, b, c, d, z] = v.writes Val (v.writes Val f [z]) [a, b, c, d] := rfl
theorem writes_over8 {s : Shape} (v : View sig κ sp s e) (f : v.ty.Contents Val) (a b c d a' b' c' d' z : View.Piece Val s e) :
    v.writes Val f [a, b, c, d, a', b', c', d', z] = v.writes Val (v.writes Val f [z]) [a, b, c, d, a', b', c', d'] := rfl
end Cov

/-- The accumulator scaled by the two tensor scales. -/
def dwEnd (x0 : Vec F S2 .f32) (x5 : Vec F S2816x1024 .f32) : Vec F S2816x1024 .f32 :=
  k0_pay3 (View.ld x5 (Rect.unit ![0, 0] S2816x1024.size inb_S2816x1024_S2816x1024_0_0)) (st1 x0) (st0 x0)
/-- The finished scales of 128 groups, channels by rows. -/
def sbOut (x9 : Vec F S128x1024 .f32) : Vec F S1024x128 .fp8e4m3 :=
  k0_pay2 (View.ld x9 (Rect.unit ![0, 0] S128x1024.size inb_S128x1024_S128x1024_0_0))

/-- The tiles of scales of the step's block. -/
def sbTiles (x0 : Vec F S2 .f32) (x2 : Vec F S256x256 .bf16) (x3 : Vec F S512x1024 .bf16) (s : Fin 2) (n : Fin 4) : Vec F S16x256 .f32 :=
  k0_pay24 (sbT (rotOf x2) (xTile x3 s n) (st0 x0))

/-- What one run of the kernel body does: from the five inputs' buffers at `x0 … x4` and the other five at
`x5 … x9` it runs to its end with the inputs' buffers as they were and the others at `y5 … y9`. -/
def BodyTriple (c : Dev nD) (i : grid0.Coords)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)
    (y5 : Vec F S2816x1024 .f32) (y6 : Vec F S1024x256 .i8) (y7 : Vec F S1024x128 .fp8e4m3) (y8 : Vec F S512x1024 .bf16) (y9 : Vec F S128x1024 .f32) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare y9) -∗ K ⟨⟩))
      ⊢ wp frame (wpE (defs₀ (F := F)) Variants.none c none) E (cc0_main i arg1 harg1 arg2 harg2 arg3 harg3 arg4 harg4 arg5 harg5 arg6 harg6 arg7 harg7 arg8 harg8 arg9 harg9 arg10 harg10) K

end Cert.Kernel.Gen

end
-- ==== Proof.BitsRun.RunA.lean ====
module

public import proofs.«01_k».proof.Proof.BitsRun.Step

/-! The first step: the accumulator and the values are zero-filled, then the step runs as any other. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_A (h1 : isFirst (grid0.coords t)) (h2 : startsBlock (grid0.coords t)) (h3 : k0_cond3 (grid0.coords t) = 1#1) (h4 : ¬k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 k0_pay5 k0_pay4) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    dsimp only [run_A.sl.H5_1, run_A.sl.H5_2, run_A.sl.H5_3, run_A.sl.H5_4]
    rw [writes_over4]
    funext y
    refine View.read_writes_apply_of_pieces _ _ (dwOf (arg5.view.read (Elt F) f4) (k0_pay5) (k0_pay4)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, View.readAt_eq_ld, ld_st0, ld_st1, ld_rot, ld_vt, ld_src, ld_x00,
        ld_x01, ld_x02, ld_x03, ld_x10, ld_x11, ld_x12, ld_x13, k0_pay7, k0_pay8, k0_pay9, k0_pay10, k0_pay11, k0_pay12, k0_pay13,
        k0_pay14, k0_pay15, k0_pay16, k0_pay17, k0_pay18, k0_pay19, k0_pay20, k0_pay21, k0_pay22, k0_pay23, k0_pay24, k0_pay25, k0_pay26,
        k0_pay27, k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51, k0_pay52,
        k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114,
        k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147,
        k0_pay148, k0_pay149, k0_pay1]
      all_goals simp (disch := decide) only [readCov_miss, readCov_base]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    dsimp only [run_A.sl.H8_1, run_A.sl.H8_3, run_A.sl.H8_5, run_A.sl.H8_7]
    rw [writes_over8]
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_A.sl.H5_1, run_A.sl.H5_2, run_A.sl.H5_3, run_A.sl.H5_4, run_A.sl.H8_1, run_A.sl.H8_3, run_A.sl.H8_5, run_A.sl.H8_7,
        run_A.sl.cst_76, run_A.sl.cst_173, run_A.sl.cst_192, run_A.sl.cst_303, run_A.sl.cst_446, run_A.sl.cst_539, run_A.sl.cst_571,
        run_A.sl.r, run_A.sl.r_1, run_A.sl.r_2, run_A.sl.r_3, run_A.sl.r_4, run_A.sl.r_5, run_A.sl.r_6, run_A.sl.r_7, run_A.sl.r_8,
        run_A.sl.r_9, run_A.sl.r_10, run_A.sl.r_11, run_A.sl.r_12, run_A.sl.r_13, run_A.sl.r_14, run_A.sl.r_15, run_A.sl.r_16,
        run_A.sl.r_17, run_A.sl.r_18, run_A.sl.r_19, run_A.sl.r_20, run_A.sl.r_21, run_A.sl.r_22, run_A.sl.r_23, run_A.sl.r_24,
        run_A.sl.r_25, run_A.sl.r_26, run_A.sl.r_27, run_A.sl.r_28, run_A.sl.r_29, run_A.sl.r_30, run_A.sl.r_31, run_A.sl.r_32,
        run_A.sl.r_33, run_A.sl.r_34, run_A.sl.r_35, run_A.sl.r_36, run_A.sl.r_37, run_A.sl.r_38, run_A.sl.r_39, run_A.sl.r_40,
        run_A.sl.r_41, run_A.sl.r_42, run_A.sl.r_43, run_A.sl.r_44, run_A.sl.r_45, run_A.sl.r_46, run_A.sl.r_47, run_A.sl.r_48,
        run_A.sl.r_49, run_A.sl.r_50, run_A.sl.r_51, run_A.sl.r_52, run_A.sl.r_53, run_A.sl.r_54, run_A.sl.r_55, run_A.sl.r_56,
        run_A.sl.r_57, run_A.sl.r_58, run_A.sl.r_59, run_A.sl.r_60, run_A.sl.r_61, run_A.sl.r_62, run_A.sl.r_63, run_A.sl.r_64,
        run_A.sl.r_65, run_A.sl.r_66, run_A.sl.r_67, run_A.sl.r_68, run_A.sl.r_69, run_A.sl.r_70, run_A.sl.r_71, run_A.sl.r_72,
        run_A.sl.r_73, run_A.sl.r_74, run_A.sl.r_75, run_A.sl.r_76, run_A.sl.r_77, run_A.sl.r_78, run_A.sl.r_79, run_A.sl.r_80,
        run_A.sl.r_81, run_A.sl.r_82, run_A.sl.r_83, run_A.sl.r_84, run_A.sl.r_85, run_A.sl.r_86, run_A.sl.r_87, run_A.sl.r_88,
        run_A.sl.r_89, run_A.sl.r_90, run_A.sl.r_91, run_A.sl.r_92, run_A.sl.r_93, run_A.sl.r_94, run_A.sl.r_95, run_A.sl.r_96,
        run_A.sl.r_97, run_A.sl.r_98, run_A.sl.r_99, run_A.sl.r_100, run_A.sl.r_101, run_A.sl.r_102, run_A.sl.r_103, run_A.sl.r_104,
        run_A.sl.r_105, run_A.sl.v2, run_A.sl.v3, run_A.sl.v4, run_A.sl.v6, run_A.sl.v7, run_A.sl.v8, run_A.sl.v9, run_A.sl.v10,
        run_A.sl.v11, run_A.sl.v14, run_A.sl.v15, run_A.sl.v16, run_A.sl.v18, run_A.sl.v19, run_A.sl.v20, run_A.sl.v21, run_A.sl.v22,
        run_A.sl.v23, run_A.sl.v24, run_A.sl.v25, run_A.sl.v27, run_A.sl.v28, run_A.sl.v29, run_A.sl.v32, run_A.sl.v33, run_A.sl.v34,
        run_A.sl.v36, run_A.sl.v37, run_A.sl.v38, run_A.sl.v39, run_A.sl.v40, run_A.sl.v41, run_A.sl.v45, run_A.sl.v395, run_A.sl.v399,
        run_A.sl.v749, run_A.sl.v753, run_A.sl.v890, run_A.sl.v891, run_A.sl.v892, run_A.sl.v893, run_A.sl.v894, run_A.sl.v895,
        run_A.sl.v896, run_A.sl.v897, run_A.sl.v898, run_A.sl.v899, run_A.sl.v900, run_A.sl.v902, run_A.sl.v904, run_A.sl.v905,
        run_A.sl.v906, run_A.sl.v907, run_A.sl.v908, run_A.sl.v909, run_A.sl.v910, run_A.sl.v912, run_A.sl.v913, run_A.sl.v914,
        run_A.sl.v915, run_A.sl.v916, run_A.sl.v917, run_A.sl.v918, run_A.sl.v919, run_A.sl.v920, run_A.sl.v921, run_A.sl.v922,
        run_A.sl.v923, run_A.sl.v924, run_A.sl.v925, run_A.sl.v926, run_A.sl.v927, run_A.sl.v928, run_A.sl.v931, run_A.sl.v1057,
        run_A.sl.v1058, run_A.sl.v1059, run_A.sl.v1060, run_A.sl.v1061, run_A.sl.v1063, run_A.sl.v1064, run_A.sl.v1066, run_A.sl.v1067,
        run_A.sl.v1069, run_A.sl.v1070, run_A.sl.v1071, run_A.sl.v1073, run_A.sl.v1075, run_A.sl.v1077, run_A.sl.v1078, run_A.sl.v1080,
        run_A.sl.v1081, run_A.sl.v1083, run_A.sl.v1085, run_A.sl.v1086, run_A.sl.v1087, run_A.sl.v1088, run_A.sl.v1089, run_A.sl.v1090,
        run_A.sl.v1100, run_A.sl.v1101, run_A.sl.v1103, run_A.sl.v1107, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
    all_goals rfl

end Cert.Kernel.Gen

end
-- ==== Proof.BitsRun.RunB.lean ====
module

public import proofs.«01_k».proof.Proof.BitsRun.Step

/-! The first multiplying step of a column block: the accumulator is zero-filled first. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_B (h1 : ¬isFirst (grid0.coords t)) (h2 : startsBlock (grid0.coords t)) (h3 : k0_cond3 (grid0.coords t) = 1#1) (h4 : ¬k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 k0_pay5 x8) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    dsimp only [run_B.sl.H5_1, run_B.sl.H5_2, run_B.sl.H5_3, run_B.sl.H5_4]
    rw [writes_over4]
    funext y
    refine View.read_writes_apply_of_pieces _ _ (dwOf (arg5.view.read (Elt F) f4) (k0_pay5) (arg9.view.read (Elt F) f8)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, View.readAt_eq_ld, ld_st0, ld_st1,
        ld_rot, ld_vt, ld_src, ld_x00, ld_x01, ld_x02, ld_x03, ld_x10, ld_x11, ld_x12, ld_x13, k0_pay7, k0_pay8, k0_pay9, k0_pay10,
        k0_pay11, k0_pay12, k0_pay13, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33, k0_pay34, k0_pay35, k0_pay36,
        k0_pay37, k0_pay38, k0_pay39, k0_pay40, k0_pay41, k0_pay42, k0_pay43, k0_pay44, k0_pay45, k0_pay46, k0_pay47, k0_pay48, k0_pay49,
        k0_pay50, k0_pay51, k0_pay52, k0_pay53, k0_pay54, k0_pay55, k0_pay56, k0_pay57, k0_pay58, k0_pay59, k0_pay60, k0_pay61, k0_pay62,
        k0_pay63, k0_pay64, k0_pay65, k0_pay66, k0_pay67, k0_pay68, k0_pay69, k0_pay70, k0_pay71, k0_pay72, k0_pay73, k0_pay74, k0_pay75,
        k0_pay76, k0_pay77, k0_pay78, k0_pay79, k0_pay80, k0_pay81, k0_pay82, k0_pay83, k0_pay84, k0_pay85, k0_pay86, k0_pay87, k0_pay88,
        k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120, k0_pay121, k0_pay122,
        k0_pay123, k0_pay124, k0_pay125, k0_pay126, k0_pay127, k0_pay128, k0_pay129, k0_pay130, k0_pay131, k0_pay132, k0_pay133,
        k0_pay134, k0_pay135, k0_pay136, k0_pay137, k0_pay138, k0_pay139, k0_pay140, k0_pay141, k0_pay142, k0_pay143, k0_pay144,
        k0_pay145, k0_pay146, k0_pay147, k0_pay148, k0_pay149, k0_pay1]
      all_goals simp (disch := decide) only [readCov_miss, readCov_base]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_B.sl.H5_1, run_B.sl.H5_2, run_B.sl.H5_3, run_B.sl.H5_4, run_B.sl.cst_76, run_B.sl.cst_173, run_B.sl.cst_192, run_B.sl.cst_303,
        run_B.sl.cst_446, run_B.sl.cst_539, run_B.sl.cst_571, run_B.sl.r, run_B.sl.r_1, run_B.sl.r_2, run_B.sl.r_3, run_B.sl.r_4,
        run_B.sl.r_5, run_B.sl.r_6, run_B.sl.r_7, run_B.sl.r_8, run_B.sl.r_9, run_B.sl.r_10, run_B.sl.r_11, run_B.sl.r_12, run_B.sl.r_13,
        run_B.sl.r_14, run_B.sl.r_15, run_B.sl.r_16, run_B.sl.r_17, run_B.sl.r_18, run_B.sl.r_19, run_B.sl.r_20, run_B.sl.r_21,
        run_B.sl.r_22, run_B.sl.r_23, run_B.sl.r_24, run_B.sl.r_25, run_B.sl.r_26, run_B.sl.r_27, run_B.sl.r_28, run_B.sl.r_29,
        run_B.sl.r_30, run_B.sl.r_31, run_B.sl.r_32, run_B.sl.r_33, run_B.sl.r_34, run_B.sl.r_35, run_B.sl.r_36, run_B.sl.r_37,
        run_B.sl.r_38, run_B.sl.r_39, run_B.sl.r_40, run_B.sl.r_41, run_B.sl.r_42, run_B.sl.r_43, run_B.sl.r_44, run_B.sl.r_45,
        run_B.sl.r_46, run_B.sl.r_47, run_B.sl.r_48, run_B.sl.r_49, run_B.sl.r_50, run_B.sl.r_51, run_B.sl.r_52, run_B.sl.r_53,
        run_B.sl.r_54, run_B.sl.r_55, run_B.sl.r_56, run_B.sl.r_57, run_B.sl.r_58, run_B.sl.r_59, run_B.sl.r_60, run_B.sl.r_61,
        run_B.sl.r_62, run_B.sl.r_63, run_B.sl.r_64, run_B.sl.r_65, run_B.sl.r_66, run_B.sl.r_67, run_B.sl.r_68, run_B.sl.r_69,
        run_B.sl.r_70, run_B.sl.r_71, run_B.sl.r_72, run_B.sl.r_73, run_B.sl.r_74, run_B.sl.r_75, run_B.sl.r_76, run_B.sl.r_77,
        run_B.sl.r_78, run_B.sl.r_79, run_B.sl.r_80, run_B.sl.r_81, run_B.sl.r_82, run_B.sl.r_83, run_B.sl.r_84, run_B.sl.r_85,
        run_B.sl.r_86, run_B.sl.r_87, run_B.sl.r_88, run_B.sl.r_89, run_B.sl.r_90, run_B.sl.r_91, run_B.sl.r_92, run_B.sl.r_93,
        run_B.sl.r_94, run_B.sl.r_95, run_B.sl.r_96, run_B.sl.r_97, run_B.sl.r_98, run_B.sl.r_99, run_B.sl.r_100, run_B.sl.r_101,
        run_B.sl.r_102, run_B.sl.r_103, run_B.sl.r_104, run_B.sl.r_105, run_B.sl.v2, run_B.sl.v3, run_B.sl.v4, run_B.sl.v6, run_B.sl.v7,
        run_B.sl.v8, run_B.sl.v9, run_B.sl.v10, run_B.sl.v11, run_B.sl.v14, run_B.sl.v15, run_B.sl.v16, run_B.sl.v18, run_B.sl.v19,
        run_B.sl.v20, run_B.sl.v21, run_B.sl.v22, run_B.sl.v23, run_B.sl.v24, run_B.sl.v25, run_B.sl.v27, run_B.sl.v28, run_B.sl.v29,
        run_B.sl.v32, run_B.sl.v33, run_B.sl.v34, run_B.sl.v36, run_B.sl.v37, run_B.sl.v38, run_B.sl.v39, run_B.sl.v40, run_B.sl.v41,
        run_B.sl.v395, run_B.sl.v399, run_B.sl.v749, run_B.sl.v753, run_B.sl.v890, run_B.sl.v891, run_B.sl.v892, run_B.sl.v893,
        run_B.sl.v894, run_B.sl.v895, run_B.sl.v896, run_B.sl.v897, run_B.sl.v898, run_B.sl.v899, run_B.sl.v900, run_B.sl.v902,
        run_B.sl.v904, run_B.sl.v905, run_B.sl.v906, run_B.sl.v907, run_B.sl.v908, run_B.sl.v909, run_B.sl.v910, run_B.sl.v912,
        run_B.sl.v913, run_B.sl.v914, run_B.sl.v915, run_B.sl.v916, run_B.sl.v917, run_B.sl.v918, run_B.sl.v919, run_B.sl.v920,
        run_B.sl.v921, run_B.sl.v922, run_B.sl.v923, run_B.sl.v924, run_B.sl.v925, run_B.sl.v926, run_B.sl.v927, run_B.sl.v928,
        run_B.sl.v931, run_B.sl.v1057, run_B.sl.v1058, run_B.sl.v1059, run_B.sl.v1060, run_B.sl.v1061, run_B.sl.v1063, run_B.sl.v1064,
        run_B.sl.v1066, run_B.sl.v1067, run_B.sl.v1069, run_B.sl.v1070, run_B.sl.v1071, run_B.sl.v1073, run_B.sl.v1075, run_B.sl.v1077,
        run_B.sl.v1078, run_B.sl.v1080, run_B.sl.v1081, run_B.sl.v1083, run_B.sl.v1085, run_B.sl.v1086, run_B.sl.v1087, run_B.sl.v1088,
        run_B.sl.v1089, run_B.sl.v1090, run_B.sl.v1100, run_B.sl.v1101, run_B.sl.v1103, run_B.sl.v1107, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
    all_goals rfl

end Cert.Kernel.Gen

end
-- ==== Proof.BitsRun.RunC.lean ====
module

public import proofs.«01_k».proof.Proof.BitsRun.Step

/-! A step that ends a group of four: the finished scales go out. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_C (h1 : ¬isFirst (grid0.coords t)) (h2 : ¬startsBlock (grid0.coords t)) (h3 : k0_cond3 (grid0.coords t) = 1#1) (h4 : k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 x5 x8) (codesOf x0 x1 x2 x3) (sbOut (sbufMix (t.val % 4) (sbTiles x0 x2 x3) x9)) (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    funext y
    refine View.read_writes_apply_of_pieces _ _ (dwOf (arg5.view.read (Elt F) f4) (arg6.view.read (Elt F) f5) (arg9.view.read (Elt F) f8)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, View.readAt_eq_ld, ld_st0, ld_st1, ld_rot, ld_vt, ld_src, ld_x00,
        ld_x01, ld_x02, ld_x03, ld_x10, ld_x11, ld_x12, ld_x13, k0_pay7, k0_pay8, k0_pay9, k0_pay10, k0_pay11, k0_pay12, k0_pay13,
        k0_pay14, k0_pay15, k0_pay16, k0_pay17, k0_pay18, k0_pay19, k0_pay20, k0_pay21, k0_pay22, k0_pay23, k0_pay24, k0_pay25, k0_pay26,
        k0_pay27, k0_pay28, k0_pay29, k0_pay30, k0_pay31, k0_pay32, k0_pay33, k0_pay34, k0_pay35, k0_pay36, k0_pay37, k0_pay38, k0_pay39,
        k0_pay40, k0_pay41, k0_pay42, k0_pay43, k0_pay44, k0_pay45, k0_pay46, k0_pay47, k0_pay48, k0_pay49, k0_pay50, k0_pay51, k0_pay52,
        k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114,
        k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147,
        k0_pay148, k0_pay149, k0_pay1]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    have hd : arg10.view.read (Elt F) (arg10.view.writes (Elt F) f9 (run_C.sl.H9_8 c t arg1 arg3 arg4 f0 f2 f3)) = sbufMix (t.val % 4) (sbTiles (arg1.view.read (Elt F) f0) (arg3.view.read (Elt F) f2) (arg4.view.read (Elt F) f3)) (arg10.view.read (Elt F) f9) := by
      dsimp only [run_C.sl.H9_8]
      refine sbuf_tiles _ _ (t.val % 4) (Nat.mod_lt _ (by decide)) (sbTiles (arg1.view.read (Elt F) f0) (arg3.view.read (Elt F) f2) (arg4.view.read (Elt F) f3))
        _ (off4_eq t).2 _ ?_
        _ (off4_eq t).1 _ ?_
        _ (off3_eq t).2 _ ?_
        _ (off3_eq t).1 _ ?_
        _ (off2_eq t).2 _ ?_
        _ (off2_eq t).1 _ ?_
        _ (off1_eq t).2 _ ?_
        _ (off1_eq t).1 _ ?_
      all_goals dsimp only [run_C.sl.cst_76, run_C.sl.cst_173, run_C.sl.cst_192, run_C.sl.cst_303, run_C.sl.cst_446, run_C.sl.cst_539,
          run_C.sl.cst_571, run_C.sl.r, run_C.sl.r_1, run_C.sl.r_2, run_C.sl.r_3, run_C.sl.r_4, run_C.sl.r_5, run_C.sl.r_6, run_C.sl.r_7,
          run_C.sl.r_8, run_C.sl.r_9, run_C.sl.r_10, run_C.sl.r_11, run_C.sl.r_12, run_C.sl.r_13, run_C.sl.r_14, run_C.sl.r_15,
          run_C.sl.r_16, run_C.sl.r_17, run_C.sl.r_18, run_C.sl.r_19, run_C.sl.r_20, run_C.sl.r_21, run_C.sl.r_22, run_C.sl.r_23,
          run_C.sl.r_24, run_C.sl.r_25, run_C.sl.r_26, run_C.sl.r_27, run_C.sl.r_28, run_C.sl.r_29, run_C.sl.r_30, run_C.sl.r_31,
          run_C.sl.r_32, run_C.sl.r_33, run_C.sl.r_34, run_C.sl.r_35, run_C.sl.r_36, run_C.sl.r_37, run_C.sl.r_38, run_C.sl.r_39,
          run_C.sl.r_40, run_C.sl.r_41, run_C.sl.r_42, run_C.sl.r_43, run_C.sl.r_44, run_C.sl.r_45, run_C.sl.r_46, run_C.sl.r_47,
          run_C.sl.r_48, run_C.sl.r_49, run_C.sl.r_50, run_C.sl.r_51, run_C.sl.r_52, run_C.sl.r_53, run_C.sl.r_54, run_C.sl.r_55,
          run_C.sl.r_56, run_C.sl.r_57, run_C.sl.r_58, run_C.sl.r_59, run_C.sl.r_60, run_C.sl.r_61, run_C.sl.r_62, run_C.sl.r_63,
          run_C.sl.r_64, run_C.sl.r_65, run_C.sl.r_66, run_C.sl.r_67, run_C.sl.r_68, run_C.sl.r_69, run_C.sl.r_70, run_C.sl.r_71,
          run_C.sl.r_72, run_C.sl.r_73, run_C.sl.r_74, run_C.sl.r_75, run_C.sl.r_76, run_C.sl.r_77, run_C.sl.r_78, run_C.sl.r_79,
          run_C.sl.r_80, run_C.sl.r_81, run_C.sl.r_82, run_C.sl.r_83, run_C.sl.r_84, run_C.sl.r_85, run_C.sl.r_86, run_C.sl.r_87,
          run_C.sl.r_88, run_C.sl.r_89, run_C.sl.r_90, run_C.sl.r_91, run_C.sl.r_92, run_C.sl.r_93, run_C.sl.r_94, run_C.sl.r_95,
          run_C.sl.r_96, run_C.sl.r_97, run_C.sl.r_98, run_C.sl.r_99, run_C.sl.r_100, run_C.sl.r_101, run_C.sl.r_102, run_C.sl.r_103,
          run_C.sl.r_104, run_C.sl.r_105, run_C.sl.v2, run_C.sl.v3, run_C.sl.v4, run_C.sl.v6, run_C.sl.v7, run_C.sl.v8, run_C.sl.v9,
          run_C.sl.v10, run_C.sl.v11, run_C.sl.v14, run_C.sl.v15, run_C.sl.v16, run_C.sl.v18, run_C.sl.v19, run_C.sl.v20, run_C.sl.v21,
          run_C.sl.v22, run_C.sl.v23, run_C.sl.v24, run_C.sl.v25, run_C.sl.v27, run_C.sl.v28, run_C.sl.v29, run_C.sl.v32, run_C.sl.v33,
          run_C.sl.v34, run_C.sl.v36, run_C.sl.v37, run_C.sl.v38, run_C.sl.v39, run_C.sl.v40, run_C.sl.v395, run_C.sl.v399, run_C.sl.v749,
          run_C.sl.v753, run_C.sl.v890, run_C.sl.v891, run_C.sl.v892, run_C.sl.v893, run_C.sl.v894, run_C.sl.v895, run_C.sl.v896,
          run_C.sl.v897, run_C.sl.v898, run_C.sl.v899, run_C.sl.v900, run_C.sl.v902, run_C.sl.v904, run_C.sl.v905, run_C.sl.v906,
          run_C.sl.v907, run_C.sl.v908, run_C.sl.v909, run_C.sl.v910, run_C.sl.v912, run_C.sl.v913, run_C.sl.v914, run_C.sl.v915,
          run_C.sl.v916, run_C.sl.v917, run_C.sl.v918, run_C.sl.v919, run_C.sl.v920, run_C.sl.v921, run_C.sl.v922, run_C.sl.v923,
          run_C.sl.v924, run_C.sl.v925, run_C.sl.v926, run_C.sl.v927, run_C.sl.v928, run_C.sl.v931, run_C.sl.v1057, run_C.sl.v1058,
          run_C.sl.v1059, run_C.sl.v1060, run_C.sl.v1061, run_C.sl.v1063, run_C.sl.v1064, run_C.sl.v1066, run_C.sl.v1067, run_C.sl.v1069,
          run_C.sl.v1070, run_C.sl.v1071, run_C.sl.v1073, run_C.sl.v1075, run_C.sl.v1077, run_C.sl.v1078, run_C.sl.v1080, run_C.sl.v1081,
          run_C.sl.v1083, run_C.sl.v1085, run_C.sl.v1086, run_C.sl.v1087, run_C.sl.v1088, run_C.sl.v1089, run_C.sl.v1090, run_C.sl.v1100,
          run_C.sl.v1101, run_C.sl.v1103, run_C.sl.v1107, run_C.sl.v1478, codesT, valsT, nibT, vT, mT, sbT, sbTiles, View.readAt_eq_ld,
          ld_st0, ld_st1, ld_rot, ld_vt, ld_src, ld_x00, ld_x01, ld_x02, ld_x03, ld_x10, ld_x11, ld_x12, ld_x13, k0_pay6, k0_pay7, k0_pay8,
          k0_pay9, k0_pay10, k0_pay11, k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31, k0_pay32, k0_pay33, k0_pay34,
          k0_pay35, k0_pay36, k0_pay37, k0_pay38, k0_pay39, k0_pay40, k0_pay41, k0_pay42, k0_pay43, k0_pay44, k0_pay45, k0_pay46, k0_pay47,
          k0_pay48, k0_pay49, k0_pay50, k0_pay51, k0_pay52, k0_pay53, k0_pay54, k0_pay55, k0_pay56, k0_pay57, k0_pay58, k0_pay59, k0_pay60,
          k0_pay61, k0_pay62, k0_pay63, k0_pay64, k0_pay65, k0_pay66, k0_pay67, k0_pay68, k0_pay69, k0_pay70, k0_pay71, k0_pay72, k0_pay73,
          k0_pay74, k0_pay75, k0_pay76, k0_pay77, k0_pay78, k0_pay79, k0_pay80, k0_pay81, k0_pay82, k0_pay83, k0_pay84, k0_pay85, k0_pay86,
          k0_pay87, k0_pay88, k0_pay89, k0_pay90, k0_pay91, k0_pay92, k0_pay93, k0_pay94, k0_pay95, k0_pay96, k0_pay97, k0_pay98, k0_pay99,
          k0_pay100, k0_pay101, k0_pay102, k0_pay103, k0_pay104, k0_pay105, k0_pay106, k0_pay107, k0_pay108, k0_pay109, k0_pay110,
          k0_pay111, k0_pay112, k0_pay113, k0_pay114, k0_pay115, k0_pay116, k0_pay117, k0_pay118, k0_pay119, k0_pay120, k0_pay121,
          k0_pay122, k0_pay123, k0_pay124, k0_pay125, k0_pay126, k0_pay127, k0_pay128, k0_pay129, k0_pay130, k0_pay131, k0_pay132,
          k0_pay133, k0_pay134, k0_pay135, k0_pay136, k0_pay137, k0_pay138, k0_pay139, k0_pay140, k0_pay141, k0_pay142, k0_pay143,
          k0_pay144, k0_pay145, k0_pay146, k0_pay147, k0_pay148, k0_pay149, k0_pay1]
      all_goals rfl
    refine (View.read_writes_full _ _ _ _ _).trans ?_
    dsimp only [run_C.sl.v1478, View.readAt_eq_ld, sbOut]
    rw [hd]
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_C.sl.H9_8, run_C.sl.cst_76, run_C.sl.cst_173, run_C.sl.cst_192, run_C.sl.cst_303, run_C.sl.cst_446, run_C.sl.cst_539,
        run_C.sl.cst_571, run_C.sl.r, run_C.sl.r_1, run_C.sl.r_2, run_C.sl.r_3, run_C.sl.r_4, run_C.sl.r_5, run_C.sl.r_6, run_C.sl.r_7,
        run_C.sl.r_8, run_C.sl.r_9, run_C.sl.r_10, run_C.sl.r_11, run_C.sl.r_12, run_C.sl.r_13, run_C.sl.r_14, run_C.sl.r_15,
        run_C.sl.r_16, run_C.sl.r_17, run_C.sl.r_18, run_C.sl.r_19, run_C.sl.r_20, run_C.sl.r_21, run_C.sl.r_22, run_C.sl.r_23,
        run_C.sl.r_24, run_C.sl.r_25, run_C.sl.r_26, run_C.sl.r_27, run_C.sl.r_28, run_C.sl.r_29, run_C.sl.r_30, run_C.sl.r_31,
        run_C.sl.r_32, run_C.sl.r_33, run_C.sl.r_34, run_C.sl.r_35, run_C.sl.r_36, run_C.sl.r_37, run_C.sl.r_38, run_C.sl.r_39,
        run_C.sl.r_40, run_C.sl.r_41, run_C.sl.r_42, run_C.sl.r_43, run_C.sl.r_44, run_C.sl.r_45, run_C.sl.r_46, run_C.sl.r_47,
        run_C.sl.r_48, run_C.sl.r_49, run_C.sl.r_50, run_C.sl.r_51, run_C.sl.r_52, run_C.sl.r_53, run_C.sl.r_54, run_C.sl.r_55,
        run_C.sl.r_56, run_C.sl.r_57, run_C.sl.r_58, run_C.sl.r_59, run_C.sl.r_60, run_C.sl.r_61, run_C.sl.r_62, run_C.sl.r_63,
        run_C.sl.r_64, run_C.sl.r_65, run_C.sl.r_66, run_C.sl.r_67, run_C.sl.r_68, run_C.sl.r_69, run_C.sl.r_70, run_C.sl.r_71,
        run_C.sl.r_72, run_C.sl.r_73, run_C.sl.r_74, run_C.sl.r_75, run_C.sl.r_76, run_C.sl.r_77, run_C.sl.r_78, run_C.sl.r_79,
        run_C.sl.r_80, run_C.sl.r_81, run_C.sl.r_82, run_C.sl.r_83, run_C.sl.r_84, run_C.sl.r_85, run_C.sl.r_86, run_C.sl.r_87,
        run_C.sl.r_88, run_C.sl.r_89, run_C.sl.r_90, run_C.sl.r_91, run_C.sl.r_92, run_C.sl.r_93, run_C.sl.r_94, run_C.sl.r_95,
        run_C.sl.r_96, run_C.sl.r_97, run_C.sl.r_98, run_C.sl.r_99, run_C.sl.r_100, run_C.sl.r_101, run_C.sl.r_102, run_C.sl.r_103,
        run_C.sl.r_104, run_C.sl.r_105, run_C.sl.v2, run_C.sl.v3, run_C.sl.v4, run_C.sl.v6, run_C.sl.v7, run_C.sl.v8, run_C.sl.v9,
        run_C.sl.v10, run_C.sl.v11, run_C.sl.v14, run_C.sl.v15, run_C.sl.v16, run_C.sl.v18, run_C.sl.v19, run_C.sl.v20, run_C.sl.v21,
        run_C.sl.v22, run_C.sl.v23, run_C.sl.v24, run_C.sl.v25, run_C.sl.v27, run_C.sl.v28, run_C.sl.v29, run_C.sl.v32, run_C.sl.v33,
        run_C.sl.v34, run_C.sl.v36, run_C.sl.v37, run_C.sl.v38, run_C.sl.v39, run_C.sl.v40, run_C.sl.v395, run_C.sl.v399, run_C.sl.v749,
        run_C.sl.v753, run_C.sl.v890, run_C.sl.v891, run_C.sl.v892, run_C.sl.v893, run_C.sl.v894, run_C.sl.v895, run_C.sl.v896,
        run_C.sl.v897, run_C.sl.v898, run_C.sl.v899, run_C.sl.v900, run_C.sl.v902, run_C.sl.v904, run_C.sl.v905, run_C.sl.v906,
        run_C.sl.v907, run_C.sl.v908, run_C.sl.v909, run_C.sl.v910, run_C.sl.v912, run_C.sl.v913, run_C.sl.v914, run_C.sl.v915,
        run_C.sl.v916, run_C.sl.v917, run_C.sl.v918, run_C.sl.v919, run_C.sl.v920, run_C.sl.v921, run_C.sl.v922, run_C.sl.v923,
        run_C.sl.v924, run_C.sl.v925, run_C.sl.v926, run_C.sl.v927, run_C.sl.v928, run_C.sl.v931, run_C.sl.v1057, run_C.sl.v1058,
        run_C.sl.v1059, run_C.sl.v1060, run_C.sl.v1061, run_C.sl.v1063, run_C.sl.v1064, run_C.sl.v1066, run_C.sl.v1067, run_C.sl.v1069,
        run_C.sl.v1070, run_C.sl.v1071, run_C.sl.v1073, run_C.sl.v1075, run_C.sl.v1077, run_C.sl.v1078, run_C.sl.v1080, run_C.sl.v1081,
        run_C.sl.v1083, run_C.sl.v1085, run_C.sl.v1086, run_C.sl.v1087, run_C.sl.v1088, run_C.sl.v1089, run_C.sl.v1090, run_C.sl.v1100,
        run_C.sl.v1101, run_C.sl.v1103, run_C.sl.v1107, run_C.sl.v1478, codesT, valsT, nibT, vT, mT, sbT, sbTiles, View.readAt_eq_ld,
        ld_st0, ld_st1, ld_rot, ld_vt, ld_src, ld_x00, ld_x01, ld_x02, ld_x03, ld_x10, ld_x11, ld_x12, ld_x13, k0_pay6, k0_pay7, k0_pay8,
        k0_pay9, k0_pay10, k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86,
        k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110,
        k0_pay111, k0_pay112, k0_pay113, k0_pay114, k0_pay115, k0_pay116, k0_pay117, k0_pay118, k0_pay119, k0_pay120, k0_pay121,
        k0_pay122, k0_pay123, k0_pay124, k0_pay125, k0_pay126, k0_pay127, k0_pay128, k0_pay129, k0_pay130, k0_pay131, k0_pay132,
        k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay1]
    all_goals rfl

end Cert.Kernel.Gen

end
-- ==== Proof.BitsRun.RunD.lean ====
module

public import proofs.«01_k».proof.Proof.BitsRun.Step

/-! The last multiplying step of a column block but the last: the accumulator is scaled by the two tensor scales. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_D (h1 : ¬isFirst (grid0.coords t)) (h2 : ¬startsBlock (grid0.coords t)) (h3 : k0_cond3 (grid0.coords t) = 1#1) (h4 : ¬k0_cond4 (grid0.coords t) = 1#1) (h5 : endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwEnd x0 (dwOf x4 x5 x8)) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    have hd : ∀ f, arg6.view.read (Elt F) (arg6.view.writes (Elt F) f (run_D.sl.H5_4 c arg5 arg6 arg9 f4 f5 f8)) = dwOf (arg5.view.read (Elt F) f4) (arg6.view.read (Elt F) f5) (arg9.view.read (Elt F) f8) := by
      intro f; funext y
      dsimp only [run_D.sl.H5_4]
      refine View.read_writes_apply_of_pieces _ _ (dwOf (arg5.view.read (Elt F) f4) (arg6.view.read (Elt F) f5) (arg9.view.read (Elt F) f8)) _ ?_ y ?_
      · simp only [List.forall_mem_cons, List.not_mem_nil, false_imp_iff, implies_true, _root_.and_true]
        refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
        all_goals dsimp only [run_D.sl.cst_76, run_D.sl.cst_173, run_D.sl.cst_192, run_D.sl.cst_303, run_D.sl.cst_446, run_D.sl.cst_539,
          run_D.sl.cst_571, run_D.sl.r, run_D.sl.r_1, run_D.sl.r_2, run_D.sl.r_3, run_D.sl.r_4, run_D.sl.r_5, run_D.sl.r_6, run_D.sl.r_7,
          run_D.sl.r_8, run_D.sl.r_9, run_D.sl.r_10, run_D.sl.r_11, run_D.sl.r_12, run_D.sl.r_13, run_D.sl.r_14, run_D.sl.r_15,
          run_D.sl.r_16, run_D.sl.r_17, run_D.sl.r_18, run_D.sl.r_19, run_D.sl.r_20, run_D.sl.r_21, run_D.sl.r_22, run_D.sl.r_23,
          run_D.sl.r_24, run_D.sl.r_25, run_D.sl.r_26, run_D.sl.r_27, run_D.sl.r_28, run_D.sl.r_29, run_D.sl.r_30, run_D.sl.r_31,
          run_D.sl.r_32, run_D.sl.r_33, run_D.sl.r_34, run_D.sl.r_35, run_D.sl.r_36, run_D.sl.r_37, run_D.sl.r_38, run_D.sl.r_39,
          run_D.sl.r_40, run_D.sl.r_41, run_D.sl.r_42, run_D.sl.r_43, run_D.sl.r_44, run_D.sl.r_45, run_D.sl.r_46, run_D.sl.r_47,
          run_D.sl.r_48, run_D.sl.r_49, run_D.sl.r_50, run_D.sl.r_51, run_D.sl.r_52, run_D.sl.r_53, run_D.sl.r_54, run_D.sl.r_55,
          run_D.sl.r_56, run_D.sl.r_57, run_D.sl.r_58, run_D.sl.r_59, run_D.sl.r_60, run_D.sl.r_61, run_D.sl.r_62, run_D.sl.r_63,
          run_D.sl.r_64, run_D.sl.r_65, run_D.sl.r_66, run_D.sl.r_67, run_D.sl.r_68, run_D.sl.r_69, run_D.sl.r_70, run_D.sl.r_71,
          run_D.sl.r_72, run_D.sl.r_73, run_D.sl.r_74, run_D.sl.r_75, run_D.sl.r_76, run_D.sl.r_77, run_D.sl.r_78, run_D.sl.r_79,
          run_D.sl.r_80, run_D.sl.r_81, run_D.sl.r_82, run_D.sl.r_83, run_D.sl.r_84, run_D.sl.r_85, run_D.sl.r_86, run_D.sl.r_87,
          run_D.sl.r_88, run_D.sl.r_89, run_D.sl.r_90, run_D.sl.r_91, run_D.sl.r_92, run_D.sl.r_93, run_D.sl.r_94, run_D.sl.r_95,
          run_D.sl.r_96, run_D.sl.r_97, run_D.sl.r_98, run_D.sl.r_99, run_D.sl.r_100, run_D.sl.r_101, run_D.sl.r_102, run_D.sl.r_103,
          run_D.sl.r_104, run_D.sl.r_105, run_D.sl.r_106, run_D.sl.r_107, run_D.sl.v2, run_D.sl.v3, run_D.sl.v4, run_D.sl.v6, run_D.sl.v7,
          run_D.sl.v8, run_D.sl.v9, run_D.sl.v10, run_D.sl.v11, run_D.sl.v14, run_D.sl.v15, run_D.sl.v16, run_D.sl.v18, run_D.sl.v19,
          run_D.sl.v20, run_D.sl.v21, run_D.sl.v22, run_D.sl.v23, run_D.sl.v24, run_D.sl.v25, run_D.sl.v27, run_D.sl.v28, run_D.sl.v29,
          run_D.sl.v32, run_D.sl.v33, run_D.sl.v34, run_D.sl.v36, run_D.sl.v37, run_D.sl.v38, run_D.sl.v39, run_D.sl.v40, run_D.sl.v395,
          run_D.sl.v399, run_D.sl.v749, run_D.sl.v753, run_D.sl.v890, run_D.sl.v891, run_D.sl.v892, run_D.sl.v893, run_D.sl.v894,
          run_D.sl.v895, run_D.sl.v896, run_D.sl.v897, run_D.sl.v898, run_D.sl.v899, run_D.sl.v900, run_D.sl.v902, run_D.sl.v904,
          run_D.sl.v905, run_D.sl.v906, run_D.sl.v907, run_D.sl.v908, run_D.sl.v909, run_D.sl.v910, run_D.sl.v912, run_D.sl.v913,
          run_D.sl.v914, run_D.sl.v915, run_D.sl.v916, run_D.sl.v917, run_D.sl.v918, run_D.sl.v919, run_D.sl.v920, run_D.sl.v921,
          run_D.sl.v922, run_D.sl.v923, run_D.sl.v924, run_D.sl.v925, run_D.sl.v926, run_D.sl.v927, run_D.sl.v928, run_D.sl.v931,
          run_D.sl.v1057, run_D.sl.v1058, run_D.sl.v1059, run_D.sl.v1060, run_D.sl.v1061, run_D.sl.v1063, run_D.sl.v1064, run_D.sl.v1066,
          run_D.sl.v1067, run_D.sl.v1069, run_D.sl.v1070, run_D.sl.v1071, run_D.sl.v1073, run_D.sl.v1075, run_D.sl.v1077, run_D.sl.v1078,
          run_D.sl.v1080, run_D.sl.v1081, run_D.sl.v1083, run_D.sl.v1085, run_D.sl.v1086, run_D.sl.v1087, run_D.sl.v1088, run_D.sl.v1089,
          run_D.sl.v1090, run_D.sl.v1100, run_D.sl.v1101, run_D.sl.v1103, run_D.sl.v1107, run_D.sl.v1465, View.readAt_eq_ld, ld_st0, ld_st1,
          ld_rot, ld_vt, ld_src, ld_x00, ld_x01, ld_x02, ld_x03, ld_x10, ld_x11, ld_x12, ld_x13, k0_pay7, k0_pay8, k0_pay9, k0_pay10,
          k0_pay11, k0_pay12, k0_pay13, k0_pay14, k0_pay15, k0_pay16, k0_pay17, k0_pay18, k0_pay19, k0_pay20, k0_pay21, k0_pay22, k0_pay23,
          k0_pay24, k0_pay25, k0_pay26, k0_pay27, k0_pay28, k0_pay29, k0_pay30, k0_pay31, k0_pay32, k0_pay33, k0_pay34, k0_pay35, k0_pay36,
          k0_pay37, k0_pay38, k0_pay39, k0_pay40, k0_pay41, k0_pay42, k0_pay43, k0_pay44, k0_pay45, k0_pay46, k0_pay47, k0_pay48, k0_pay49,
          k0_pay50, k0_pay51, k0_pay52, k0_pay53, k0_pay54, k0_pay55, k0_pay56, k0_pay57, k0_pay58, k0_pay59, k0_pay60, k0_pay61, k0_pay62,
          k0_pay63, k0_pay64, k0_pay65, k0_pay66, k0_pay67, k0_pay68, k0_pay69, k0_pay70, k0_pay71, k0_pay72, k0_pay73, k0_pay74, k0_pay75,
          k0_pay76, k0_pay77, k0_pay78, k0_pay79, k0_pay80, k0_pay81, k0_pay82, k0_pay83, k0_pay84, k0_pay85, k0_pay86, k0_pay87, k0_pay88,
          k0_pay89, k0_pay90, k0_pay91, k0_pay92, k0_pay93, k0_pay94, k0_pay95, k0_pay96, k0_pay97, k0_pay98, k0_pay99, k0_pay100,
          k0_pay101, k0_pay102, k0_pay103, k0_pay104, k0_pay105, k0_pay106, k0_pay107, k0_pay108, k0_pay109, k0_pay110, k0_pay111,
          k0_pay112, k0_pay113, k0_pay114, k0_pay115, k0_pay116, k0_pay117, k0_pay118, k0_pay119, k0_pay120, k0_pay121, k0_pay122,
          k0_pay123, k0_pay124, k0_pay125, k0_pay126, k0_pay127, k0_pay128, k0_pay129, k0_pay130, k0_pay131, k0_pay132, k0_pay133,
          k0_pay134, k0_pay135, k0_pay136, k0_pay137, k0_pay138, k0_pay139, k0_pay140, k0_pay141, k0_pay142, k0_pay143, k0_pay144,
          k0_pay145, k0_pay146, k0_pay147, k0_pay148, k0_pay149, k0_pay1]
        all_goals rfl
      · exact View.cover_of_tiled _ (![2816, 256] : Fin 2 → ℕ) (by rfl) y
    refine (View.read_writes_full _ _ _ _ _).trans ?_
    dsimp only [run_D.sl.r_106, run_D.sl.r_107, run_D.sl.v1465, View.readAt_eq_ld, dwEnd]
    rw [readCov_all _ _ _ hd]
    rfl
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_D.sl.H5_4, run_D.sl.cst_76, run_D.sl.cst_173, run_D.sl.cst_192, run_D.sl.cst_303, run_D.sl.cst_446, run_D.sl.cst_539,
        run_D.sl.cst_571, run_D.sl.r, run_D.sl.r_1, run_D.sl.r_2, run_D.sl.r_3, run_D.sl.r_4, run_D.sl.r_5, run_D.sl.r_6, run_D.sl.r_7,
        run_D.sl.r_8, run_D.sl.r_9, run_D.sl.r_10, run_D.sl.r_11, run_D.sl.r_12, run_D.sl.r_13, run_D.sl.r_14, run_D.sl.r_15,
        run_D.sl.r_16, run_D.sl.r_17, run_D.sl.r_18, run_D.sl.r_19, run_D.sl.r_20, run_D.sl.r_21, run_D.sl.r_22, run_D.sl.r_23,
        run_D.sl.r_24, run_D.sl.r_25, run_D.sl.r_26, run_D.sl.r_27, run_D.sl.r_28, run_D.sl.r_29, run_D.sl.r_30, run_D.sl.r_31,
        run_D.sl.r_32, run_D.sl.r_33, run_D.sl.r_34, run_D.sl.r_35, run_D.sl.r_36, run_D.sl.r_37, run_D.sl.r_38, run_D.sl.r_39,
        run_D.sl.r_40, run_D.sl.r_41, run_D.sl.r_42, run_D.sl.r_43, run_D.sl.r_44, run_D.sl.r_45, run_D.sl.r_46, run_D.sl.r_47,
        run_D.sl.r_48, run_D.sl.r_49, run_D.sl.r_50, run_D.sl.r_51, run_D.sl.r_52, run_D.sl.r_53, run_D.sl.r_54, run_D.sl.r_55,
        run_D.sl.r_56, run_D.sl.r_57, run_D.sl.r_58, run_D.sl.r_59, run_D.sl.r_60, run_D.sl.r_61, run_D.sl.r_62, run_D.sl.r_63,
        run_D.sl.r_64, run_D.sl.r_65, run_D.sl.r_66, run_D.sl.r_67, run_D.sl.r_68, run_D.sl.r_69, run_D.sl.r_70, run_D.sl.r_71,
        run_D.sl.r_72, run_D.sl.r_73, run_D.sl.r_74, run_D.sl.r_75, run_D.sl.r_76, run_D.sl.r_77, run_D.sl.r_78, run_D.sl.r_79,
        run_D.sl.r_80, run_D.sl.r_81, run_D.sl.r_82, run_D.sl.r_83, run_D.sl.r_84, run_D.sl.r_85, run_D.sl.r_86, run_D.sl.r_87,
        run_D.sl.r_88, run_D.sl.r_89, run_D.sl.r_90, run_D.sl.r_91, run_D.sl.r_92, run_D.sl.r_93, run_D.sl.r_94, run_D.sl.r_95,
        run_D.sl.r_96, run_D.sl.r_97, run_D.sl.r_98, run_D.sl.r_99, run_D.sl.r_100, run_D.sl.r_101, run_D.sl.r_102, run_D.sl.r_103,
        run_D.sl.r_104, run_D.sl.r_105, run_D.sl.r_106, run_D.sl.r_107, run_D.sl.v2, run_D.sl.v3, run_D.sl.v4, run_D.sl.v6, run_D.sl.v7,
        run_D.sl.v8, run_D.sl.v9, run_D.sl.v10, run_D.sl.v11, run_D.sl.v14, run_D.sl.v15, run_D.sl.v16, run_D.sl.v18, run_D.sl.v19,
        run_D.sl.v20, run_D.sl.v21, run_D.sl.v22, run_D.sl.v23, run_D.sl.v24, run_D.sl.v25, run_D.sl.v27, run_D.sl.v28, run_D.sl.v29,
        run_D.sl.v32, run_D.sl.v33, run_D.sl.v34, run_D.sl.v36, run_D.sl.v37, run_D.sl.v38, run_D.sl.v39, run_D.sl.v40, run_D.sl.v395,
        run_D.sl.v399, run_D.sl.v749, run_D.sl.v753, run_D.sl.v890, run_D.sl.v891, run_D.sl.v892, run_D.sl.v893, run_D.sl.v894,
        run_D.sl.v895, run_D.sl.v896, run_D.sl.v897, run_D.sl.v898, run_D.sl.v899, run_D.sl.v900, run_D.sl.v902, run_D.sl.v904,
        run_D.sl.v905, run_D.sl.v906, run_D.sl.v907, run_D.sl.v908, run_D.sl.v909, run_D.sl.v910, run_D.sl.v912, run_D.sl.v913,
        run_D.sl.v914, run_D.sl.v915, run_D.sl.v916, run_D.sl.v917, run_D.sl.v918, run_D.sl.v919, run_D.sl.v920, run_D.sl.v921,
        run_D.sl.v922, run_D.sl.v923, run_D.sl.v924, run_D.sl.v925, run_D.sl.v926, run_D.sl.v927, run_D.sl.v928, run_D.sl.v931,
        run_D.sl.v1057, run_D.sl.v1058, run_D.sl.v1059, run_D.sl.v1060, run_D.sl.v1061, run_D.sl.v1063, run_D.sl.v1064, run_D.sl.v1066,
        run_D.sl.v1067, run_D.sl.v1069, run_D.sl.v1070, run_D.sl.v1071, run_D.sl.v1073, run_D.sl.v1075, run_D.sl.v1077, run_D.sl.v1078,
        run_D.sl.v1080, run_D.sl.v1081, run_D.sl.v1083, run_D.sl.v1085, run_D.sl.v1086, run_D.sl.v1087, run_D.sl.v1088, run_D.sl.v1089,
        run_D.sl.v1090, run_D.sl.v1100, run_D.sl.v1101, run_D.sl.v1103, run_D.sl.v1107, run_D.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_D.sl.H5_4, run_D.sl.cst_76, run_D.sl.cst_173, run_D.sl.cst_192, run_D.sl.cst_303, run_D.sl.cst_446, run_D.sl.cst_539,
        run_D.sl.cst_571, run_D.sl.r, run_D.sl.r_1, run_D.sl.r_2, run_D.sl.r_3, run_D.sl.r_4, run_D.sl.r_5, run_D.sl.r_6, run_D.sl.r_7,
        run_D.sl.r_8, run_D.sl.r_9, run_D.sl.r_10, run_D.sl.r_11, run_D.sl.r_12, run_D.sl.r_13, run_D.sl.r_14, run_D.sl.r_15,
        run_D.sl.r_16, run_D.sl.r_17, run_D.sl.r_18, run_D.sl.r_19, run_D.sl.r_20, run_D.sl.r_21, run_D.sl.r_22, run_D.sl.r_23,
        run_D.sl.r_24, run_D.sl.r_25, run_D.sl.r_26, run_D.sl.r_27, run_D.sl.r_28, run_D.sl.r_29, run_D.sl.r_30, run_D.sl.r_31,
        run_D.sl.r_32, run_D.sl.r_33, run_D.sl.r_34, run_D.sl.r_35, run_D.sl.r_36, run_D.sl.r_37, run_D.sl.r_38, run_D.sl.r_39,
        run_D.sl.r_40, run_D.sl.r_41, run_D.sl.r_42, run_D.sl.r_43, run_D.sl.r_44, run_D.sl.r_45, run_D.sl.r_46, run_D.sl.r_47,
        run_D.sl.r_48, run_D.sl.r_49, run_D.sl.r_50, run_D.sl.r_51, run_D.sl.r_52, run_D.sl.r_53, run_D.sl.r_54, run_D.sl.r_55,
        run_D.sl.r_56, run_D.sl.r_57, run_D.sl.r_58, run_D.sl.r_59, run_D.sl.r_60, run_D.sl.r_61, run_D.sl.r_62, run_D.sl.r_63,
        run_D.sl.r_64, run_D.sl.r_65, run_D.sl.r_66, run_D.sl.r_67, run_D.sl.r_68, run_D.sl.r_69, run_D.sl.r_70, run_D.sl.r_71,
        run_D.sl.r_72, run_D.sl.r_73, run_D.sl.r_74, run_D.sl.r_75, run_D.sl.r_76, run_D.sl.r_77, run_D.sl.r_78, run_D.sl.r_79,
        run_D.sl.r_80, run_D.sl.r_81, run_D.sl.r_82, run_D.sl.r_83, run_D.sl.r_84, run_D.sl.r_85, run_D.sl.r_86, run_D.sl.r_87,
        run_D.sl.r_88, run_D.sl.r_89, run_D.sl.r_90, run_D.sl.r_91, run_D.sl.r_92, run_D.sl.r_93, run_D.sl.r_94, run_D.sl.r_95,
        run_D.sl.r_96, run_D.sl.r_97, run_D.sl.r_98, run_D.sl.r_99, run_D.sl.r_100, run_D.sl.r_101, run_D.sl.r_102, run_D.sl.r_103,
        run_D.sl.r_104, run_D.sl.r_105, run_D.sl.r_106, run_D.sl.r_107, run_D.sl.v2, run_D.sl.v3, run_D.sl.v4, run_D.sl.v6, run_D.sl.v7,
        run_D.sl.v8, run_D.sl.v9, run_D.sl.v10, run_D.sl.v11, run_D.sl.v14, run_D.sl.v15, run_D.sl.v16, run_D.sl.v18, run_D.sl.v19,
        run_D.sl.v20, run_D.sl.v21, run_D.sl.v22, run_D.sl.v23, run_D.sl.v24, run_D.sl.v25, run_D.sl.v27, run_D.sl.v28, run_D.sl.v29,
        run_D.sl.v32, run_D.sl.v33, run_D.sl.v34, run_D.sl.v36, run_D.sl.v37, run_D.sl.v38, run_D.sl.v39, run_D.sl.v40, run_D.sl.v395,
        run_D.sl.v399, run_D.sl.v749, run_D.sl.v753, run_D.sl.v890, run_D.sl.v891, run_D.sl.v892, run_D.sl.v893, run_D.sl.v894,
        run_D.sl.v895, run_D.sl.v896, run_D.sl.v897, run_D.sl.v898, run_D.sl.v899, run_D.sl.v900, run_D.sl.v902, run_D.sl.v904,
        run_D.sl.v905, run_D.sl.v906, run_D.sl.v907, run_D.sl.v908, run_D.sl.v909, run_D.sl.v910, run_D.sl.v912, run_D.sl.v913,
        run_D.sl.v914, run_D.sl.v915, run_D.sl.v916, run_D.sl.v917, run_D.sl.v918, run_D.sl.v919, run_D.sl.v920, run_D.sl.v921,
        run_D.sl.v922, run_D.sl.v923, run_D.sl.v924, run_D.sl.v925, run_D.sl.v926, run_D.sl.v927, run_D.sl.v928, run_D.sl.v931,
        run_D.sl.v1057, run_D.sl.v1058, run_D.sl.v1059, run_D.sl.v1060, run_D.sl.v1061, run_D.sl.v1063, run_D.sl.v1064, run_D.sl.v1066,
        run_D.sl.v1067, run_D.sl.v1069, run_D.sl.v1070, run_D.sl.v1071, run_D.sl.v1073, run_D.sl.v1075, run_D.sl.v1077, run_D.sl.v1078,
        run_D.sl.v1080, run_D.sl.v1081, run_D.sl.v1083, run_D.sl.v1085, run_D.sl.v1086, run_D.sl.v1087, run_D.sl.v1088, run_D.sl.v1089,
        run_D.sl.v1090, run_D.sl.v1100, run_D.sl.v1101, run_D.sl.v1103, run_D.sl.v1107, run_D.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_D.sl.H5_4, run_D.sl.cst_76, run_D.sl.cst_173, run_D.sl.cst_192, run_D.sl.cst_303, run_D.sl.cst_446, run_D.sl.cst_539,
        run_D.sl.cst_571, run_D.sl.r, run_D.sl.r_1, run_D.sl.r_2, run_D.sl.r_3, run_D.sl.r_4, run_D.sl.r_5, run_D.sl.r_6, run_D.sl.r_7,
        run_D.sl.r_8, run_D.sl.r_9, run_D.sl.r_10, run_D.sl.r_11, run_D.sl.r_12, run_D.sl.r_13, run_D.sl.r_14, run_D.sl.r_15,
        run_D.sl.r_16, run_D.sl.r_17, run_D.sl.r_18, run_D.sl.r_19, run_D.sl.r_20, run_D.sl.r_21, run_D.sl.r_22, run_D.sl.r_23,
        run_D.sl.r_24, run_D.sl.r_25, run_D.sl.r_26, run_D.sl.r_27, run_D.sl.r_28, run_D.sl.r_29, run_D.sl.r_30, run_D.sl.r_31,
        run_D.sl.r_32, run_D.sl.r_33, run_D.sl.r_34, run_D.sl.r_35, run_D.sl.r_36, run_D.sl.r_37, run_D.sl.r_38, run_D.sl.r_39,
        run_D.sl.r_40, run_D.sl.r_41, run_D.sl.r_42, run_D.sl.r_43, run_D.sl.r_44, run_D.sl.r_45, run_D.sl.r_46, run_D.sl.r_47,
        run_D.sl.r_48, run_D.sl.r_49, run_D.sl.r_50, run_D.sl.r_51, run_D.sl.r_52, run_D.sl.r_53, run_D.sl.r_54, run_D.sl.r_55,
        run_D.sl.r_56, run_D.sl.r_57, run_D.sl.r_58, run_D.sl.r_59, run_D.sl.r_60, run_D.sl.r_61, run_D.sl.r_62, run_D.sl.r_63,
        run_D.sl.r_64, run_D.sl.r_65, run_D.sl.r_66, run_D.sl.r_67, run_D.sl.r_68, run_D.sl.r_69, run_D.sl.r_70, run_D.sl.r_71,
        run_D.sl.r_72, run_D.sl.r_73, run_D.sl.r_74, run_D.sl.r_75, run_D.sl.r_76, run_D.sl.r_77, run_D.sl.r_78, run_D.sl.r_79,
        run_D.sl.r_80, run_D.sl.r_81, run_D.sl.r_82, run_D.sl.r_83, run_D.sl.r_84, run_D.sl.r_85, run_D.sl.r_86, run_D.sl.r_87,
        run_D.sl.r_88, run_D.sl.r_89, run_D.sl.r_90, run_D.sl.r_91, run_D.sl.r_92, run_D.sl.r_93, run_D.sl.r_94, run_D.sl.r_95,
        run_D.sl.r_96, run_D.sl.r_97, run_D.sl.r_98, run_D.sl.r_99, run_D.sl.r_100, run_D.sl.r_101, run_D.sl.r_102, run_D.sl.r_103,
        run_D.sl.r_104, run_D.sl.r_105, run_D.sl.r_106, run_D.sl.r_107, run_D.sl.v2, run_D.sl.v3, run_D.sl.v4, run_D.sl.v6, run_D.sl.v7,
        run_D.sl.v8, run_D.sl.v9, run_D.sl.v10, run_D.sl.v11, run_D.sl.v14, run_D.sl.v15, run_D.sl.v16, run_D.sl.v18, run_D.sl.v19,
        run_D.sl.v20, run_D.sl.v21, run_D.sl.v22, run_D.sl.v23, run_D.sl.v24, run_D.sl.v25, run_D.sl.v27, run_D.sl.v28, run_D.sl.v29,
        run_D.sl.v32, run_D.sl.v33, run_D.sl.v34, run_D.sl.v36, run_D.sl.v37, run_D.sl.v38, run_D.sl.v39, run_D.sl.v40, run_D.sl.v395,
        run_D.sl.v399, run_D.sl.v749, run_D.sl.v753, run_D.sl.v890, run_D.sl.v891, run_D.sl.v892, run_D.sl.v893, run_D.sl.v894,
        run_D.sl.v895, run_D.sl.v896, run_D.sl.v897, run_D.sl.v898, run_D.sl.v899, run_D.sl.v900, run_D.sl.v902, run_D.sl.v904,
        run_D.sl.v905, run_D.sl.v906, run_D.sl.v907, run_D.sl.v908, run_D.sl.v909, run_D.sl.v910, run_D.sl.v912, run_D.sl.v913,
        run_D.sl.v914, run_D.sl.v915, run_D.sl.v916, run_D.sl.v917, run_D.sl.v918, run_D.sl.v919, run_D.sl.v920, run_D.sl.v921,
        run_D.sl.v922, run_D.sl.v923, run_D.sl.v924, run_D.sl.v925, run_D.sl.v926, run_D.sl.v927, run_D.sl.v928, run_D.sl.v931,
        run_D.sl.v1057, run_D.sl.v1058, run_D.sl.v1059, run_D.sl.v1060, run_D.sl.v1061, run_D.sl.v1063, run_D.sl.v1064, run_D.sl.v1066,
        run_D.sl.v1067, run_D.sl.v1069, run_D.sl.v1070, run_D.sl.v1071, run_D.sl.v1073, run_D.sl.v1075, run_D.sl.v1077, run_D.sl.v1078,
        run_D.sl.v1080, run_D.sl.v1081, run_D.sl.v1083, run_D.sl.v1085, run_D.sl.v1086, run_D.sl.v1087, run_D.sl.v1088, run_D.sl.v1089,
        run_D.sl.v1090, run_D.sl.v1100, run_D.sl.v1101, run_D.sl.v1103, run_D.sl.v1107, run_D.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
    all_goals rfl

end Cert.Kernel.Gen

end
-- ==== Proof.BitsRun.RunE.lean ====
module

public import proofs.«01_k».proof.Proof.BitsRun.Step

/-! The last step: the accumulator is scaled by the two tensor scales. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_E (h1 : ¬isFirst (grid0.coords t)) (h2 : ¬startsBlock (grid0.coords t)) (h3 : ¬k0_cond3 (grid0.coords t) = 1#1) (h4 : ¬k0_cond4 (grid0.coords t) = 1#1) (h5 : endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwEnd x0 (dwOf x4 x5 x8)) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    have hd : ∀ f, arg6.view.read (Elt F) (arg6.view.writes (Elt F) f (run_E.sl.H5_4 c arg5 arg6 arg9 f4 f5 f8)) = dwOf (arg5.view.read (Elt F) f4) (arg6.view.read (Elt F) f5) (arg9.view.read (Elt F) f8) := by
      intro f; funext y
      dsimp only [run_E.sl.H5_4]
      refine View.read_writes_apply_of_pieces _ _ (dwOf (arg5.view.read (Elt F) f4) (arg6.view.read (Elt F) f5) (arg9.view.read (Elt F) f8)) _ ?_ y ?_
      · simp only [List.forall_mem_cons, List.not_mem_nil, false_imp_iff, implies_true, _root_.and_true]
        refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
        all_goals dsimp only [run_E.sl.cst_76, run_E.sl.cst_173, run_E.sl.cst_192, run_E.sl.cst_303, run_E.sl.cst_446, run_E.sl.cst_539,
          run_E.sl.cst_571, run_E.sl.r, run_E.sl.r_1, run_E.sl.r_2, run_E.sl.r_3, run_E.sl.r_4, run_E.sl.r_5, run_E.sl.r_6, run_E.sl.r_7,
          run_E.sl.r_8, run_E.sl.r_9, run_E.sl.r_10, run_E.sl.r_11, run_E.sl.r_12, run_E.sl.r_13, run_E.sl.r_14, run_E.sl.r_15,
          run_E.sl.r_16, run_E.sl.r_17, run_E.sl.r_18, run_E.sl.r_19, run_E.sl.r_20, run_E.sl.r_21, run_E.sl.r_22, run_E.sl.r_23,
          run_E.sl.r_24, run_E.sl.r_25, run_E.sl.r_26, run_E.sl.r_27, run_E.sl.r_28, run_E.sl.r_29, run_E.sl.r_30, run_E.sl.r_31,
          run_E.sl.r_32, run_E.sl.r_33, run_E.sl.r_34, run_E.sl.r_35, run_E.sl.r_36, run_E.sl.r_37, run_E.sl.r_38, run_E.sl.r_39,
          run_E.sl.r_40, run_E.sl.r_41, run_E.sl.r_42, run_E.sl.r_43, run_E.sl.r_44, run_E.sl.r_45, run_E.sl.r_46, run_E.sl.r_47,
          run_E.sl.r_48, run_E.sl.r_49, run_E.sl.r_50, run_E.sl.r_51, run_E.sl.r_52, run_E.sl.r_53, run_E.sl.r_54, run_E.sl.r_55,
          run_E.sl.r_56, run_E.sl.r_57, run_E.sl.r_58, run_E.sl.r_59, run_E.sl.r_60, run_E.sl.r_61, run_E.sl.r_62, run_E.sl.r_63,
          run_E.sl.r_64, run_E.sl.r_65, run_E.sl.r_66, run_E.sl.r_67, run_E.sl.r_68, run_E.sl.r_69, run_E.sl.r_70, run_E.sl.r_71,
          run_E.sl.r_72, run_E.sl.r_73, run_E.sl.r_74, run_E.sl.r_75, run_E.sl.r_76, run_E.sl.r_77, run_E.sl.r_78, run_E.sl.r_79,
          run_E.sl.r_80, run_E.sl.r_81, run_E.sl.r_82, run_E.sl.r_83, run_E.sl.r_84, run_E.sl.r_85, run_E.sl.r_86, run_E.sl.r_87,
          run_E.sl.r_88, run_E.sl.r_89, run_E.sl.r_90, run_E.sl.r_91, run_E.sl.r_92, run_E.sl.r_93, run_E.sl.r_94, run_E.sl.r_95,
          run_E.sl.r_96, run_E.sl.r_97, run_E.sl.r_98, run_E.sl.r_99, run_E.sl.r_100, run_E.sl.r_101, run_E.sl.r_102, run_E.sl.r_103,
          run_E.sl.r_104, run_E.sl.r_105, run_E.sl.r_106, run_E.sl.r_107, run_E.sl.v2, run_E.sl.v3, run_E.sl.v4, run_E.sl.v6, run_E.sl.v7,
          run_E.sl.v8, run_E.sl.v9, run_E.sl.v10, run_E.sl.v11, run_E.sl.v14, run_E.sl.v15, run_E.sl.v16, run_E.sl.v18, run_E.sl.v19,
          run_E.sl.v20, run_E.sl.v21, run_E.sl.v22, run_E.sl.v23, run_E.sl.v24, run_E.sl.v25, run_E.sl.v27, run_E.sl.v28, run_E.sl.v29,
          run_E.sl.v32, run_E.sl.v33, run_E.sl.v34, run_E.sl.v36, run_E.sl.v37, run_E.sl.v38, run_E.sl.v39, run_E.sl.v40, run_E.sl.v395,
          run_E.sl.v399, run_E.sl.v749, run_E.sl.v753, run_E.sl.v890, run_E.sl.v891, run_E.sl.v892, run_E.sl.v893, run_E.sl.v894,
          run_E.sl.v895, run_E.sl.v896, run_E.sl.v897, run_E.sl.v898, run_E.sl.v899, run_E.sl.v900, run_E.sl.v902, run_E.sl.v904,
          run_E.sl.v905, run_E.sl.v906, run_E.sl.v907, run_E.sl.v908, run_E.sl.v909, run_E.sl.v910, run_E.sl.v912, run_E.sl.v913,
          run_E.sl.v914, run_E.sl.v915, run_E.sl.v916, run_E.sl.v917, run_E.sl.v918, run_E.sl.v919, run_E.sl.v920, run_E.sl.v921,
          run_E.sl.v922, run_E.sl.v923, run_E.sl.v924, run_E.sl.v925, run_E.sl.v926, run_E.sl.v927, run_E.sl.v928, run_E.sl.v931,
          run_E.sl.v1057, run_E.sl.v1058, run_E.sl.v1059, run_E.sl.v1060, run_E.sl.v1061, run_E.sl.v1063, run_E.sl.v1064, run_E.sl.v1066,
          run_E.sl.v1067, run_E.sl.v1069, run_E.sl.v1070, run_E.sl.v1071, run_E.sl.v1073, run_E.sl.v1075, run_E.sl.v1077, run_E.sl.v1078,
          run_E.sl.v1080, run_E.sl.v1081, run_E.sl.v1083, run_E.sl.v1085, run_E.sl.v1086, run_E.sl.v1087, run_E.sl.v1088, run_E.sl.v1089,
          run_E.sl.v1090, run_E.sl.v1100, run_E.sl.v1101, run_E.sl.v1103, run_E.sl.v1107, run_E.sl.v1465, View.readAt_eq_ld, ld_st0, ld_st1,
          ld_rot, ld_vt, ld_src, ld_x00, ld_x01, ld_x02, ld_x03, ld_x10, ld_x11, ld_x12, ld_x13, k0_pay7, k0_pay8, k0_pay9, k0_pay10,
          k0_pay11, k0_pay12, k0_pay13, k0_pay14, k0_pay15, k0_pay16, k0_pay17, k0_pay18, k0_pay19, k0_pay20, k0_pay21, k0_pay22, k0_pay23,
          k0_pay24, k0_pay25, k0_pay26, k0_pay27, k0_pay28, k0_pay29, k0_pay30, k0_pay31, k0_pay32, k0_pay33, k0_pay34, k0_pay35, k0_pay36,
          k0_pay37, k0_pay38, k0_pay39, k0_pay40, k0_pay41, k0_pay42, k0_pay43, k0_pay44, k0_pay45, k0_pay46, k0_pay47, k0_pay48, k0_pay49,
          k0_pay50, k0_pay51, k0_pay52, k0_pay53, k0_pay54, k0_pay55, k0_pay56, k0_pay57, k0_pay58, k0_pay59, k0_pay60, k0_pay61, k0_pay62,
          k0_pay63, k0_pay64, k0_pay65, k0_pay66, k0_pay67, k0_pay68, k0_pay69, k0_pay70, k0_pay71, k0_pay72, k0_pay73, k0_pay74, k0_pay75,
          k0_pay76, k0_pay77, k0_pay78, k0_pay79, k0_pay80, k0_pay81, k0_pay82, k0_pay83, k0_pay84, k0_pay85, k0_pay86, k0_pay87, k0_pay88,
          k0_pay89, k0_pay90, k0_pay91, k0_pay92, k0_pay93, k0_pay94, k0_pay95, k0_pay96, k0_pay97, k0_pay98, k0_pay99, k0_pay100,
          k0_pay101, k0_pay102, k0_pay103, k0_pay104, k0_pay105, k0_pay106, k0_pay107, k0_pay108, k0_pay109, k0_pay110, k0_pay111,
          k0_pay112, k0_pay113, k0_pay114, k0_pay115, k0_pay116, k0_pay117, k0_pay118, k0_pay119, k0_pay120, k0_pay121, k0_pay122,
          k0_pay123, k0_pay124, k0_pay125, k0_pay126, k0_pay127, k0_pay128, k0_pay129, k0_pay130, k0_pay131, k0_pay132, k0_pay133,
          k0_pay134, k0_pay135, k0_pay136, k0_pay137, k0_pay138, k0_pay139, k0_pay140, k0_pay141, k0_pay142, k0_pay143, k0_pay144,
          k0_pay145, k0_pay146, k0_pay147, k0_pay148, k0_pay149, k0_pay1]
        all_goals rfl
      · exact View.cover_of_tiled _ (![2816, 256] : Fin 2 → ℕ) (by rfl) y
    refine (View.read_writes_full _ _ _ _ _).trans ?_
    dsimp only [run_E.sl.r_106, run_E.sl.r_107, run_E.sl.v1465, View.readAt_eq_ld, dwEnd]
    rw [readCov_all _ _ _ hd]
    rfl
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_E.sl.H5_4, run_E.sl.cst_76, run_E.sl.cst_173, run_E.sl.cst_192, run_E.sl.cst_303, run_E.sl.cst_446, run_E.sl.cst_539,
        run_E.sl.cst_571, run_E.sl.r, run_E.sl.r_1, run_E.sl.r_2, run_E.sl.r_3, run_E.sl.r_4, run_E.sl.r_5, run_E.sl.r_6, run_E.sl.r_7,
        run_E.sl.r_8, run_E.sl.r_9, run_E.sl.r_10, run_E.sl.r_11, run_E.sl.r_12, run_E.sl.r_13, run_E.sl.r_14, run_E.sl.r_15,
        run_E.sl.r_16, run_E.sl.r_17, run_E.sl.r_18, run_E.sl.r_19, run_E.sl.r_20, run_E.sl.r_21, run_E.sl.r_22, run_E.sl.r_23,
        run_E.sl.r_24, run_E.sl.r_25, run_E.sl.r_26, run_E.sl.r_27, run_E.sl.r_28, run_E.sl.r_29, run_E.sl.r_30, run_E.sl.r_31,
        run_E.sl.r_32, run_E.sl.r_33, run_E.sl.r_34, run_E.sl.r_35, run_E.sl.r_36, run_E.sl.r_37, run_E.sl.r_38, run_E.sl.r_39,
        run_E.sl.r_40, run_E.sl.r_41, run_E.sl.r_42, run_E.sl.r_43, run_E.sl.r_44, run_E.sl.r_45, run_E.sl.r_46, run_E.sl.r_47,
        run_E.sl.r_48, run_E.sl.r_49, run_E.sl.r_50, run_E.sl.r_51, run_E.sl.r_52, run_E.sl.r_53, run_E.sl.r_54, run_E.sl.r_55,
        run_E.sl.r_56, run_E.sl.r_57, run_E.sl.r_58, run_E.sl.r_59, run_E.sl.r_60, run_E.sl.r_61, run_E.sl.r_62, run_E.sl.r_63,
        run_E.sl.r_64, run_E.sl.r_65, run_E.sl.r_66, run_E.sl.r_67, run_E.sl.r_68, run_E.sl.r_69, run_E.sl.r_70, run_E.sl.r_71,
        run_E.sl.r_72, run_E.sl.r_73, run_E.sl.r_74, run_E.sl.r_75, run_E.sl.r_76, run_E.sl.r_77, run_E.sl.r_78, run_E.sl.r_79,
        run_E.sl.r_80, run_E.sl.r_81, run_E.sl.r_82, run_E.sl.r_83, run_E.sl.r_84, run_E.sl.r_85, run_E.sl.r_86, run_E.sl.r_87,
        run_E.sl.r_88, run_E.sl.r_89, run_E.sl.r_90, run_E.sl.r_91, run_E.sl.r_92, run_E.sl.r_93, run_E.sl.r_94, run_E.sl.r_95,
        run_E.sl.r_96, run_E.sl.r_97, run_E.sl.r_98, run_E.sl.r_99, run_E.sl.r_100, run_E.sl.r_101, run_E.sl.r_102, run_E.sl.r_103,
        run_E.sl.r_104, run_E.sl.r_105, run_E.sl.r_106, run_E.sl.r_107, run_E.sl.v2, run_E.sl.v3, run_E.sl.v4, run_E.sl.v6, run_E.sl.v7,
        run_E.sl.v8, run_E.sl.v9, run_E.sl.v10, run_E.sl.v11, run_E.sl.v14, run_E.sl.v15, run_E.sl.v16, run_E.sl.v18, run_E.sl.v19,
        run_E.sl.v20, run_E.sl.v21, run_E.sl.v22, run_E.sl.v23, run_E.sl.v24, run_E.sl.v25, run_E.sl.v27, run_E.sl.v28, run_E.sl.v29,
        run_E.sl.v32, run_E.sl.v33, run_E.sl.v34, run_E.sl.v36, run_E.sl.v37, run_E.sl.v38, run_E.sl.v39, run_E.sl.v40, run_E.sl.v395,
        run_E.sl.v399, run_E.sl.v749, run_E.sl.v753, run_E.sl.v890, run_E.sl.v891, run_E.sl.v892, run_E.sl.v893, run_E.sl.v894,
        run_E.sl.v895, run_E.sl.v896, run_E.sl.v897, run_E.sl.v898, run_E.sl.v899, run_E.sl.v900, run_E.sl.v902, run_E.sl.v904,
        run_E.sl.v905, run_E.sl.v906, run_E.sl.v907, run_E.sl.v908, run_E.sl.v909, run_E.sl.v910, run_E.sl.v912, run_E.sl.v913,
        run_E.sl.v914, run_E.sl.v915, run_E.sl.v916, run_E.sl.v917, run_E.sl.v918, run_E.sl.v919, run_E.sl.v920, run_E.sl.v921,
        run_E.sl.v922, run_E.sl.v923, run_E.sl.v924, run_E.sl.v925, run_E.sl.v926, run_E.sl.v927, run_E.sl.v928, run_E.sl.v931,
        run_E.sl.v1057, run_E.sl.v1058, run_E.sl.v1059, run_E.sl.v1060, run_E.sl.v1061, run_E.sl.v1063, run_E.sl.v1064, run_E.sl.v1066,
        run_E.sl.v1067, run_E.sl.v1069, run_E.sl.v1070, run_E.sl.v1071, run_E.sl.v1073, run_E.sl.v1075, run_E.sl.v1077, run_E.sl.v1078,
        run_E.sl.v1080, run_E.sl.v1081, run_E.sl.v1083, run_E.sl.v1085, run_E.sl.v1086, run_E.sl.v1087, run_E.sl.v1088, run_E.sl.v1089,
        run_E.sl.v1090, run_E.sl.v1100, run_E.sl.v1101, run_E.sl.v1103, run_E.sl.v1107, run_E.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_E.sl.H5_4, run_E.sl.cst_76, run_E.sl.cst_173, run_E.sl.cst_192, run_E.sl.cst_303, run_E.sl.cst_446, run_E.sl.cst_539,
        run_E.sl.cst_571, run_E.sl.r, run_E.sl.r_1, run_E.sl.r_2, run_E.sl.r_3, run_E.sl.r_4, run_E.sl.r_5, run_E.sl.r_6, run_E.sl.r_7,
        run_E.sl.r_8, run_E.sl.r_9, run_E.sl.r_10, run_E.sl.r_11, run_E.sl.r_12, run_E.sl.r_13, run_E.sl.r_14, run_E.sl.r_15,
        run_E.sl.r_16, run_E.sl.r_17, run_E.sl.r_18, run_E.sl.r_19, run_E.sl.r_20, run_E.sl.r_21, run_E.sl.r_22, run_E.sl.r_23,
        run_E.sl.r_24, run_E.sl.r_25, run_E.sl.r_26, run_E.sl.r_27, run_E.sl.r_28, run_E.sl.r_29, run_E.sl.r_30, run_E.sl.r_31,
        run_E.sl.r_32, run_E.sl.r_33, run_E.sl.r_34, run_E.sl.r_35, run_E.sl.r_36, run_E.sl.r_37, run_E.sl.r_38, run_E.sl.r_39,
        run_E.sl.r_40, run_E.sl.r_41, run_E.sl.r_42, run_E.sl.r_43, run_E.sl.r_44, run_E.sl.r_45, run_E.sl.r_46, run_E.sl.r_47,
        run_E.sl.r_48, run_E.sl.r_49, run_E.sl.r_50, run_E.sl.r_51, run_E.sl.r_52, run_E.sl.r_53, run_E.sl.r_54, run_E.sl.r_55,
        run_E.sl.r_56, run_E.sl.r_57, run_E.sl.r_58, run_E.sl.r_59, run_E.sl.r_60, run_E.sl.r_61, run_E.sl.r_62, run_E.sl.r_63,
        run_E.sl.r_64, run_E.sl.r_65, run_E.sl.r_66, run_E.sl.r_67, run_E.sl.r_68, run_E.sl.r_69, run_E.sl.r_70, run_E.sl.r_71,
        run_E.sl.r_72, run_E.sl.r_73, run_E.sl.r_74, run_E.sl.r_75, run_E.sl.r_76, run_E.sl.r_77, run_E.sl.r_78, run_E.sl.r_79,
        run_E.sl.r_80, run_E.sl.r_81, run_E.sl.r_82, run_E.sl.r_83, run_E.sl.r_84, run_E.sl.r_85, run_E.sl.r_86, run_E.sl.r_87,
        run_E.sl.r_88, run_E.sl.r_89, run_E.sl.r_90, run_E.sl.r_91, run_E.sl.r_92, run_E.sl.r_93, run_E.sl.r_94, run_E.sl.r_95,
        run_E.sl.r_96, run_E.sl.r_97, run_E.sl.r_98, run_E.sl.r_99, run_E.sl.r_100, run_E.sl.r_101, run_E.sl.r_102, run_E.sl.r_103,
        run_E.sl.r_104, run_E.sl.r_105, run_E.sl.r_106, run_E.sl.r_107, run_E.sl.v2, run_E.sl.v3, run_E.sl.v4, run_E.sl.v6, run_E.sl.v7,
        run_E.sl.v8, run_E.sl.v9, run_E.sl.v10, run_E.sl.v11, run_E.sl.v14, run_E.sl.v15, run_E.sl.v16, run_E.sl.v18, run_E.sl.v19,
        run_E.sl.v20, run_E.sl.v21, run_E.sl.v22, run_E.sl.v23, run_E.sl.v24, run_E.sl.v25, run_E.sl.v27, run_E.sl.v28, run_E.sl.v29,
        run_E.sl.v32, run_E.sl.v33, run_E.sl.v34, run_E.sl.v36, run_E.sl.v37, run_E.sl.v38, run_E.sl.v39, run_E.sl.v40, run_E.sl.v395,
        run_E.sl.v399, run_E.sl.v749, run_E.sl.v753, run_E.sl.v890, run_E.sl.v891, run_E.sl.v892, run_E.sl.v893, run_E.sl.v894,
        run_E.sl.v895, run_E.sl.v896, run_E.sl.v897, run_E.sl.v898, run_E.sl.v899, run_E.sl.v900, run_E.sl.v902, run_E.sl.v904,
        run_E.sl.v905, run_E.sl.v906, run_E.sl.v907, run_E.sl.v908, run_E.sl.v909, run_E.sl.v910, run_E.sl.v912, run_E.sl.v913,
        run_E.sl.v914, run_E.sl.v915, run_E.sl.v916, run_E.sl.v917, run_E.sl.v918, run_E.sl.v919, run_E.sl.v920, run_E.sl.v921,
        run_E.sl.v922, run_E.sl.v923, run_E.sl.v924, run_E.sl.v925, run_E.sl.v926, run_E.sl.v927, run_E.sl.v928, run_E.sl.v931,
        run_E.sl.v1057, run_E.sl.v1058, run_E.sl.v1059, run_E.sl.v1060, run_E.sl.v1061, run_E.sl.v1063, run_E.sl.v1064, run_E.sl.v1066,
        run_E.sl.v1067, run_E.sl.v1069, run_E.sl.v1070, run_E.sl.v1071, run_E.sl.v1073, run_E.sl.v1075, run_E.sl.v1077, run_E.sl.v1078,
        run_E.sl.v1080, run_E.sl.v1081, run_E.sl.v1083, run_E.sl.v1085, run_E.sl.v1086, run_E.sl.v1087, run_E.sl.v1088, run_E.sl.v1089,
        run_E.sl.v1090, run_E.sl.v1100, run_E.sl.v1101, run_E.sl.v1103, run_E.sl.v1107, run_E.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_E.sl.H5_4, run_E.sl.cst_76, run_E.sl.cst_173, run_E.sl.cst_192, run_E.sl.cst_303, run_E.sl.cst_446, run_E.sl.cst_539,
        run_E.sl.cst_571, run_E.sl.r, run_E.sl.r_1, run_E.sl.r_2, run_E.sl.r_3, run_E.sl.r_4, run_E.sl.r_5, run_E.sl.r_6, run_E.sl.r_7,
        run_E.sl.r_8, run_E.sl.r_9, run_E.sl.r_10, run_E.sl.r_11, run_E.sl.r_12, run_E.sl.r_13, run_E.sl.r_14, run_E.sl.r_15,
        run_E.sl.r_16, run_E.sl.r_17, run_E.sl.r_18, run_E.sl.r_19, run_E.sl.r_20, run_E.sl.r_21, run_E.sl.r_22, run_E.sl.r_23,
        run_E.sl.r_24, run_E.sl.r_25, run_E.sl.r_26, run_E.sl.r_27, run_E.sl.r_28, run_E.sl.r_29, run_E.sl.r_30, run_E.sl.r_31,
        run_E.sl.r_32, run_E.sl.r_33, run_E.sl.r_34, run_E.sl.r_35, run_E.sl.r_36, run_E.sl.r_37, run_E.sl.r_38, run_E.sl.r_39,
        run_E.sl.r_40, run_E.sl.r_41, run_E.sl.r_42, run_E.sl.r_43, run_E.sl.r_44, run_E.sl.r_45, run_E.sl.r_46, run_E.sl.r_47,
        run_E.sl.r_48, run_E.sl.r_49, run_E.sl.r_50, run_E.sl.r_51, run_E.sl.r_52, run_E.sl.r_53, run_E.sl.r_54, run_E.sl.r_55,
        run_E.sl.r_56, run_E.sl.r_57, run_E.sl.r_58, run_E.sl.r_59, run_E.sl.r_60, run_E.sl.r_61, run_E.sl.r_62, run_E.sl.r_63,
        run_E.sl.r_64, run_E.sl.r_65, run_E.sl.r_66, run_E.sl.r_67, run_E.sl.r_68, run_E.sl.r_69, run_E.sl.r_70, run_E.sl.r_71,
        run_E.sl.r_72, run_E.sl.r_73, run_E.sl.r_74, run_E.sl.r_75, run_E.sl.r_76, run_E.sl.r_77, run_E.sl.r_78, run_E.sl.r_79,
        run_E.sl.r_80, run_E.sl.r_81, run_E.sl.r_82, run_E.sl.r_83, run_E.sl.r_84, run_E.sl.r_85, run_E.sl.r_86, run_E.sl.r_87,
        run_E.sl.r_88, run_E.sl.r_89, run_E.sl.r_90, run_E.sl.r_91, run_E.sl.r_92, run_E.sl.r_93, run_E.sl.r_94, run_E.sl.r_95,
        run_E.sl.r_96, run_E.sl.r_97, run_E.sl.r_98, run_E.sl.r_99, run_E.sl.r_100, run_E.sl.r_101, run_E.sl.r_102, run_E.sl.r_103,
        run_E.sl.r_104, run_E.sl.r_105, run_E.sl.r_106, run_E.sl.r_107, run_E.sl.v2, run_E.sl.v3, run_E.sl.v4, run_E.sl.v6, run_E.sl.v7,
        run_E.sl.v8, run_E.sl.v9, run_E.sl.v10, run_E.sl.v11, run_E.sl.v14, run_E.sl.v15, run_E.sl.v16, run_E.sl.v18, run_E.sl.v19,
        run_E.sl.v20, run_E.sl.v21, run_E.sl.v22, run_E.sl.v23, run_E.sl.v24, run_E.sl.v25, run_E.sl.v27, run_E.sl.v28, run_E.sl.v29,
        run_E.sl.v32, run_E.sl.v33, run_E.sl.v34, run_E.sl.v36, run_E.sl.v37, run_E.sl.v38, run_E.sl.v39, run_E.sl.v40, run_E.sl.v395,
        run_E.sl.v399, run_E.sl.v749, run_E.sl.v753, run_E.sl.v890, run_E.sl.v891, run_E.sl.v892, run_E.sl.v893, run_E.sl.v894,
        run_E.sl.v895, run_E.sl.v896, run_E.sl.v897, run_E.sl.v898, run_E.sl.v899, run_E.sl.v900, run_E.sl.v902, run_E.sl.v904,
        run_E.sl.v905, run_E.sl.v906, run_E.sl.v907, run_E.sl.v908, run_E.sl.v909, run_E.sl.v910, run_E.sl.v912, run_E.sl.v913,
        run_E.sl.v914, run_E.sl.v915, run_E.sl.v916, run_E.sl.v917, run_E.sl.v918, run_E.sl.v919, run_E.sl.v920, run_E.sl.v921,
        run_E.sl.v922, run_E.sl.v923, run_E.sl.v924, run_E.sl.v925, run_E.sl.v926, run_E.sl.v927, run_E.sl.v928, run_E.sl.v931,
        run_E.sl.v1057, run_E.sl.v1058, run_E.sl.v1059, run_E.sl.v1060, run_E.sl.v1061, run_E.sl.v1063, run_E.sl.v1064, run_E.sl.v1066,
        run_E.sl.v1067, run_E.sl.v1069, run_E.sl.v1070, run_E.sl.v1071, run_E.sl.v1073, run_E.sl.v1075, run_E.sl.v1077, run_E.sl.v1078,
        run_E.sl.v1080, run_E.sl.v1081, run_E.sl.v1083, run_E.sl.v1085, run_E.sl.v1086, run_E.sl.v1087, run_E.sl.v1088, run_E.sl.v1089,
        run_E.sl.v1090, run_E.sl.v1100, run_E.sl.v1101, run_E.sl.v1103, run_E.sl.v1107, run_E.sl.v1465, codesT, valsT, nibT, vT, mT, sbT,
        sbTiles, View.readAt_eq_ld, ld_st0, ld_st1, ld_rot, ld_vt, ld_src, ld_x00, ld_x01, ld_x02, ld_x03, ld_x10, ld_x11, ld_x12, ld_x13,
        k0_pay6, k0_pay7, k0_pay8, k0_pay9, k0_pay10, k0_pay11, k0_pay12, k0_pay13, k0_pay14, k0_pay15, k0_pay16, k0_pay17, k0_pay18,
        k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44,
        k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83,
        k0_pay84, k0_pay85, k0_pay86, k0_pay87, k0_pay88, k0_pay89, k0_pay90, k0_pay91, k0_pay92, k0_pay93, k0_pay94, k0_pay95, k0_pay96,
        k0_pay97, k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay1]
    all_goals rfl

end Cert.Kernel.Gen

end
-- ==== Proof.BitsRun.RunF.lean ====
module

public import proofs.«01_k».proof.Proof.BitsRun.Step

/-! A step in the middle of a column block and of a group of four. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

set_option maxHeartbeats 1000000 in
theorem run_F (h1 : ¬isFirst (grid0.coords t)) (h2 : ¬startsBlock (grid0.coords t)) (h3 : k0_cond3 (grid0.coords t) = 1#1) (h4 : ¬k0_cond4 (grid0.coords t) = 1#1) (h5 : ¬endsBlock (grid0.coords t)) :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwOf x4 x5 x8) (codesOf x0 x1 x2 x3) x7 (valsOf x0 x2 x3) (sbufMix (t.val % 4) (sbTiles x0 x2 x3) x9) := by
  intro E K
  simp only [cc0_main_eq_skeleton]; unfold cc0_main_skel
  simp only [k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | sl_exact h1 | sl_exact h2 | sl_exact h3 | sl_exact h4 | sl_exact h5)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr
    swap; · iexact H5
    ipureintro
    funext y
    refine View.read_writes_apply_of_pieces _ _ (dwOf (arg5.view.read (Elt F) f4) (arg6.view.read (Elt F) f5) (arg9.view.read (Elt F) f8)) _ ?_ y ?_
    · simp only [List.forall_mem_cons, List.not_mem_nil, false_imp_iff, implies_true, _root_.and_true]
      refine ⟨fun x => Eq.trans (congrFun ?_ x) (dwOf_emb _ _ _ 3 _ x).symm, fun x => Eq.trans (congrFun ?_ x) (dwOf_emb _ _ _ 2 _ x).symm, fun x => Eq.trans (congrFun ?_ x) (dwOf_emb _ _ _ 1 _ x).symm, fun x => Eq.trans (congrFun ?_ x) (dwOf_emb _ _ _ 0 _ x).symm⟩
      all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, View.readAt_eq_ld, ld_st0, ld_st1, ld_rot, ld_vt, ld_src, ld_x00, ld_x01, ld_x02, ld_x03, ld_x10,
        ld_x11, ld_x12, ld_x13, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67, k0_pay68, k0_pay69,
        k0_pay70, k0_pay71, k0_pay72, k0_pay73, k0_pay74, k0_pay75, k0_pay76, k0_pay77, k0_pay78, k0_pay79, k0_pay80, k0_pay81, k0_pay82,
        k0_pay83, k0_pay84, k0_pay85, k0_pay86, k0_pay87, k0_pay88, k0_pay89, k0_pay90, k0_pay91, k0_pay92, k0_pay93, k0_pay94, k0_pay95,
        k0_pay96, k0_pay97, k0_pay98, k0_pay99, k0_pay100, k0_pay101, k0_pay102, k0_pay103, k0_pay104, k0_pay105, k0_pay106, k0_pay107,
        k0_pay108, k0_pay109, k0_pay110, k0_pay111, k0_pay112, k0_pay113, k0_pay114, k0_pay115, k0_pay116, k0_pay117, k0_pay118,
        k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140,
        k0_pay141, k0_pay142, k0_pay143, k0_pay144, k0_pay145, k0_pay146, k0_pay147, k0_pay148, k0_pay149, k0_pay1]
      all_goals rfl
    · exact View.cover_of_tiled _ (![2816, 256] : Fin 2 → ℕ) (by rfl) y
  isplitl [H6]
  · iexists _; isplitr
    swap; · iexact H6
    ipureintro
    funext y
    refine View.read_writes_apply_of_pieces _ _ (codesOf _ _ _ _) _ ?_ y ?_
    · simp only [List.forall_mem_cons, List.not_mem_nil, false_imp_iff, implies_true, _root_.and_true]
      refine ⟨fun x => Eq.trans (congrFun ?_ x) (codesOf_emb _ _ _ _ 1 3 _ x).symm, fun x => Eq.trans (congrFun ?_ x) (codesOf_emb _ _ _ _ 0 3 _ x).symm, fun x => Eq.trans (congrFun ?_ x) (codesOf_emb _ _ _ _ 1 2 _ x).symm, fun x => Eq.trans (congrFun ?_ x) (codesOf_emb _ _ _ _ 0 2 _ x).symm, fun x => Eq.trans (congrFun ?_ x) (codesOf_emb _ _ _ _ 1 1 _ x).symm, fun x => Eq.trans (congrFun ?_ x) (codesOf_emb _ _ _ _ 0 1 _ x).symm, fun x => Eq.trans (congrFun ?_ x) (codesOf_emb _ _ _ _ 1 0 _ x).symm, fun x => Eq.trans (congrFun ?_ x) (codesOf_emb _ _ _ _ 0 0 _ x).symm⟩
      all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, codesT, valsT, nibT, vT, mT, sbT, sbTiles, View.readAt_eq_ld, ld_st0, ld_st1, ld_rot, ld_vt,
        ld_src, ld_x00, ld_x01, ld_x02, ld_x03, ld_x10, ld_x11, ld_x12, ld_x13, k0_pay6, k0_pay7, k0_pay8, k0_pay9, k0_pay10, k0_pay11,
        k0_pay12, k0_pay13, k0_pay14, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay1]
      all_goals rfl
    · exact View.cover_of_tiled _ (![256, 128] : Fin 2 → ℕ) (by rfl) y
  isplitl [H7]
  · iexists _; isplitr
    swap; · iexact H7
    ipureintro
    rfl
  isplitl [H8]
  · iexists _; isplitr
    swap; · iexact H8
    ipureintro
    funext y
    refine View.read_writes_apply_of_pieces _ _ (valsOf _ _ _) _ ?_ y ?_
    · simp only [List.forall_mem_cons, List.not_mem_nil, false_imp_iff, implies_true, _root_.and_true]
      refine ⟨fun x => Eq.trans (congrFun ?_ x) (valsOf_emb _ _ _ 1 3 _ x).symm, fun x => Eq.trans (congrFun ?_ x) (valsOf_emb _ _ _ 0 3 _ x).symm, fun x => Eq.trans (congrFun ?_ x) (valsOf_emb _ _ _ 1 2 _ x).symm, fun x => Eq.trans (congrFun ?_ x) (valsOf_emb _ _ _ 0 2 _ x).symm, fun x => Eq.trans (congrFun ?_ x) (valsOf_emb _ _ _ 1 1 _ x).symm, fun x => Eq.trans (congrFun ?_ x) (valsOf_emb _ _ _ 0 1 _ x).symm, fun x => Eq.trans (congrFun ?_ x) (valsOf_emb _ _ _ 1 0 _ x).symm, fun x => Eq.trans (congrFun ?_ x) (valsOf_emb _ _ _ 0 0 _ x).symm⟩
      all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, codesT, valsT, nibT, vT, mT, sbT, sbTiles, View.readAt_eq_ld, ld_st0, ld_st1, ld_rot, ld_vt,
        ld_src, ld_x00, ld_x01, ld_x02, ld_x03, ld_x10, ld_x11, ld_x12, ld_x13, k0_pay6, k0_pay7, k0_pay8, k0_pay9, k0_pay10, k0_pay11,
        k0_pay12, k0_pay13, k0_pay14, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay1]
      all_goals rfl
    · exact View.cover_of_tiled _ (![256, 256] : Fin 2 → ℕ) (by rfl) y

  · iexists _; isplitr
    swap; · iexact H9
    ipureintro
    refine sbuf_tiles _ _ (t.val % 4) (Nat.mod_lt _ (by decide)) (sbTiles (arg1.view.read (Elt F) f0) (arg3.view.read (Elt F) f2) (arg4.view.read (Elt F) f3))
      _ (off4_eq t).2 _ ?_
      _ (off4_eq t).1 _ ?_
      _ (off3_eq t).2 _ ?_
      _ (off3_eq t).1 _ ?_
      _ (off2_eq t).2 _ ?_
      _ (off2_eq t).1 _ ?_
      _ (off1_eq t).2 _ ?_
      _ (off1_eq t).1 _ ?_
    all_goals dsimp only [run_F.sl.cst_76, run_F.sl.cst_173, run_F.sl.cst_192, run_F.sl.cst_303, run_F.sl.cst_446, run_F.sl.cst_539, run_F.sl.cst_571,
        run_F.sl.r, run_F.sl.r_1, run_F.sl.r_2, run_F.sl.r_3, run_F.sl.r_4, run_F.sl.r_5, run_F.sl.r_6, run_F.sl.r_7, run_F.sl.r_8,
        run_F.sl.r_9, run_F.sl.r_10, run_F.sl.r_11, run_F.sl.r_12, run_F.sl.r_13, run_F.sl.r_14, run_F.sl.r_15, run_F.sl.r_16,
        run_F.sl.r_17, run_F.sl.r_18, run_F.sl.r_19, run_F.sl.r_20, run_F.sl.r_21, run_F.sl.r_22, run_F.sl.r_23, run_F.sl.r_24,
        run_F.sl.r_25, run_F.sl.r_26, run_F.sl.r_27, run_F.sl.r_28, run_F.sl.r_29, run_F.sl.r_30, run_F.sl.r_31, run_F.sl.r_32,
        run_F.sl.r_33, run_F.sl.r_34, run_F.sl.r_35, run_F.sl.r_36, run_F.sl.r_37, run_F.sl.r_38, run_F.sl.r_39, run_F.sl.r_40,
        run_F.sl.r_41, run_F.sl.r_42, run_F.sl.r_43, run_F.sl.r_44, run_F.sl.r_45, run_F.sl.r_46, run_F.sl.r_47, run_F.sl.r_48,
        run_F.sl.r_49, run_F.sl.r_50, run_F.sl.r_51, run_F.sl.r_52, run_F.sl.r_53, run_F.sl.r_54, run_F.sl.r_55, run_F.sl.r_56,
        run_F.sl.r_57, run_F.sl.r_58, run_F.sl.r_59, run_F.sl.r_60, run_F.sl.r_61, run_F.sl.r_62, run_F.sl.r_63, run_F.sl.r_64,
        run_F.sl.r_65, run_F.sl.r_66, run_F.sl.r_67, run_F.sl.r_68, run_F.sl.r_69, run_F.sl.r_70, run_F.sl.r_71, run_F.sl.r_72,
        run_F.sl.r_73, run_F.sl.r_74, run_F.sl.r_75, run_F.sl.r_76, run_F.sl.r_77, run_F.sl.r_78, run_F.sl.r_79, run_F.sl.r_80,
        run_F.sl.r_81, run_F.sl.r_82, run_F.sl.r_83, run_F.sl.r_84, run_F.sl.r_85, run_F.sl.r_86, run_F.sl.r_87, run_F.sl.r_88,
        run_F.sl.r_89, run_F.sl.r_90, run_F.sl.r_91, run_F.sl.r_92, run_F.sl.r_93, run_F.sl.r_94, run_F.sl.r_95, run_F.sl.r_96,
        run_F.sl.r_97, run_F.sl.r_98, run_F.sl.r_99, run_F.sl.r_100, run_F.sl.r_101, run_F.sl.r_102, run_F.sl.r_103, run_F.sl.r_104,
        run_F.sl.r_105, run_F.sl.v2, run_F.sl.v3, run_F.sl.v4, run_F.sl.v6, run_F.sl.v7, run_F.sl.v8, run_F.sl.v9, run_F.sl.v10,
        run_F.sl.v11, run_F.sl.v14, run_F.sl.v15, run_F.sl.v16, run_F.sl.v18, run_F.sl.v19, run_F.sl.v20, run_F.sl.v21, run_F.sl.v22,
        run_F.sl.v23, run_F.sl.v24, run_F.sl.v25, run_F.sl.v27, run_F.sl.v28, run_F.sl.v29, run_F.sl.v32, run_F.sl.v33, run_F.sl.v34,
        run_F.sl.v36, run_F.sl.v37, run_F.sl.v38, run_F.sl.v39, run_F.sl.v40, run_F.sl.v395, run_F.sl.v399, run_F.sl.v749, run_F.sl.v753,
        run_F.sl.v890, run_F.sl.v891, run_F.sl.v892, run_F.sl.v893, run_F.sl.v894, run_F.sl.v895, run_F.sl.v896, run_F.sl.v897,
        run_F.sl.v898, run_F.sl.v899, run_F.sl.v900, run_F.sl.v902, run_F.sl.v904, run_F.sl.v905, run_F.sl.v906, run_F.sl.v907,
        run_F.sl.v908, run_F.sl.v909, run_F.sl.v910, run_F.sl.v912, run_F.sl.v913, run_F.sl.v914, run_F.sl.v915, run_F.sl.v916,
        run_F.sl.v917, run_F.sl.v918, run_F.sl.v919, run_F.sl.v920, run_F.sl.v921, run_F.sl.v922, run_F.sl.v923, run_F.sl.v924,
        run_F.sl.v925, run_F.sl.v926, run_F.sl.v927, run_F.sl.v928, run_F.sl.v931, run_F.sl.v1057, run_F.sl.v1058, run_F.sl.v1059,
        run_F.sl.v1060, run_F.sl.v1061, run_F.sl.v1063, run_F.sl.v1064, run_F.sl.v1066, run_F.sl.v1067, run_F.sl.v1069, run_F.sl.v1070,
        run_F.sl.v1071, run_F.sl.v1073, run_F.sl.v1075, run_F.sl.v1077, run_F.sl.v1078, run_F.sl.v1080, run_F.sl.v1081, run_F.sl.v1083,
        run_F.sl.v1085, run_F.sl.v1086, run_F.sl.v1087, run_F.sl.v1088, run_F.sl.v1089, run_F.sl.v1090, run_F.sl.v1100, run_F.sl.v1101,
        run_F.sl.v1103, run_F.sl.v1107, codesT, valsT, nibT, vT, mT, sbT, sbTiles, View.readAt_eq_ld, ld_st0, ld_st1, ld_rot, ld_vt,
        ld_src, ld_x00, ld_x01, ld_x02, ld_x03, ld_x10, ld_x11, ld_x12, ld_x13, k0_pay6, k0_pay7, k0_pay8, k0_pay9, k0_pay10, k0_pay11,
        k0_pay12, k0_pay13, k0_pay14, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60, k0_pay61, k0_pay62, k0_pay63,
        k0_pay64, k0_pay65, k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay1]
    all_goals rfl

end Cert.Kernel.Gen

end
-- ==== Proof.BitsRun.Body.lean ====
module

public import proofs.«01_k».proof.Proof.BitsRun.RunA
public import proofs.«01_k».proof.Proof.BitsRun.RunB
public import proofs.«01_k».proof.Proof.BitsRun.RunC
public import proofs.«01_k».proof.Proof.BitsRun.RunD
public import proofs.«01_k».proof.Proof.BitsRun.RunE
public import proofs.«01_k».proof.Proof.BitsRun.RunF

/-! One step of the kernel at any grid point: the six cases of its branches as one statement. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the step leaves in the accumulator: the product added (to zero at the start of a column block, of zeros at the
first step), scaled at the end of the column block. -/
def dwStep (n : ℕ) (x0 : Vec F S2 .f32) (x4 : Vec F S1408x512 .i32) (x5 : Vec F S2816x1024 .f32) (x8 : Vec F S512x1024 .bf16) :
    Vec F S2816x1024 .f32 :=
  if n % 64 = 0 ∧ 0 < n then dwEnd x0 (dwOf x4 x5 x8)
  else dwOf x4 (if n % 64 = 1 ∨ n = 0 then k0_pay5 else x5) (if n = 0 then k0_pay4 else x8)
/-- What the step leaves in the window of finished scales. -/
def sbStep (n : ℕ) (x7 : Vec F S1024x128 .fp8e4m3) (s : Vec F S128x1024 .f32) : Vec F S1024x128 .fp8e4m3 :=
  if n % 4 = 3 then sbOut s else x7

variable (c : Dev nD) (t : Fin grid0.N)
    (arg1 : Memref sig .tc .smem S2 .f32) (harg1 : arg1.IsWhole)
    (arg2 : Memref sig .tc .vmem S8x128 .i32) (harg2 : arg2.IsWhole)
    (arg3 : Memref sig .tc .vmem S256x256 .bf16) (harg3 : arg3.IsWhole)
    (arg4 : Memref sig .tc .vmem S512x1024 .bf16) (harg4 : arg4.IsWhole)
    (arg5 : Memref sig .tc .vmem S1408x512 .i32) (harg5 : arg5.IsWhole)
    (arg6 : Memref sig .tc .vmem S2816x1024 .f32) (harg6 : arg6.IsWhole)
    (arg7 : Memref sig .tc .vmem S1024x256 .i8) (harg7 : arg7.IsWhole)
    (arg8 : Memref sig .tc .vmem S1024x128 .fp8e4m3) (harg8 : arg8.IsWhole)
    (arg9 : Memref sig .tc .vmem S512x1024 .bf16) (harg9 : arg9.IsWhole)
    (arg10 : Memref sig .tc .vmem S128x1024 .f32) (harg10 : arg10.IsWhole)
    (x0 : Vec F S2 .f32) (x1 : Vec F S8x128 .i32) (x2 : Vec F S256x256 .bf16) (x3 : Vec F S512x1024 .bf16) (x4 : Vec F S1408x512 .i32) (x5 : Vec F S2816x1024 .f32) (x6 : Vec F S1024x256 .i8) (x7 : Vec F S1024x128 .fp8e4m3) (x8 : Vec F S512x1024 .bf16) (x9 : Vec F S128x1024 .f32)

/-- The kernel body at any grid point. -/
theorem body_run :
    BodyTriple (F := F) c (grid0.coords t) arg1 harg1 arg2 harg2 arg3 harg3 arg4 harg4 arg5 harg5 arg6 harg6 arg7 harg7 arg8 harg8 arg9 harg9 arg10 harg10 x0 x1 x2 x3 x4 x5 x6 x7 x8 x9
      (dwStep t.val x0 x4 x5 x8) (codesOf x0 x1 x2 x3) (sbStep t.val x7 (sbufMix (t.val % 4) (sbTiles x0 x2 x3) x9))
      (valsOf x0 x2 x3) (sbufMix (t.val % 4) (sbTiles x0 x2 x3) x9) := by
  have hN : t.val < 449 := t.isLt
  obtain ⟨k1, k2, k3, k4, k5⟩ := conds t
  unfold dwStep sbStep
  by_cases hz : t.val = 0
  · rw [if_neg (by omega), if_pos (by omega), if_pos hz, if_neg (by omega)]
    exact run_A c t arg1 harg1 arg2 harg2 arg3 harg3 arg4 harg4 arg5 harg5 arg6 harg6 arg7 harg7 arg8 harg8 arg9 harg9 arg10 harg10 x0 x1 x2 x3 x4 x5 x6 x7 x8 x9 (k1.mpr (by omega)) (k2.mpr (by omega)) (k3.mpr (by omega)) (fun h => absurd (k4.mp h) (by omega)) (fun h => absurd (k5.mp h) (by omega))
  by_cases h1 : t.val % 64 = 1
  · rw [if_neg (by omega), if_pos (by omega), if_neg hz, if_neg (by omega)]
    exact run_B c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (k2.mpr (by omega)) (k3.mpr (by omega)) (fun h => absurd (k4.mp h) (by omega)) (fun h => absurd (k5.mp h) (by omega))
  by_cases h0 : t.val % 64 = 0
  · rw [if_pos (by omega), if_neg (by omega)]
    by_cases he : t.val = 448
    · exact run_E c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (fun h => absurd (k3.mp h) (by omega)) (fun h => absurd (k4.mp h) (by omega)) (k5.mpr (by omega))
    · exact run_D c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (k3.mpr (by omega)) (fun h => absurd (k4.mp h) (by omega)) (k5.mpr (by omega))
  rw [if_neg (by omega), if_neg (by omega), if_neg hz]
  by_cases h3 : t.val % 4 = 3
  · rw [if_pos h3]
    exact run_C c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (k3.mpr (by omega)) (k4.mpr (by omega)) (fun h => absurd (k5.mp h) (by omega))
  · rw [if_neg h3]
    exact run_F c t arg1 harg1 arg2 harg2 arg3 harg3 arg4 harg4 arg5 harg5 arg6 harg6 arg7 harg7 arg8 harg8 arg9 harg9 arg10 harg10 x0 x1 x2 x3 x4 x5 x6 x7 x8 x9 (fun h => absurd (k1.mp h) (by omega)) (fun h => absurd (k2.mp h) (by omega)) (k3.mpr (by omega)) (fun h => absurd (k4.mp h) (by omega)) (fun h => absurd (k5.mp h) (by omega))

end Cert.Kernel.Gen

end
-- ==== Proof.BitsRun.Frame.lean ====
module

public import proofs.«01_k».proof.Proof.BitsRun.Body
public import Idealize.ShloMosaic.Lib.Pipeline.TableIdle
public import Idealize.ShloMosaic.Lib.Claim

/-! The kernel's whole run: what every buffer holds after each of the 449 steps, and the frame claim. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the pipeline passes -/

abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1408x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .fp8e4m3 := win0_7.stage (cfg0.slots t 7)
abbrev hs0_7 (t : Fin cfg0.N) : (ms0_7 t).IsWhole := hstage0_7 ((cfg0.slots t 7).cast nbuf0_7)
abbrev scM0_0 : Memref sig .tc .vmem S512x1024 .bf16 := Memref.whole cc0_scratch0
abbrev scM0_1 : Memref sig .tc .vmem S128x1024 .f32 := Memref.whole cc0_scratch1

/-- What the launch hands the region, the two scratch buffers as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## When the output windows are written back -/

theorem flush5 : ∀ t : Fin grid0.N, win0_5.flush t = true ↔ t.val % 64 = 0 ∧ 0 < t.val := by
  simp only [Pipeline.Window.flush_eq_flushF]; decide +kernel
theorem flush7 : ∀ t : Fin grid0.N, win0_7.flush t = true ↔ (t.val % 4 = 3 ∧ t.val ≠ 447) ∨ t.val = 448 := by
  simp only [Pipeline.Window.flush_eq_flushF]; decide +kernel
theorem idle7 : ∀ t : Fin grid0.N, idle0 7 (grid0.coords t) = !decide (t.val % 4 = 3) := by
  decide +kernel
/-- The window of finished scales holds what some step stored at the last step only. -/
theorem fresh7 : ∀ n, n ≤ cfg0.N → cfg0.fresh 7 n = decide (n ≠ 448) :=
  cfg0.fresh_tab 7 (fun n => decide (n ≠ 448)) rfl fun (t : Fin grid0.N) => by
    have hN : t.val < 449 := t.isLt
    show decide (t.val + 1 ≠ 448) = (win0_7.flush t || (idle0 7 (grid0.coords t) && decide (t.val ≠ 448)))
    rw [idle7]
    have h := flush7 t
    cases hf : win0_7.flush t <;> rw [hf] at h
    · have h' : ¬((t.val % 4 = 3 ∧ t.val ≠ 447) ∨ t.val = 448) := fun hh => Bool.false_ne_true (h.mpr hh)
      by_cases h3 : t.val % 4 = 3
      · have : t.val = 447 := by omega
        simp [this]
      · have : t.val ≠ 447 ∧ t.val ≠ 448 := by omega
        simp [h3, this.2]; omega
    · have := h.mp rfl
      simp; omega

/-! ## What the buffers hold after each step -/

/-- Step `n`, the last if there are fewer. -/
def pt (n : ℕ) : Fin cfg0.N := ⟨min n 448, Nat.lt_of_le_of_lt (Nat.min_le_right _ _) (show 448 < cfg0.N by rw [show cfg0.N = 449 from N_0]; decide)⟩
theorem pt_val (t : Fin cfg0.N) : pt t.val = t := Fin.ext (by
  have h : t.val < 449 := lt_of_lt_of_eq t.isLt (show cfg0.N = 449 from N_0)
  show min t.val 448 = t.val; omega)

/-- The dequantised block of step `n`. -/
def valsAt (c : Dev nD) (n : ℕ) : Vec F S512x1024 .bf16 := valsOf (iblk m c 0 (pt n)) (iblk m c 2 (pt n)) (iblk m c 3 (pt n))
/-- The packed codes of step `n`. -/
def codesAt (c : Dev nD) (n : ℕ) : Vec F S1024x256 .i8 := codesOf (iblk m c 0 (pt n)) (iblk m c 1 (pt n)) (iblk m c 2 (pt n)) (iblk m c 3 (pt n))
/-- The accumulator after step `n`. -/
def dwAt (c : Dev nD) : ℕ → Vec F S2816x1024 .f32
  | 0 => dwStep 0 (iblk m c 0 (pt 0)) (iblk m c 4 (pt 0)) k0_pay5 k0_pay4
  | n + 1 => dwStep (n + 1) (iblk m c 0 (pt (n + 1))) (iblk m c 4 (pt (n + 1))) (dwAt c n) (valsAt m c n)
/-- The scale buffer once the steps `4 g … 4 g + 3` have written it. -/
def sbGroup (c : Dev nD) (g : ℕ) : Vec F S128x1024 .f32 := fun y =>
  sbufMix ((y 0).val / 32) (sbTiles (iblk m c 0 (pt (4 * g + (y 0).val / 32))) (iblk m c 2 (pt (4 * g + (y 0).val / 32))) (iblk m c 3 (pt (4 * g + (y 0).val / 32))))
    (fun _ => FloatOps.ofBits .f32 0#32) y
/-- The scale buffer after step `n`: the rows of its group written so far are the group's. -/
def SbOk (c : Dev nD) (n : ℕ) (d : Vec F S128x1024 .f32) : Prop := ∀ y, (y 0).val / 32 ≤ n % 4 → d y = sbGroup m c (n / 4) y
/-- The window of finished scales after step `n`. -/
def sbAt (c : Dev nD) (n : ℕ) : Vec F S1024x128 .fp8e4m3 := sbOut (sbGroup m c (min n 447 / 4))

/-- The step keeps `SbOk`. -/
theorem sbOk_step (c : Dev nD) (t : Fin cfg0.N) (d : Vec F S128x1024 .f32) (h : t.val % 4 ≠ 0 → SbOk m c (t.val - 1) d) :
    SbOk m c t.val (sbufMix (t.val % 4) (sbTiles (iblk m c 0 t) (iblk m c 2 t) (iblk m c 3 t)) d) := by
  intro y hy
  by_cases e : (y 0).val / 32 = t.val % 4
  · have ep : pt (4 * (t.val / 4) + (y 0).val / 32) = t := by
      rw [e, show 4 * (t.val / 4) + t.val % 4 = t.val by omega, pt_val]
    unfold sbGroup
    rw [ep, e]
    unfold sbufMix
    rw [if_pos e, if_pos e]
  · rw [show sbufMix (t.val % 4) (sbTiles (iblk m c 0 t) (iblk m c 2 t) (iblk m c 3 t)) d y = d y from if_neg e,
      h (by omega) y (by omega), show (t.val - 1) / 4 = t.val / 4 by omega]
/-- At the end of a group the whole buffer is the group's. -/
theorem sbOk_full (c : Dev nD) (n : ℕ) (h3 : n % 4 = 3) (d : Vec F S128x1024 .f32) (h : SbOk m c n d) : d = sbGroup m c (n / 4) := by
  funext y
  exact h y (by have hy : (y 0).val < 128 := (y 0).isLt; omega)

/-- What holds between the steps: the scratch buffers at what the step before left. -/
def PhiS (c : Dev nD) : ℕ → sProp 𝕄
  | 0 => Pipeline.ΦA spec0 c
  | n + 1 => iprop(iprop(owns (c : Thread nD τ) scM0_0 fullShare (valsAt m c n) ∗ (∃ d, ⌜SbOk m c n d⌝ ∗ owns (c : Thread nD τ) scM0_1 fullShare d)) ∗ (∃ r, prngReg c r))
theorem PhiS_succ (c : Dev nD) (n : ℕ) :
    PhiS m c (n + 1) = iprop(iprop(owns (c : Thread nD τ) scM0_0 fullShare (valsAt m c n) ∗ (∃ d, ⌜SbOk m c n d⌝ ∗ owns (c : Thread nD τ) scM0_1 fullShare d)) ∗ (∃ r, prngReg c r)) := rfl

/-- The proof data: the arrays as the region finds them, the inputs' buffers at their blocks, the outputs' at the
contents named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwAt m c t.val
    | ⟨6, _⟩ => codesAt m c t.val
    | ⟨7, _⟩ => sbAt m c t.val
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dwAt m c t.val := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = sbAt m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- Within a column block the accumulator is what the step before left. -/
theorem before0_5 (c : Dev nD) (t : Fin cfg0.N) (h1 : t.val % 64 ≠ 1) (h0 : t.val ≠ 0) (d) :
    (dats m 0 c).before 5 t d = dwAt m c (t.val - 1) := by
  rw [Dat.before_out_kept _ 5 rfl t h0 (Bool.eq_false_iff.mpr fun h => by have := (flush5 _).mp h; dsimp only at this; omega)
    (fun _ => rfl) (fun _ _ => rfl)]
  dsimp only [dats]
/-- The window of finished scales: anything, but at the last step what the step before left. -/
theorem before0_7 (c : Dev nD) (t : Fin cfg0.N) (d) :
    (dats m 0 c).before 7 t d = if t.val = 448 then sbAt m c 448 else d := by
  have hN : t.val < 449 := lt_of_lt_of_eq t.isLt (show cfg0.N = 449 from N_0)
  rw [(dats m 0 c).before_out_traj 7 rfl (fun _ _ => rfl) (fun t ht hi hf => by
    rw [fresh7 t.val (le_of_lt t.isLt)] at hf
    have h448 : t.val = 448 := by simpa using hf
    rw [after0_7, after0_7]
    dsimp only
    rw [h448]; rfl) t.val t rfl d, fresh7 t.val (le_of_lt t.isLt)]
  by_cases h : t.val = 448
  · rw [if_neg (by simp [h]), if_pos h, after0_7]
    dsimp only
    rw [h]; rfl
  · rw [if_pos (by simp [h]), if_neg h]

/-! ## The body obligation -/

/-- What the body is called with at a step, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (dats m 0 c).leavesExact 7 t)

/-- At the start of a column block what the accumulator held does not matter. -/
theorem dwStep_start (n : ℕ) (h : n % 64 = 1) (x0 : Vec F S2 .f32) (x4 : Vec F S1408x512 .i32) (a b : Vec F S2816x1024 .f32) (x8 : Vec F S512x1024 .bf16) :
    dwStep n x0 x4 a x8 = dwStep n x0 x4 b x8 := by
  have h1 : ¬(n % 64 = 0 ∧ 0 < n) := by omega
  have h2 : n % 64 = 1 ∨ n = 0 := Or.inl h
  unfold dwStep
  simp only [if_neg h1, if_pos h2]
/-- The accumulator after a step, from what the step finds. -/
theorem dwAt_step (c : Dev nD) (t : Fin cfg0.N) (x8 : Vec F S512x1024 .bf16) (h8 : t.val ≠ 0 → x8 = valsAt m c (t.val - 1)) (d) :
    dwStep t.val (iblk m c 0 t) (iblk m c 4 t) ((dats m 0 c).before 5 t d) x8 = dwAt m c t.val := by
  obtain ⟨n, hn⟩ := t
  have ep : pt n = ⟨n, hn⟩ := pt_val ⟨n, hn⟩
  cases n with
  | zero =>
    show dwStep 0 _ _ _ _ = dwStep 0 (iblk m c 0 (pt 0)) (iblk m c 4 (pt 0)) k0_pay5 k0_pay4
    rw [ep]; rfl
  | succ n =>
    rw [h8 (Nat.succ_ne_zero n)]
    show dwStep (n + 1) _ _ _ _ = dwStep (n + 1) (iblk m c 0 (pt (n + 1))) (iblk m c 4 (pt (n + 1))) (dwAt m c n) (valsAt m c n)
    rw [ep]
    by_cases h1 : (n + 1) % 64 = 1
    · exact dwStep_start (n + 1) h1 _ _ _ _ _
    · rw [before0_5 m c ⟨n + 1, hn⟩ h1 (Nat.succ_ne_zero n)]
      rfl
/-- What the step leaves in the window of finished scales is what the pipeline asks of it. -/
theorem leaves7 (c : Dev nD) (t : Fin cfg0.N) (d7) (d : Vec F S128x1024 .f32) (hd : SbOk m c t.val d) :
    owns (c : Thread nD τ) (ms0_7 t) fullShare (sbStep t.val ((dats m 0 c).before 7 t d7) d) ⊢ ((dats m 0 c).leavesExact 7 t : sProp 𝕄) := by
  have hN : t.val < 449 := lt_of_lt_of_eq t.isLt (show cfg0.N = 449 from N_0)
  have hi : cfg0.idle 7 (cfg0.grid.coords t) = !decide (t.val % 4 = 3) := idle7 t
  by_cases h3 : t.val % 4 = 3
  · rw [show sbStep t.val ((dats m 0 c).before 7 t d7) d = sbAt m c t.val from by
      unfold sbStep sbAt; rw [if_pos h3, sbOk_full m c t.val h3 d hd, show min t.val 447 = t.val by omega]]
    unfold Dat.leavesExact
    rw [hi, show (!decide (t.val % 4 = 3)) = false by simp [h3]]
    rw [after0_7]
  · rw [show sbStep t.val ((dats m 0 c).before 7 t d7) d = (dats m 0 c).before 7 t d7 from if_neg h3]
    by_cases h8 : t.val = 448
    · unfold Dat.leavesExact
      rw [hi, show (!decide (t.val % 4 = 3)) = true by simp [h3],
        show (cfg0.win 7).flush t = true from (flush7 t).mpr (Or.inr h8)]
      rw [after0_7, before0_7, if_pos h8, h8]
    · rw [Dat.leavesExact_idle _ 7 t (hi.trans (by simp [h3])) (Bool.eq_false_iff.mpr fun h => by have := (flush7 t).mp h; omega)]
      iintro H; iexists _; iexact H

set_option maxHeartbeats 3200000 in
/-- The body at any step. -/
theorem sound_body (c : Dev nD) (t : Fin cfg0.N) :
    bodyPre m c t ⊢ wp frame (wpE (defs₀ (F := F)) Variants.none c none) Set.univ (bodyAt0 t) (fun _ => bodyPost m c t) := by
  have key : ∀ (x8 : Vec F S512x1024 .bf16) (x9 : Vec F S128x1024 .f32) (h8 : t.val ≠ 0 → x8 = valsAt m c (t.val - 1))
      (h9 : t.val % 4 ≠ 0 → SbOk m c (t.val - 1) x9),
      iprop((iprop(owns (c : Thread nD τ) scM0_0 fullShare x8 ∗ owns (c : Thread nD τ) scM0_1 fullShare x9) ∗ (∃ r, prngReg c r))
        ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
      ⊢ wp frame (wpE (defs₀ (F := F)) Variants.none c none) Set.univ (bodyAt0 t) (fun _ => bodyPost m c t) := by
    intro x8 x9 h8 h9
    unfold bodyPost bodyAt0
    simp only [before0_0, before0_1, before0_2, before0_3, before0_4]
    rw [show (dats m 0 c).owesAt () t.succ = (dats m 0 c).owesAt () t.castSucc from rfl,
      after0_0, after0_1, after0_2, after0_3, after0_4, after0_5, after0_6]
    rw [show (dats m 0 c).Φ t.succ = PhiS m c (t.val + 1) from rfl, PhiS_succ]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_run c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) ((dats m 0 c).before 5 t d5) ((dats m 0 c).before 6 t d6)
      ((dats m 0 c).before 7 t d7) x8 x9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · rw [show valsAt m c t.val = valsOf (iblk m c 0 t) (iblk m c 2 t) (iblk m c 3 t) from by unfold valsAt; rw [pt_val]]
          iexact HS0
        · iexists _; isplitr
          swap; · iexact HS1
          ipureintro; exact sbOk_step m c t x9 h9
      · iexact Hg
    isplitl [Ho]; · iexact Ho
    isplitl [H0]; · iexact H0
    isplitl [H1]; · iexact H1
    isplitl [H2]; · iexact H2
    isplitl [H3]; · iexact H3
    isplitl [H4]; · iexact H4
    isplitl [H5]
    · rw [← dwAt_step m c t x8 h8 d5]; iexact H5
    isplitl [H6]
    · rw [show codesAt m c t.val = codesOf (iblk m c 0 t) (iblk m c 1 t) (iblk m c 2 t) (iblk m c 3 t) from by unfold codesAt; rw [pt_val]]
      iexact H6
    iapply (leaves7 m c t d7 _ (sbOk_step m c t x9 h9))
    iexact H7
  unfold bodyPre
  rw [show (dats m 0 c).Φ t.castSucc = PhiS m c t.val from rfl]
  rcases hn : t.val with _ | n
  · show iprop(Pipeline.ΦA spec0 c ∗ _) ⊢ _
    rw [PhiA0_eq]
    iintro ⟨⟨⟨⟨%x8, HS0⟩, ⟨%x9, HS1⟩⟩, Hg⟩, Hr⟩
    iapply (key x8 x9 (fun h => absurd hn h) (fun h => absurd (by rw [hn]) h))
    isplitl [HS0 HS1 Hg]
    · isplitl [HS0 HS1]
      · isplitl [HS0]; · iexact HS0
        iexact HS1
      · iexact Hg
    iexact Hr
  · rw [PhiS_succ]
    iintro ⟨⟨⟨HS0, ⟨%x9, %h9, HS1⟩⟩, Hg⟩, Hr⟩
    iapply (key (valsAt m c n) x9 (fun _ => by rw [hn]; rfl) (fun _ => by rw [hn]; exact h9))
    isplitl [HS0 HS1 Hg]
    · isplitl [HS0 HS1]
      · isplitl [HS0]; · iexact HS0
        iexact HS1
      · iexact Hg
    iexact Hr

/-- The body table's row at a step is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = PhiS m c (448 + 1) from congrArg (PhiS m c) (show cfg0.N = 449 from N_0), PhiS_succ, PhiA0_eq]
  iintro ⟨⟨HS0, ⟨%d, %hd, HS1⟩⟩, Hg⟩
  isplitl [HS0 HS1]
  · isplitl [HS0]
    · iexists _; iexact HS0
    iexists _; iexact HS1
  iexact Hg

/-! ## The run and the frame -/

set_option backward.isDefEq.respectTransparency.types false in
/-- The run: it ends, every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)

/-- The frame claim: the run ends, the arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Gen

end
-- ==== Proof.Value.Scalars.lean ====
module
public import Idealize.ShloMosaic.Lib.ValueIdx
public import Idealize.ShloMosaic.Lib.IdealHost
public import Idealize.ShloMosaic.PureOps.Ideal.Laws

/-! The quantisation of one element, over the extended reals, as the kernel and as the reference write it. -/

@[expose] public section
noncomputable section
namespace Cert.Quant
open Idealize.ShloMosaic

/-- The f32 patterns 0.25, 0.75, 1.25, 1.75, 2.5, 3.5, 5 and 6 as the reals they are. -/
theorem b025 : Ideal.ofBits .f32 1048576000#32 = ((1/4 : ℝ) : EReal) := by
  simp [Ideal.ofBits, Ideal.ieee, -EReal.coe_mul]; norm_num
theorem b05 : Ideal.ofBits .f32 1056964608#32 = ((1/2 : ℝ) : EReal) := by
  simp [Ideal.ofBits, Ideal.ieee, -EReal.coe_mul]; norm_num
theorem b075 : Ideal.ofBits .f32 1061158912#32 = ((3/4 : ℝ) : EReal) := by
  simp [Ideal.ofBits, Ideal.ieee, -EReal.coe_mul]; norm_num
theorem b125 : Ideal.ofBits .f32 1067450368#32 = ((5/4 : ℝ) : EReal) := by
  simp [Ideal.ofBits, Ideal.ieee, -EReal.coe_mul]; norm_num
theorem b15 : Ideal.ofBits .f32 1069547520#32 = ((3/2 : ℝ) : EReal) := by
  simp [Ideal.ofBits, Ideal.ieee, -EReal.coe_mul]; norm_num
theorem b175 : Ideal.ofBits .f32 1071644672#32 = ((7/4 : ℝ) : EReal) := by
  simp [Ideal.ofBits, Ideal.ieee, -EReal.coe_mul]; norm_num
theorem b2 : Ideal.ofBits .f32 1073741824#32 = ((2 : ℝ) : EReal) := by
  simp [Ideal.ofBits, Ideal.ieee, -EReal.coe_mul]; norm_num
theorem b25 : Ideal.ofBits .f32 1075838976#32 = ((5/2 : ℝ) : EReal) := by
  simp [Ideal.ofBits, Ideal.ieee, -EReal.coe_mul]; norm_num
theorem b3 : Ideal.ofBits .f32 1077936128#32 = ((3 : ℝ) : EReal) := by
  simp [Ideal.ofBits, Ideal.ieee, -EReal.coe_mul]; norm_num
theorem b35 : Ideal.ofBits .f32 1080033280#32 = ((7/2 : ℝ) : EReal) := by
  simp [Ideal.ofBits, Ideal.ieee, -EReal.coe_mul]; norm_num
theorem b4 : Ideal.ofBits .f32 1082130432#32 = ((4 : ℝ) : EReal) := by
  simp [Ideal.ofBits, Ideal.ieee, -EReal.coe_mul]; norm_num
theorem b5 : Ideal.ofBits .f32 1084227584#32 = ((5 : ℝ) : EReal) := by
  simp [Ideal.ofBits, Ideal.ieee, -EReal.coe_mul]; norm_num
theorem b6 : Ideal.ofBits .f32 1086324736#32 = ((6 : ℝ) : EReal) := by
  simp [Ideal.ofBits, Ideal.ieee, -EReal.coe_mul]; norm_num
theorem bm6 : Ideal.ofBits .f32 3233808384#32 = -((6 : ℝ) : EReal) := by
  rw [← EReal.coe_neg]
  simp [Ideal.ofBits, Ideal.ieee, -EReal.coe_mul, -EReal.coe_neg]; norm_num
/-- The bfloat16 patterns of the eight magnitudes. -/
theorem h05 : Ideal.ofBits .bf16 16128#16 = ((1/2 : ℝ) : EReal) := by
  simp [Ideal.ofBits, Ideal.ieee, -EReal.coe_mul]; norm_num
theorem h15 : Ideal.ofBits .bf16 16320#16 = ((3/2 : ℝ) : EReal) := by
  simp [Ideal.ofBits, Ideal.ieee, -EReal.coe_mul]; norm_num
theorem h2 : Ideal.ofBits .bf16 16384#16 = ((2 : ℝ) : EReal) := by
  simp [Ideal.ofBits, Ideal.ieee, -EReal.coe_mul]; norm_num
theorem h3 : Ideal.ofBits .bf16 16448#16 = ((3 : ℝ) : EReal) := by
  simp [Ideal.ofBits, Ideal.ieee, -EReal.coe_mul]; norm_num
theorem h4 : Ideal.ofBits .bf16 16512#16 = ((4 : ℝ) : EReal) := by
  simp [Ideal.ofBits, Ideal.ieee, -EReal.coe_mul]; norm_num
theorem h6 : Ideal.ofBits .bf16 16576#16 = ((6 : ℝ) : EReal) := by
  simp [Ideal.ofBits, Ideal.ieee, -EReal.coe_mul]; norm_num

/-- The quotient of an element by its scale, zero where the scale is not positive. -/
def uOf (z q : EReal) : EReal := if 0 < q then Ideal.div z (if 0 < q then q else 1) else 0

/-- Its magnitude cut off at six. -/
def mOf (u : EReal) : EReal := min (FloatOps.absf (F := Ideal) (φ := .f32) u) (Ideal.ofBits .f32 1086324736#32)

/-- Which of the eight magnitudes a number rounds to: how many of the seven rounding points it has passed. -/
def kOf (m : EReal) : BitVec 32 :=
  if Ideal.ofBits .f32 1084227584#32 < m then 7#32 else if Ideal.ofBits .f32 1080033280#32 ≤ m then 6#32
  else if Ideal.ofBits .f32 1075838976#32 < m then 5#32 else if Ideal.ofBits .f32 1071644672#32 ≤ m then 4#32
  else if Ideal.ofBits .f32 1067450368#32 < m then 3#32 else if Ideal.ofBits .f32 1061158912#32 ≤ m then 2#32
  else if Ideal.ofBits .f32 1048576000#32 < m then 1#32 else 0#32

/-- The magnitude it rounds to. -/
def magOf (m : EReal) : EReal :=
  if Ideal.ofBits .f32 1084227584#32 < m then Ideal.ofBits .f32 1086324736#32
  else if Ideal.ofBits .f32 1080033280#32 ≤ m then Ideal.ofBits .f32 1082130432#32
  else if Ideal.ofBits .f32 1075838976#32 < m then Ideal.ofBits .f32 1077936128#32
  else if Ideal.ofBits .f32 1071644672#32 ≤ m then Ideal.ofBits .f32 1073741824#32
  else if Ideal.ofBits .f32 1067450368#32 < m then Ideal.ofBits .f32 1069547520#32
  else if Ideal.ofBits .f32 1061158912#32 ≤ m then 1
  else if Ideal.ofBits .f32 1048576000#32 < m then Ideal.ofBits .f32 1056964608#32 else 0

/-- The value the four-bit code of a number stands for. -/
def valOf (u : EReal) : EReal := if u < 0 then 0 - magOf (mOf u) else magOf (mOf u)

/-- The four-bit code of a number: the sign (zero has none) above the three bits of the magnitude. -/
def nibOf (u : EReal) : BitVec 32 := if u < 0 ∧ kOf (mOf u) ≠ 0#32 then kOf (mOf u) + 8#32 else kOf (mOf u)

/-- The seven comparisons added up are the count. -/
theorem kOf_sum (m : EReal) (a b c d e f g : BitVec 32)
    (ha : a = if Ideal.ofBits .f32 1048576000#32 < m then 1#32 else 0#32)
    (hb : b = if Ideal.ofBits .f32 1061158912#32 ≤ m then 1#32 else 0#32)
    (hc : c = if Ideal.ofBits .f32 1067450368#32 < m then 1#32 else 0#32)
    (hd : d = if Ideal.ofBits .f32 1071644672#32 ≤ m then 1#32 else 0#32)
    (he : e = if Ideal.ofBits .f32 1075838976#32 < m then 1#32 else 0#32)
    (hf : f = if Ideal.ofBits .f32 1080033280#32 ≤ m then 1#32 else 0#32)
    (hg : g = if Ideal.ofBits .f32 1084227584#32 < m then 1#32 else 0#32) :
    a + b + c + d + e + f + g = kOf m := by
  subst ha hb hc hd he hf hg
  unfold kOf
  rw [b025, b075, b125, b175, b25, b35, b5]
  have l1 : ((1/4 : ℝ) : EReal) < ((3/4 : ℝ) : EReal) := by exact_mod_cast (by norm_num : (1/4:ℝ) < 3/4)
  have l2 : ((3/4 : ℝ) : EReal) < ((5/4 : ℝ) : EReal) := by exact_mod_cast (by norm_num : (3/4:ℝ) < 5/4)
  have l3 : ((5/4 : ℝ) : EReal) < ((7/4 : ℝ) : EReal) := by exact_mod_cast (by norm_num : (5/4:ℝ) < 7/4)
  have l4 : ((7/4 : ℝ) : EReal) < ((5/2 : ℝ) : EReal) := by exact_mod_cast (by norm_num : (7/4:ℝ) < 5/2)
  have l5 : ((5/2 : ℝ) : EReal) < ((7/2 : ℝ) : EReal) := by exact_mod_cast (by norm_num : (5/2:ℝ) < 7/2)
  have l6 : ((7/2 : ℝ) : EReal) < ((5 : ℝ) : EReal) := by exact_mod_cast (by norm_num : (7/2:ℝ) < 5)
  generalize ((1/4 : ℝ) : EReal) = t1 at *
  generalize ((3/4 : ℝ) : EReal) = t2 at *
  generalize ((5/4 : ℝ) : EReal) = t3 at *
  generalize ((7/4 : ℝ) : EReal) = t4 at *
  generalize ((5/2 : ℝ) : EReal) = t5 at *
  generalize ((7/2 : ℝ) : EReal) = t6 at *
  generalize ((5 : ℝ) : EReal) = t7 at *
  have i7 : t7 < m → t6 ≤ m := fun h => (l6.trans h).le
  have i6 : t6 ≤ m → t5 < m := fun h => l5.trans_le h
  have i5 : t5 < m → t4 ≤ m := fun h => (l4.trans h).le
  have i4 : t4 ≤ m → t3 < m := fun h => l3.trans_le h
  have i3 : t3 < m → t2 ≤ m := fun h => (l2.trans h).le
  have i2 : t2 ≤ m → t1 < m := fun h => l1.trans_le h
  by_cases c7 : t7 < m
  · have c6 := i7 c7; have c5 := i6 c6; have c4 := i5 c5; have c3 := i4 c4; have c2 := i3 c3; have c1 := i2 c2
    simp only [if_pos c7, if_pos c6, if_pos c5, if_pos c4, if_pos c3, if_pos c2, if_pos c1]; rfl
  by_cases c6 : t6 ≤ m
  · have c5 := i6 c6; have c4 := i5 c5; have c3 := i4 c4; have c2 := i3 c3; have c1 := i2 c2
    simp only [if_neg c7, if_pos c6, if_pos c5, if_pos c4, if_pos c3, if_pos c2, if_pos c1]; rfl
  by_cases c5 : t5 < m
  · have c4 := i5 c5; have c3 := i4 c4; have c2 := i3 c3; have c1 := i2 c2
    simp only [if_neg c7, if_neg c6, if_pos c5, if_pos c4, if_pos c3, if_pos c2, if_pos c1]; rfl
  by_cases c4 : t4 ≤ m
  · have c3 := i4 c4; have c2 := i3 c3; have c1 := i2 c2
    simp only [if_neg c7, if_neg c6, if_neg c5, if_pos c4, if_pos c3, if_pos c2, if_pos c1]; rfl
  by_cases c3 : t3 < m
  · have c2 := i3 c3; have c1 := i2 c2
    simp only [if_neg c7, if_neg c6, if_neg c5, if_neg c4, if_pos c3, if_pos c2, if_pos c1]; rfl
  by_cases c2 : t2 ≤ m
  · have c1 := i2 c2
    simp only [if_neg c7, if_neg c6, if_neg c5, if_neg c4, if_neg c3, if_pos c2, if_pos c1]; rfl
  by_cases c1 : t1 < m
  · simp only [if_neg c7, if_neg c6, if_neg c5, if_neg c4, if_neg c3, if_neg c2, if_pos c1]; rfl
  · simp only [if_neg c7, if_neg c6, if_neg c5, if_neg c4, if_neg c3, if_neg c2, if_neg c1]; rfl

/-- What the magnitude of each three-bit number is. -/
def mag3 (k : BitVec 32) : EReal :=
  if k = 7#32 then ((6:ℝ):EReal) else if k = 6#32 then ((4:ℝ):EReal) else if k = 5#32 then ((3:ℝ):EReal) else if k = 4#32 then ((2:ℝ):EReal)
  else if k = 3#32 then ((3/2:ℝ):EReal) else if k = 2#32 then 1 else if k = 1#32 then ((1/2:ℝ):EReal) else 0

/-- The magnitude a number rounds to is the magnitude of its count. -/
theorem magOf_eq (m : EReal) : magOf m = mag3 (kOf m) := by
  unfold magOf kOf
  rw [b6, b4, b3, b2, b15, b05]
  split_ifs <;> simp [mag3]

/-- The count is one of eight. -/
theorem kOf_cases (m : EReal) : kOf m = 0#32 ∨ kOf m = 1#32 ∨ kOf m = 2#32 ∨ kOf m = 3#32 ∨ kOf m = 4#32 ∨ kOf m = 5#32 ∨ kOf m = 6#32 ∨ kOf m = 7#32 := by
  unfold kOf
  split_ifs <;> simp

/-- Clipping to `[-6, 6]` and taking the magnitude is cutting the magnitude off at six. -/
theorem absf_clip (y : EReal) :
    FloatOps.absf (F := Ideal) (φ := .f32) (min (Ideal.ofBits .f32 1086324736#32) (max (Ideal.ofBits .f32 3233808384#32) y)) = mOf y := by
  unfold mOf
  rw [Ideal.absf_def, Ideal.absf_def, b6, bm6]
  have h6 : (0 : EReal) < ((6 : ℝ) : EReal) := by exact_mod_cast (by norm_num : (0:ℝ) < 6)
  have hn : -((6 : ℝ) : EReal) < 0 := by rw [← EReal.coe_neg]; exact_mod_cast (by norm_num : (-6:ℝ) < 0)
  generalize ((6 : ℝ) : EReal) = s at *
  rcases le_total y 0 with h | h
  · have hy : 0 ≤ -y := by simpa using EReal.neg_le_neg_iff.mpr h
    have e1 : max y (-y) = -y := max_eq_right (h.trans hy)
    have e2 : min s (max (-s) y) = max (-s) y := min_eq_right (max_le (hn.le.trans h6.le) (h.trans h6.le))
    rw [e1, e2]
    rcases le_total (-s) y with hs | hs
    · have : -y ≤ s := by simpa using EReal.neg_le_neg_iff.mpr hs
      rw [max_eq_right hs, e1, min_eq_left this]
    · have : s ≤ -y := by simpa using EReal.neg_le_neg_iff.mpr hs
      rw [max_eq_left hs, neg_neg, min_eq_right this, max_eq_right (hn.le.trans h6.le)]
  · have hy : -y ≤ 0 := by simpa using EReal.neg_le_neg_iff.mpr h
    have e1 : max y (-y) = y := max_eq_left (hy.trans h)
    rw [e1, max_eq_right (hn.le.trans h), min_comm]
    refine max_eq_left ?_
    have : 0 ≤ min y s := le_min h h6.le
    exact (by simpa using EReal.neg_le_neg_iff.mpr this : -(min y s) ≤ 0).trans this

/-- and it keeps the sign. -/
theorem clip_neg (y : EReal) :
    min (Ideal.ofBits .f32 1086324736#32) (max (Ideal.ofBits .f32 3233808384#32) y) < 0 ↔ y < 0 := by
  rw [b6, bm6]
  have h6 : (0 : EReal) < ((6 : ℝ) : EReal) := by exact_mod_cast (by norm_num : (0:ℝ) < 6)
  have hn : -((6 : ℝ) : EReal) < 0 := by rw [← EReal.coe_neg]; exact_mod_cast (by norm_num : (-6:ℝ) < 0)
  rw [min_lt_iff, max_lt_iff]
  constructor
  · rintro (h | h)
    · exact absurd h (not_lt.mpr h6.le)
    · exact h.2
  · exact fun h => Or.inr ⟨hn, h⟩

/-- Multiplying by the reciprocal of the scale is dividing by the scale. -/
theorem mul_recip (z q : EReal) :
    z * (if 0 < q then Ideal.div 1 (if 0 < q then q else 1) else 0) = uOf z q := by
  unfold uOf
  by_cases h : 0 < q
  · simp only [if_pos h, Ideal.div, if_neg h.ne', one_mul]
  · simp only [if_neg h, mul_zero]

/-- A comparison widened to a word is the word one or zero. -/
theorem word_ofBool (p : Prop) [Decidable p] : BitVec.setWidth 32 (BitVec.ofBool (decide p)) = if p then 1#32 else 0#32 := by
  by_cases h : p <;> simp [h]

/-- The reference's four-bit code. -/
theorem nib_ref (u : EReal) :
    IntOp.ori (IntOp.shli ArithUnit.host (BitVec.setWidth 32 (IntOp.andi (BitVec.ofBool (decide (u < 0)))
        (IntOp.cmpi CmpIPredicate.sgt (kOf (mOf u)) 0#32))) 3#32) (kOf (mOf u)) = nibOf u := by
  unfold nibOf
  rcases kOf_cases (mOf u) with h | h | h | h | h | h | h | h <;> rw [h] <;> by_cases hu : u < 0 <;> simp [hu] <;> decide

/-- The value of a four-bit code, bit by bit. -/
def dec4 (n : BitVec 32) : EReal :=
  let s := fun (b : BitVec 32) (x y : EReal) => Scalar.select (IntOp.cmpi CmpIPredicate.ne (IntOp.andi n b) 0#32) x y
  let mag := s 4#32
    (s 2#32 (s 1#32 (Ideal.ofBits FTy.bf16 16576#16) (Ideal.ofBits FTy.bf16 16512#16))
      (s 1#32 (Ideal.ofBits FTy.bf16 16448#16) (Ideal.ofBits FTy.bf16 16384#16)))
    (s 2#32 (s 1#32 (Ideal.ofBits FTy.bf16 16320#16) 1) (s 1#32 (Ideal.ofBits FTy.bf16 16128#16) 0))
  s 8#32 (-mag) mag

/-- Decoding the code of a number gives the value the number rounds to. -/
theorem dec4_nib (u : EReal) : dec4 (nibOf u) = valOf u := by
  unfold nibOf valOf
  rw [magOf_eq]
  rcases kOf_cases (mOf u) with h | h | h | h | h | h | h | h <;> rw [h] <;> by_cases hu : u < 0 <;>
    simp [hu, dec4, mag3, h05, h15, h2, h3, h4, h6, IntOp.cmpi, IntOp.andi, Scalar.select, sub_eq_add_neg]

/-! ## The call's three results as plain formulas -/

section Spec
variable (X : Fin 2048 → Fin 16 → Fin 7168 → EReal) (sg : Fin 16 → EReal) (s sd : EReal) (W : Fin 1408 → Fin 32768 → BitVec 32)

/-- An entry of the sixteen-point Hadamard matrix: the parity of the common bits of the two indices gives its sign. -/
def had (i x : Fin 16) : EReal :=
  FloatOps.sitofp (F := Ideal) FTy.f32
    (IntOp.subi (1#32) (IntOp.muli (2#32) (IntOp.andi (IntOp.ctpop (IntOp.andi (BitVec.ofNat 32 ↑i) (BitVec.ofNat 32 ↑x))) 1#32)))
/-- Element `i` of group `g`, channel `c`, of the rotated input. -/
def zS (g : Fin 2048) (i : Fin 16) (c : Fin 7168) : EReal := ∑ x, X g x c * (had i x * sg x * Ideal.ofBits FTy.f32 1048576000#32)
/-- The scale of group `g`, channel `c`. -/
def sbS (g : Fin 2048) (c : Fin 7168) : EReal :=
  min (Ideal.div (Finset.fold max (Ideal.ofBits FTy.f32 4286578688#32)
      (fun i => FloatOps.absf (F := Ideal) (φ := .f32) (zS X sg g i c)) Finset.univ) (Ideal.ofBits FTy.f32 1086324736#32 * s))
    (Ideal.ofBits FTy.f32 1138753536#32)
/-- The rotated element over its scale. -/
def uS (g : Fin 2048) (i : Fin 16) (c : Fin 7168) : EReal := uOf (zS X sg g i c) (sbS X sg s g c * s)
/-- The quantised value. -/
def xvS (g : Fin 2048) (i : Fin 16) (c : Fin 7168) : EReal := valOf (uS X sg s g i c) * sbS X sg s g c
/-- The value of `dy` row `n` has in column `p` of the packed words. -/
def dyS (n : Fin 2816) (p : Fin 32768) : EReal :=
  Ideal.ofBits FTy.bf16 (BitVec.extractLsb' (↑n % 2 * 16) 16 (W ⟨↑n / 2, by omega⟩ p))
/-- The column of token `t`. -/
def colOf (t : Fin 32768) : Fin 32768 := ⟨↑t / 256 * 256 + ↑t % 2 * 128 + ↑t / 2 % 8 * 16 + ↑t / 16 % 16, by omega⟩
/-- The weight gradient. -/
def dwS (n : Fin 2816) (c : Fin 7168) : EReal :=
  (∑ t : Fin 32768, dyS W n (colOf t) * xvS X sg s ⟨↑t / 16, by omega⟩ ⟨↑t % 16, by omega⟩ c) * (sd * s)
/-- The packed codes. -/
def codeS (c : Fin 7168) (q : Fin 16384) : BitVec 8 :=
  BitVec.setWidth 8 (IntOp.ori (nibOf (uS X sg s ⟨↑q / 8, by omega⟩ ⟨↑q % 8 * 2, by omega⟩ c))
    (IntOp.shli ArithUnit.host (nibOf (uS X sg s ⟨↑q / 8, by omega⟩ ⟨↑q % 8 * 2 + 1, by omega⟩ c)) 4#32))
end Spec

end Cert.Quant
end
-- ==== Proof.Value.Blocks.lean ====
module

public import proofs.«01_k».proof.Proof.KernelRun.Frame
public import proofs.«01_k».proof.Proof.Value.Scalars
public import Idealize.ShloMosaic.Lib.ValueIdx
public import Idealize.ShloMosaic.Lib.Pointwise
public import Idealize.ShloMosaic.Lib.StableHlo.ReadAt
public import Idealize.ShloMosaic.Lib.Pipeline.ValueKit.Acc
public import Idealize.ShloMosaic.Lib.Pipeline.ValueKit.Geometry

/-! The blocks the kernel's steps read, in terms of the arguments. -/

@[expose] public section
noncomputable section
namespace Cert.KernelIdeal.Gen
open Idealize.ShloMosaic Idealize.ShloMosaic.Tactic Idealize.ShloMosaic.TcCoe Idealize.ShloMosaic.StableHlo Idealize.SL.Sem Cert.Quant
set_option maxHeartbeats 4000000
set_option maxRecDepth 20000

variable (m : (ℓ : Loc nD τ sig) → Buf (Elt Ideal) ℓ) (c : Dev nD)

/-- The input, in groups of sixteen tokens. -/
def xG (g : Fin 2048) (i : Fin 16) (k : Fin 7168) : EReal :=
  m (c, Proc.devRef .tc main_arg0) (ix3 ⟨↑g / 256, by omega⟩ ⟨↑g % 256 * 16 + ↑i, by omega⟩ k)
/-- The signs. -/
def sgG (i : Fin 16) : EReal := m (c, Proc.devRef .tc main_arg1) (ix1 i)
/-- The input's tensor scale. -/
def stG : EReal := m (c, Proc.devRef .tc main_arg2) (ix1 0)
/-- The gradient's tensor scale. -/
def sdG : EReal := m (c, Proc.devRef .tc main_arg3) (ix1 0)
/-- The gradient's words. -/
def wG (r : Fin 1408) (p : Fin 32768) : BitVec 32 := m (c, Proc.devRef .tc main_arg4) (ix2 r p)

theorem rowMajor_rot (r x : Fin 256) (h : 256 * r.val + x.val < 65536) : S256x256.rowMajor (ix2 r x) = (⟨256 * r.val + x.val, h⟩ : Fin 65536) :=
  Fin.ext ((Shape.rowMajor_val_two (d := ![256, 256]) (ix2 r x)).trans (show r.val * 256 + x.val = 256 * r.val + x.val by omega))

/-- An index of a unit-stride rectangle. -/
theorem unit_idx_val {s : Shape} (off size : Fin s.rank → ℕ) (inb) (j : (Rect.unit (s := s) off size inb).shape.Idx) (a : Fin s.rank) :
    ((Rect.unit off size inb).idx j a : ℕ) = off a + j a := by
  show off a + 1 * (j a : ℕ) = _; omega

/-- The rotation matrix. -/
theorem V_rot (r x : Fin 256) : @Eq EReal (V m c main_v7 (ix2 r x)) (Ideal.ofBits FTy.f32 (lit0 ⟨256 * r.val + x.val, by omega⟩) * sgG m c ⟨x.val % 16, by omega⟩) := by
  unfold sgG
  rw [← rowMajor_rot r x (by omega)]
  show StableHlo.after hostOps0 (fun b => m (c, b)) _ _ = _
  after_reads_at
/-- The input, token by token. -/
theorem V_x (t : Fin 32768) (k : Fin 7168) : @Eq EReal (V m c main_v0 (ix2 t k)) (xG m c ⟨t.val / 16, by omega⟩ ⟨t.val % 16, by omega⟩ k) := by
  unfold xG
  have e : (⟨t.val / 16 % 256 * 16 + t.val % 16, by omega⟩ : Fin 4096) = ⟨t.val % 4096, by omega⟩ := Fin.ext (show t.val / 16 % 256 * 16 + t.val % 16 = t.val % 4096 by omega)
  have e' : (⟨t.val / 16 / 256, by omega⟩ : Fin 8) = ⟨t.val / 4096, by omega⟩ := Fin.ext (show t.val / 16 / 256 = t.val / 4096 by omega)
  show StableHlo.after hostOps0 (fun b => m (c, b)) _ _ = _
  dsimp only
  rw [e, e']
  after_reads_at
/-- The two tensor scales. -/
theorem V_st0 : @Eq EReal (V m c main_v8 (ix1 0)) (stG m c) := by
  unfold stG
  show StableHlo.after hostOps0 (fun b => m (c, b)) _ _ = _
  after_reads_at
theorem V_st1 : @Eq EReal (V m c main_v8 (ix1 1)) (sdG m c) := by
  unfold sdG
  show StableHlo.after hostOps0 (fun b => m (c, b)) _ _ = _
  after_reads_at
/-- The lane sources. -/
theorem V_src (i : Fin 8) (q : Fin 128) : @Eq (BitVec 32) (V m c main_c (ix2 i q)) (lit1 (S8x128.rowMajor (ix2 i q))) := by
  show StableHlo.after hostOps0 (fun b => m (c, b)) _ _ = _
  after_reads_at
theorem V_vt : V m c main_arg4 = m (c, Proc.devRef .tc main_arg4) := by
  show StableHlo.after hostOps0 (fun b => m (c, b)) _ = _
  after_reads_simp

/-! ## The blocks -/

theorem idx0 : ∀ t : Fin grid0.N, win0_0.index t = ![0] := by decide +kernel
theorem idx2 : ∀ t : Fin grid0.N, win0_2.index t = ![0, 0] := by decide +kernel
theorem idx3 : ∀ t : Fin grid0.N, win0_3.index t = ![min t.val 447 % 64, min t.val 447 / 64] := by decide +kernel
theorem idx4 : ∀ t : Fin grid0.N, win0_4.index t = ![0, (t.val - 1) % 64] := by decide +kernel
theorem idx5 : ∀ t : Fin grid0.N, win0_5.index t = ![0, (t.val - 1) / 64] := by decide +kernel
theorem idx7 : ∀ t : Fin grid0.N, win0_7.index t = ![min t.val 447 / 64, min t.val 447 % 64 / 4] := by decide +kernel

variable (t : Fin cfg0.N)

theorem st0_eq : @Eq EReal (st0 (iblk m c 0 t)) (stG m c) := by
  rw [← V_st0]
  unfold st0 View.ld
  blk_simp [iblk]
  refine congrArg (V m c main_v8) ?_
  blk_ext [idx0]
  all_goals (rw [unit_idx_val]; dsimp [ix2]; omega)
theorem st1_eq : @Eq EReal (st1 (iblk m c 0 t)) (sdG m c) := by
  rw [← V_st1]
  unfold st1 View.ld
  blk_simp [iblk]
  refine congrArg (V m c main_v8) ?_
  blk_ext [idx0]
  all_goals (rw [unit_idx_val]; dsimp [ix2]; omega)
theorem rot_eq (r x : Fin 256) : @Eq EReal (rotOf (iblk m c 2 t) (ix2 r x)) (Ideal.ofBits FTy.f32 (lit0 ⟨256 * r.val + x.val, by omega⟩) * sgG m c ⟨x.val % 16, by omega⟩) := by
  rw [← V_rot]
  unfold rotOf View.ld
  blk_simp [iblk]
  refine congrArg (V m c main_v7) ?_
  blk_ext [idx2]
  all_goals (rw [unit_idx_val]; dsimp [ix2]; omega)
theorem x_eq (s : Fin 2) (n : Fin 4) (x k : Fin 256) : @Eq EReal (xTile (iblk m c 3 t) s n (ix2 x k))
    (V m c main_v0 (ix2 ⟨512 * (min t.val 447 % 64) + 256 * s.val + x.val, by omega⟩ ⟨1024 * (min t.val 447 / 64) + 256 * n.val + k.val, by omega⟩)) := by
  unfold xTile xRect View.ld
  blk_simp [iblk]
  refine congrArg (V m c main_v0) ?_
  blk_ext [idx3]
  all_goals (rw [unit_idx_val]; dsimp [ix2]; omega)
theorem vt_eq (r : Fin 1408) (x : Fin 512) : @Eq (BitVec 32) (vtOf (iblk m c 4 t) (ix2 r x)) (wG m c r ⟨512 * ((t.val - 1) % 64) + x.val, by omega⟩) := by
  rw [show wG m c r ⟨512 * ((t.val - 1) % 64) + x.val, by omega⟩ = V m c main_arg4 (ix2 r ⟨512 * ((t.val - 1) % 64) + x.val, by omega⟩) by rw [V_vt]; rfl]
  unfold vtOf View.ld
  blk_simp [iblk]
  refine congrArg (V m c main_arg4) ?_
  blk_ext [idx4]
  all_goals (rw [unit_idx_val]; dsimp [ix2]; omega)

end Cert.KernelIdeal.Gen
end
-- ==== Proof.Value.Rotation.lean ====
module

public import proofs.«01_k».proof.KernelIdeal

/-! The constant the kernel's rotation matrix is made of, entry by entry. -/

@[expose] public section
namespace Cert.KernelIdeal.Gen
open Idealize.ShloMosaic Cert.KernelIdeal

/-- The entry of row `r` and column `x`: a quarter with the sign of the Hadamard matrix where row and column belong to one
group, zero elsewhere. -/
def rotEntry (r x : ℕ) : BitVec 32 :=
  if x / 16 = r % 16 then
    (if (IntOp.subi (1#32) (IntOp.muli (2#32) (IntOp.andi (IntOp.ctpop (IntOp.andi (BitVec.ofNat 32 (2 * (r % 128 / 16) + r / 128)) (BitVec.ofNat 32 (x % 16)))) 1#32))) = 1#32
      then 1048576000#32 else 3196059648#32)
  else 0#32

/-- Sixteen rows of the constant are as described. -/
def Rows (b : Fin 16) : Prop :=
  ∀ (r : Fin 16) (x : Fin 256), lit0 ⟨256 * (16 * b.val + r.val) + x.val, by omega⟩ = rotEntry (16 * b.val + r.val) x.val
noncomputable instance (b : Fin 16) : Decidable (Rows b) := by unfold Rows; infer_instance

theorem rows0 : Rows 0 := by decide +kernel
theorem rows1 : Rows 1 := by decide +kernel
theorem rows2 : Rows 2 := by decide +kernel
theorem rows3 : Rows 3 := by decide +kernel
theorem rows4 : Rows 4 := by decide +kernel
theorem rows5 : Rows 5 := by decide +kernel
theorem rows6 : Rows 6 := by decide +kernel
theorem rows7 : Rows 7 := by decide +kernel
theorem rows8 : Rows 8 := by decide +kernel
theorem rows9 : Rows 9 := by decide +kernel
theorem rows10 : Rows 10 := by decide +kernel
theorem rows11 : Rows 11 := by decide +kernel
theorem rows12 : Rows 12 := by decide +kernel
theorem rows13 : Rows 13 := by decide +kernel
theorem rows14 : Rows 14 := by decide +kernel
theorem rows15 : Rows 15 := by decide +kernel

/-- The entries of the constant. -/
theorem lit0_rows : ∀ b : Fin 16, Rows b := by
  intro b
  fin_cases b
  · exact rows0
  · exact rows1
  · exact rows2
  · exact rows3
  · exact rows4
  · exact rows5
  · exact rows6
  · exact rows7
  · exact rows8
  · exact rows9
  · exact rows10
  · exact rows11
  · exact rows12
  · exact rows13
  · exact rows14
  · exact rows15

/-- The entries of the constant: a quarter with the sign of the Hadamard matrix where row and column belong to one group,
zero elsewhere. -/
theorem lit0_tab (r x : Fin 256) : lit0 ⟨256 * r.val + x.val, by omega⟩
    = if x.val / 16 = r.val % 16 then
        (if (IntOp.subi (1#32) (IntOp.muli (2#32) (IntOp.andi (IntOp.ctpop (IntOp.andi (BitVec.ofNat 32 (2 * (r.val % 128 / 16) + r.val / 128)) (BitVec.ofNat 32 (x.val % 16)))) 1#32))) = 1#32
          then 1048576000#32 else 3196059648#32)
      else 0#32 := by
  have h := lit0_rows ⟨r.val / 16, by omega⟩ ⟨r.val % 16, by omega⟩ x
  have e : 16 * (r.val / 16) + r.val % 16 = r.val := Nat.div_add_mod r.val 16
  simp only [e] at h
  exact h

end Cert.KernelIdeal.Gen
-- ==== Proof.Value.Tile.lean ====
module

public import proofs.«01_k».proof.Proof.KernelRun.Step
public import proofs.«01_k».proof.Proof.Value.Scalars
public import proofs.«01_k».proof.Proof.Value.Rotation
public import Idealize.ShloMosaic.Lib.ValueIdx
public import Idealize.ShloMosaic.Lib.Pointwise

/-! What the kernel computes of one tile of `x`, element by element. -/

@[expose] public section
noncomputable section
namespace Cert.KernelIdeal.Gen
open Idealize.ShloMosaic Idealize.ShloMosaic.Tactic Idealize.ShloMosaic.TcCoe Cert.Quant
set_option maxHeartbeats 4000000

section Tile
variable (rot xt : Vec Ideal S256x256 .bf16) (st : EReal)

/-- The rotated tile. -/
def zT (r : Fin 256) (k : Fin 256) : EReal := ∑ x : Fin 256, HMul.hMul (α := EReal) (β := EReal) (γ := EReal) (rot (ix2 r x)) (xt (ix2 x k))
/-- The scale of group `j` of the tile. -/
def sbE (j : Fin 16) (k : Fin 256) : EReal :=
  min (Ideal.div (Finset.fold max (Ideal.ofBits FTy.f32 4286578688#32)
      (fun i : Fin 16 => FloatOps.absf (F := Ideal) (φ := .f32) (zT rot xt ⟨↑i * 16 + ↑j, by omega⟩ k)) Finset.univ) (Ideal.ofBits FTy.f32 1086324736#32 * st))
    (Ideal.ofBits FTy.f32 1138753536#32)
/-- The quotient rounded. -/
def uT (r : Fin 256) (k : Fin 256) : EReal := uOf (zT rot xt r k) (sbE rot xt st ⟨↑r % 16, by omega⟩ k * st)

theorem pay7_eq (i j : Fin 16) (k : Fin 256) : k0_pay7 rot xt (ix3 i j k) = zT rot xt ⟨↑i * 16 + ↑j, by omega⟩ k := by
  unfold k0_pay7 zT; pointwise
theorem sbT_eq (j : Fin 16) (k : Fin 256) : sbT rot xt st (ix2 j k) = sbE rot xt st j k := by
  unfold sbT k0_pay8 sbE; pointwise
  simp only [pay7_eq]
theorem pay9_eq (j : Fin 16) (k : Fin 256) : k0_pay9 rot xt st (ix2 j k) = sbE rot xt st j k * st := by
  rw [← sbT_eq]; unfold sbT k0_pay9; pointwise
theorem pay10_eq (j : Fin 16) (k : Fin 256) : k0_pay10 rot xt st (ix2 j k) = BitVec.ofBool (decide (0 < sbE rot xt st j k * st)) := by
  rw [← sbT_eq]; unfold sbT k0_pay10; pointwise
  unfold k0_pay9; pointwise
theorem vT_eq (r k : Fin 256) : vT rot xt st (ix2 r k) = min (Ideal.ofBits .f32 1086324736#32) (max (Ideal.ofBits .f32 3233808384#32) (uT rot xt st r k)) := by
  unfold vT k0_pay12 k0_pay11; pointwise
  rw [pay9_eq, pay10_eq, pay7_eq]
  unfold uT
  rw [← mul_recip]
  have hr : (⟨↑r / 16 * 16 + ↑r % 16, by omega⟩ : Fin 256) = r := Fin.ext (by show ↑r / 16 * 16 + ↑r % 16 = (r : ℕ); omega)
  simp only [hr]
  by_cases h : 0 < sbE rot xt st ⟨↑r % 16, by omega⟩ k * st
  · simp only [if_pos h, decide_eq_true h]; rfl
  · simp only [if_neg h, decide_eq_false h]; rw [mul_zero]; rfl
theorem mT_eq (r k : Fin 256) : mT rot xt st (ix2 r k) = mOf (uT rot xt st r k) := by
  rw [← absf_clip, ← vT_eq]
  unfold mT k0_pay13 vT k0_pay12; pointwise
/-- The dequantised tile. -/
theorem valsT_eq (r k : Fin 256) : valsT rot xt st (ix2 r k) = valOf (uT rot xt st r k) * sbE rot xt st ⟨↑r % 16, by omega⟩ k := by
  unfold valsT k0_pay23 k0_pay17 k0_pay18 k0_pay19 k0_pay20 k0_pay21 k0_pay22; pointwise
  rw [mT_eq, vT_eq, sbT_eq]
  unfold valOf magOf
  simp only [clip_neg]
/-- The codes, the sign kept on a magnitude of zero. -/
theorem nibT_eq (r k : Fin 256) : nibT rot xt st (ix2 r k)
    = if uT rot xt st r k < 0 then IntOp.ori (kOf (mOf (uT rot xt st r k))) 8#32 else kOf (mOf (uT rot xt st r k)) := by
  unfold nibT k0_pay16 k0_pay14 k0_pay15; pointwise
  rw [show k0_pay13 (k0_pay7 rot xt) (k0_pay9 rot xt st) (k0_pay10 rot xt st) k0_pay11 = mT rot xt st from rfl, mT_eq, vT_eq]
  simp only [clip_neg]
  rw [← kOf_sum (mOf (uT rot xt st r k)) _ _ _ _ _ _ _ rfl rfl rfl rfl rfl rfl rfl]
  rfl

end Tile
/-! ## The rotation matrix's blocks -/

theorem had_tab : ∀ i x : Fin 16, (IntOp.subi (1#32) (IntOp.muli (2#32) (IntOp.andi (IntOp.ctpop (IntOp.andi (BitVec.ofNat 32 i.val) (BitVec.ofNat 32 x.val))) 1#32))) = 1#32
    ∨ (IntOp.subi (1#32) (IntOp.muli (2#32) (IntOp.andi (IntOp.ctpop (IntOp.andi (BitVec.ofNat 32 i.val) (BitVec.ofNat 32 x.val))) 1#32))) = -1#32 := by
  decide +kernel
theorem bm025 : Ideal.ofBits .f32 3196059648#32 = -((1/4 : ℝ) : EReal) := by
  rw [← EReal.coe_neg]
  simp [Ideal.ofBits, Ideal.ieee, -EReal.coe_mul, -EReal.coe_neg]; norm_num

/-- The position of a row in its group. -/
def posOf (r : Fin 256) : Fin 16 := ⟨2 * (r.val % 128 / 16) + r.val / 128, by omega⟩

/-- An entry of the rotation matrix inside a group. -/
theorem rot_entry (sg : EReal) (r x : Fin 256) (h : x.val / 16 = r.val % 16) :
    Ideal.ofBits .f32 (lit0 ⟨256 * r.val + x.val, by omega⟩) * sg
      = had (posOf r) ⟨x.val % 16, by omega⟩ * sg * Ideal.ofBits .f32 1048576000#32 := by
  rw [lit0_tab, if_pos h]
  unfold had posOf
  have t := had_tab ⟨2 * (r.val % 128 / 16) + r.val / 128, by omega⟩ ⟨x.val % 16, by omega⟩
  dsimp only at t ⊢
  rcases t with t | t
  · rw [t, if_pos rfl, show FloatOps.sitofp (F := Ideal) FTy.f32 1#32 = (1 : EReal) by show (((1#32).toInt : ℝ) : EReal) = 1; rw [show (1#32).toInt = 1 by decide]; norm_num, one_mul, mul_comm]
  · rw [t, if_neg (by decide), show FloatOps.sitofp (F := Ideal) FTy.f32 (-1#32) = (-1 : EReal) by show (((-1#32).toInt : ℝ) : EReal) = -1; rw [show (-1#32).toInt = -1 by decide]; norm_num, bm025, b025, neg_mul, neg_mul, neg_mul, one_mul, mul_comm]

theorem ent_lt (r x : Fin 256) : 256 * r.val + x.val < 65536 := by omega
theorem grp_lt {G : ℕ} (hG : G + 15 < 2048) (x : Fin 256) : G + x.val / 16 < 2048 := by omega
theorem pos_lt (x : Fin 256) : x.val % 16 < 16 := Nat.mod_lt _ (by decide)

section Spec
variable (rot xt : Vec Ideal S256x256 .bf16) (st : EReal)
variable (X : Fin 2048 → Fin 16 → Fin 7168 → EReal) (sg : Fin 16 → EReal) (C : Fin 256 → Fin 7168) (G : ℕ) (hG : G + 15 < 2048)
variable (hrot : ∀ r x : Fin 256, rot (ix2 r x) = Ideal.ofBits .f32 (lit0 ⟨256 * r.val + x.val, ent_lt r x⟩) * sg ⟨x.val % 16, pos_lt x⟩)
variable (hx : ∀ x k : Fin 256, xt (ix2 x k) = X ⟨G + x.val / 16, grp_lt hG x⟩ ⟨x.val % 16, pos_lt x⟩ (C k))
include hrot hx

/-- The rotated tile is the rotated input. -/
theorem zT_spec (r k : Fin 256) : zT rot xt r k = zS X sg ⟨G + r.val % 16, by omega⟩ (posOf r) (C k) := by
  unfold zT zS
  rw [← (finProdFinEquiv (m := 16) (n := 16)).sum_comp, Fintype.sum_prod_type]
  rw [Finset.sum_eq_single (⟨r.val % 16, by omega⟩ : Fin 16)]
  · refine Finset.sum_congr rfl fun x _ => ?_
    have hv : (finProdFinEquiv ((⟨r.val % 16, by omega⟩ : Fin 16), x)).val = x.val + 16 * (r.val % 16) := rfl
    rw [hrot, hx, rot_entry _ _ _ (by rw [hv]; omega), mul_comm]
    congr 2
    · exact Fin.ext (show G + (finProdFinEquiv ((⟨r.val % 16, by omega⟩ : Fin 16), x)).val / 16 = G + r.val % 16 by rw [hv]; omega)
    · exact Fin.ext (by show _ % 16 = _; rw [hv]; omega)
    · congr 2
      · exact Fin.ext (by show _ % 16 = _; rw [hv]; omega)
      · exact Fin.ext (by show _ % 16 = _; rw [hv]; omega)
  · intro a _ ha
    refine Finset.sum_eq_zero fun x _ => ?_
    have hv : (finProdFinEquiv (a, x)).val = x.val + 16 * a.val := rfl
    rw [hrot, lit0_tab, if_neg, show Ideal.ofBits FTy.f32 0#32 = 0 from by simp [Ideal.ofBits, Ideal.ieee], zero_mul]
    · exact zero_mul _
    · intro h
      apply ha
      apply Fin.ext
      show a.val = r.val % 16
      rw [← h]
      show a.val = _ / 16
      rw [hv]; omega
  · intro h; exact absurd (Finset.mem_univ _) h

/-- The tile's scales are the groups'. -/
theorem sbE_spec (j : Fin 16) (k : Fin 256) : sbE rot xt st j k = sbS X sg st ⟨G + j.val, by omega⟩ (C k) := by
  unfold sbE sbS
  have hp : ∀ i : Fin 16, FloatOps.absf (F := Ideal) (φ := .f32) (zT rot xt ⟨↑i * 16 + ↑j, by omega⟩ k)
      = FloatOps.absf (F := Ideal) (φ := .f32) (zS X sg ⟨G + j.val, by omega⟩ (⟨2 * (i.val % 8) + i.val / 8, by omega⟩ : Fin 16) (C k)) := by
    intro i
    rw [zT_spec rot xt X sg C G hG hrot hx]
    congr 2
    · exact Fin.ext (show G + (i.val * 16 + j.val) % 16 = G + j.val by omega)
    · exact Fin.ext (show 2 * ((i.val * 16 + j.val) % 128 / 16) + (i.val * 16 + j.val) / 128 = 2 * (i.val % 8) + i.val / 8 by omega)
  simp only [hp]
  let σ : Fin 16 ≃ Fin 16 := ⟨fun i => ⟨2 * (i.val % 8) + i.val / 8, by omega⟩, fun i => ⟨i.val / 2 + 8 * (i.val % 2), by omega⟩,
    fun i => Fin.ext (by show (2 * (i.val % 8) + i.val / 8) / 2 + 8 * ((2 * (i.val % 8) + i.val / 8) % 2) = i.val; omega),
    fun i => Fin.ext (by show 2 * ((i.val / 2 + 8 * (i.val % 2)) % 8) + (i.val / 2 + 8 * (i.val % 2)) / 8 = i.val; omega)⟩
  have hf : ∀ f : Fin 16 → EReal, Finset.fold max (Ideal.ofBits FTy.f32 4286578688#32) (fun i => f (σ i)) Finset.univ
      = Finset.fold max (Ideal.ofBits FTy.f32 4286578688#32) f Finset.univ := by
    intro f
    conv_rhs => rw [← Finset.map_univ_equiv σ, Finset.fold_map]
    rfl
  congr 2
  exact hf fun i => FloatOps.absf (F := Ideal) (φ := .f32) (zS X sg ⟨G + j.val, by omega⟩ i (C k))

/-- The quotients are the spec's. -/
theorem uT_spec (r k : Fin 256) : uT rot xt st r k = uS X sg st ⟨G + r.val % 16, by omega⟩ (posOf r) (C k) := by
  unfold uT uS
  rw [zT_spec rot xt X sg C G hG hrot hx, sbE_spec rot xt st X sg C G hG hrot hx]

/-- The dequantised tile is the spec's. -/
theorem valsT_spec (r k : Fin 256) : valsT rot xt st (ix2 r k) = xvS X sg st ⟨G + r.val % 16, by omega⟩ (posOf r) (C k) := by
  rw [valsT_eq, uT_spec rot xt st X sg C G hG hrot hx, sbE_spec rot xt st X sg C G hG hrot hx]
  rfl
end Spec

end Cert.KernelIdeal.Gen
end
-- ==== Proof.Value.Words.lean ====
module

public import Idealize.ShloMosaic.Lib.Pointwise
public import Idealize.ShloMosaic.Lib.BitcastPair
public import Idealize.ShloMosaic.Lib.BitcastFour

/-! Arrays of words read at another width, at an index. -/

@[expose] public section
namespace Cert.Quant
open Idealize.ShloMosaic

/-- Bit `q` of the element at row `a`, column `l`, is a bit of one source row of that column. -/
theorem bitcast_bit {R r n v w : ℕ} (x : (⟨2, ![R, n]⟩ : Shape).Idx → BitVec v) (h : (⟨2, ![R, n]⟩ : Shape).Bitcasts v ⟨2, ![r, n]⟩ w)
    (a : Fin r) (l : Fin n) (q : ℕ) (hq : q < w) (hv : 0 < v) (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- An array of narrower elements is cut out of the wider words of half (or a quarter) as many rows. -/
theorem bitcast_narrow {R r n v w : ℕ} (x : (⟨2, ![R, n]⟩ : Shape).Idx → BitVec v) (h : (⟨2, ![R, n]⟩ : Shape).Bitcasts v ⟨2, ![r, n]⟩ w)
    (a : Fin r) (l : Fin n) (d : ℕ) (hd : v = d * w) (hw : 0 < w) (hd0 : 0 < d) (p : Fin R) (hp : p.val = a.val / d) :
    bitcast ⟨2, ![r, n]⟩ w x h (ix2 a l) = (x (ix2 p l)).extractLsb' (a.val % d * w) w := by
  subst hd
  apply BitVec.eq_of_getLsbD_eq
  intro i hi
  have e1 : (a.val * w + i) / (d * w) = a.val / d := by
    rw [mul_comm d w, ← Nat.div_div_eq_div_mul, show a.val * w + i = i + w * a.val by ring, Nat.add_mul_div_left _ _ hw, Nat.div_eq_of_lt hi, zero_add]
  have e2 : (a.val * w + i) % (d * w) = a.val % d * w + i := by
    have h1 := Nat.div_add_mod (a.val * w + i) (d * w)
    rw [e1] at h1
    have h2 := Nat.div_add_mod a.val d
    have h3 : a.val * w = d * w * (a.val / d) + a.val % d * w := by
      conv_lhs => rw [← h2]
      ring
    omega
  rw [bitcast_bit x h a l i hi (by positivity) p (by rw [hp, e1]), e2, BitVec.getLsbD_extractLsb']
  simp [hi]

end Cert.Quant
-- ==== Proof.Value.Main.lean ====
module

public import proofs.«01_k».proof.Proof.Value.Blocks
public import proofs.«01_k».proof.Proof.Value.Tile
public import proofs.«01_k».proof.Proof.Value.Words

/-! The kernel's weight gradient and scales, element by element. -/

@[expose] public section
noncomputable section
namespace Cert.KernelIdeal.Gen
open Idealize.ShloMosaic Idealize.ShloMosaic.Tactic Idealize.ShloMosaic.TcCoe Idealize.ShloMosaic.StableHlo Idealize.SL.Sem Cert.Quant
set_option maxHeartbeats 4000000
set_option maxRecDepth 20000

variable (m : (ℓ : Loc nD τ sig) → Buf (Elt Ideal) ℓ) (c : Dev nD)

/-! ## One step's tiles -/

section Step
variable (t : Fin cfg0.N) (s : Fin 2) (n : Fin 4)

theorem hrot_at (r x : Fin 256) : rotOf (iblk m c 2 t) (ix2 r x) = Ideal.ofBits .f32 (lit0 ⟨256 * r.val + x.val, by omega⟩) * sgG m c ⟨x.val % 16, by omega⟩ := rot_eq m c t r x
/-- The channel of a tile's column. -/
def chOf (k : Fin 256) : Fin 7168 := ⟨1024 * (min t.val 447 / 64) + 256 * n.val + k.val, by omega⟩
theorem hx_at (x k : Fin 256) : xTile (iblk m c 3 t) s n (ix2 x k)
    = xG m c ⟨32 * (min t.val 447 % 64) + 16 * s.val + x.val / 16, by omega⟩ ⟨x.val % 16, by omega⟩ (chOf t n k) := by
  refine (x_eq m c t s n x k).trans ((V_x m c _ _).trans ?_)
  exact congrArg₂ (fun i j => xG m c i j (chOf t n k))
    (Fin.ext (by show (512 * (min t.val 447 % 64) + 256 * s.val + x.val) / 16 = 32 * (min t.val 447 % 64) + 16 * s.val + x.val / 16; omega))
    (Fin.ext (by show (512 * (min t.val 447 % 64) + 256 * s.val + x.val) % 16 = x.val % 16; omega))

/-- A step's dequantised tile. -/
theorem vals_at (r k : Fin 256) : valsT (rotOf (iblk m c 2 t)) (xTile (iblk m c 3 t) s n) (st0 (iblk m c 0 t)) (ix2 r k)
    = xvS (xG m c) (sgG m c) (stG m c) ⟨32 * (min t.val 447 % 64) + 16 * s.val + r.val % 16, by omega⟩ (posOf r) (chOf t n k) := by
  have h := valsT_spec (rotOf (iblk m c 2 t)) (xTile (iblk m c 3 t) s n) (stG m c) (xG m c) (sgG m c) (chOf t n) (32 * (min t.val 447 % 64) + 16 * s.val) (by omega)
    (hrot_at m c t) (hx_at m c t s n) r k
  rw [show st0 (iblk m c 0 t) = stG m c from st0_eq m c t]
  exact h

/-- A step's tile of scales. -/
theorem sb_at (j : Fin 16) (k : Fin 256) : sbT (rotOf (iblk m c 2 t)) (xTile (iblk m c 3 t) s n) (st0 (iblk m c 0 t)) (ix2 j k)
    = sbS (xG m c) (sgG m c) (stG m c) ⟨32 * (min t.val 447 % 64) + 16 * s.val + j.val, by omega⟩ (chOf t n k) := by
  have h := sbE_spec (rotOf (iblk m c 2 t)) (xTile (iblk m c 3 t) s n) (stG m c) (xG m c) (sgG m c) (chOf t n) (32 * (min t.val 447 % 64) + 16 * s.val) (by omega)
    (hrot_at m c t) (hx_at m c t s n) j k
  rw [show st0 (iblk m c 0 t) = stG m c from st0_eq m c t, sbT_eq]
  exact h
end Step

/-! ## The product -/

/-- The token at column `p` of the packed words. -/
def grpOf (p : Fin 32768) : Fin 2048 := ⟨16 * (p.val / 256) + p.val % 16, by omega⟩
/-- Its place in its group. -/
def inGrp (p : Fin 32768) : Fin 16 := ⟨2 * (p.val % 128 / 16) + p.val % 256 / 128, by omega⟩

theorem tiled_ix2 {α : Type} {nr nc h w R C : ℕ} (hh : 0 < h) (hw : 0 < w) (hR : R = nr * h) (hC : C = nc * w)
    (T : Fin nr → Fin nc → (⟨2, ![h, w]⟩ : Shape).Idx → α) (r : Fin R) (k : Fin C) (hr : r.val / h < nr) (hk : k.val / w < nc) :
    tiled hh hw hR hC T (ix2 r k) = T ⟨r.val / h, hr⟩ ⟨k.val / w, hk⟩ (ix2 ⟨r.val % h, Nat.mod_lt _ hh⟩ ⟨k.val % w, Nat.mod_lt _ hw⟩) := by
  unfold tiled
  congr 1
  funext a
  fin_cases a <;> rfl

/-- A step's dequantised block. -/
theorem valsAt_at (n : ℕ) (hn : n < 448) (x : Fin 512) (q : Fin 1024) : @Eq EReal (valsAt m c n (ix2 x q))
    (xvS (xG m c) (sgG m c) (stG m c) (grpOf ⟨512 * (n % 64) + x.val, by omega⟩) (inGrp ⟨512 * (n % 64) + x.val, by omega⟩) ⟨1024 * (n / 64) + q.val, by omega⟩) := by
  unfold valsAt valsOf
  rw [tiled_ix2 _ _ _ _ _ x q (by omega) (by omega), vals_at]
  have hp : (pt n).val = n := by show min n 448 = n; omega
  unfold grpOf inGrp posOf chOf
  congr 1
  · exact Fin.ext (by show 32 * (min (pt n).val 447 % 64) + 16 * (x.val / 256) + x.val % 256 % 16 = 16 * ((512 * (n % 64) + x.val) / 256) + (512 * (n % 64) + x.val) % 16; rw [hp]; omega)
  · exact Fin.ext (by show 2 * (x.val % 256 % 128 / 16) + x.val % 256 / 128 = 2 * ((512 * (n % 64) + x.val) % 128 / 16) + (512 * (n % 64) + x.val) % 256 / 128; omega)
  · exact Fin.ext (by show 1024 * (min (pt n).val 447 / 64) + 256 * (q.val / 256) + q.val % 256 = 1024 * (n / 64) + q.val; rw [hp]; omega)

theorem pay6_eq (a : Vec Ideal S2816x256 .f32) (w : Vec Ideal S1408x512 .i32) (v : Vec Ideal S512x256 .bf16) (r : Fin 2816) (k : Fin 256) :
    k0_pay6 a w v (ix2 r k) = HAdd.hAdd (α := EReal) (β := EReal) (γ := EReal) (a (ix2 r k)) (∑ x : Fin 512, HMul.hMul (α := EReal) (β := EReal) (γ := EReal)
      (Ideal.ofBits FTy.bf16 (BitVec.extractLsb' (r.val % 2 * 16) 16 (w (ix2 ⟨r.val / 2, by omega⟩ x)))) (v (ix2 x k))) := by
  unfold k0_pay6; pointwise
  have hb : ∀ x : Fin 512, bitcast S2816x512 16 w bitcasts_S1408x512_w32_S2816x512_w16 (ix2 r x) = BitVec.extractLsb' (r.val % 2 * 16) 16 (w (ix2 ⟨r.val / 2, by omega⟩ x)) :=
    fun x => bitcast_narrow w bitcasts_S1408x512_w32_S2816x512_w16 r x 2 rfl (by decide) (by decide) ⟨r.val / 2, by omega⟩ rfl
  simp only [hb]

/-- The product of a step, at an element. -/
def prodAt (n : ℕ) (r : Fin 2816) (q : Fin 7168) : EReal :=
  ∑ x : Fin 512, dyS (wG m c) r ⟨512 * (n % 64) + x.val, by omega⟩
    * xvS (xG m c) (sgG m c) (stG m c) (grpOf ⟨512 * (n % 64) + x.val, by omega⟩) (inGrp ⟨512 * (n % 64) + x.val, by omega⟩) q

/-- A step adds its product. -/
theorem dwOf_at (n : ℕ) (hn : n < 448) (x5 : Vec Ideal S2816x1024 .f32) (r : Fin 2816) (q : Fin 1024) :
    @Eq EReal (dwOf (iblk m c 4 (pt (n + 1))) x5 (valsAt m c n) (ix2 r q))
      (HAdd.hAdd (α := EReal) (β := EReal) (γ := EReal) (x5 (ix2 r q)) (prodAt m c n r ⟨1024 * (n / 64) + q.val, by omega⟩)) := by
  unfold dwOf
  rw [tiled_ix2 _ _ _ _ _ r q (by omega) (by omega), pay6_eq]
  have h0 : (⟨r.val % 2816, Nat.mod_lt _ (by decide)⟩ : Fin 2816) = r := Fin.ext (Nat.mod_eq_of_lt r.isLt)
  have hp : (pt (n + 1)).val = n + 1 := by show min (n + 1) 448 = n + 1; omega
  rw [h0]
  have e5 : dwCols x5 ⟨q.val / 256, by omega⟩ (ix2 r ⟨q.val % 256, Nat.mod_lt _ (by decide)⟩) = x5 (ix2 r q) := by
    unfold dwCols View.ld
    refine congrArg x5 ?_
    funext a
    fin_cases a
    · exact Fin.ext (by rw [unit_idx_val]; exact Nat.zero_add _)
    · exact Fin.ext (by rw [unit_idx_val]; exact Nat.div_add_mod q.val 256)
  rw [e5]
  refine congrArg _ (Finset.sum_congr rfl fun x _ => ?_)
  have e8 : valsCols (valsAt m c n) ⟨q.val / 256, by omega⟩ (ix2 x ⟨q.val % 256, Nat.mod_lt _ (by decide)⟩) = valsAt m c n (ix2 x q) := by
    unfold valsCols View.ld
    refine congrArg (valsAt m c n) ?_
    funext a
    fin_cases a
    · exact Fin.ext (by rw [unit_idx_val]; exact Nat.zero_add _)
    · exact Fin.ext (by rw [unit_idx_val]; exact Nat.div_add_mod q.val 256)
  rw [e8, valsAt_at m c n hn]
  unfold dyS
  rw [show vtOf (iblk m c 4 (pt (n + 1))) (ix2 ⟨r.val / 2, by omega⟩ x) = _ from vt_eq m c (pt (n + 1)) ⟨r.val / 2, by omega⟩ x]
  have e4 : (⟨512 * (((pt (n + 1)).val - 1) % 64) + x.val, by omega⟩ : Fin 32768) = ⟨512 * (n % 64) + x.val, by omega⟩ :=
    Fin.ext (by show 512 * (((pt (n + 1)).val - 1) % 64) + x.val = 512 * (n % 64) + x.val; rw [hp]; rfl)
  rw [e4]

/-- Before a column block's last step the accumulator holds the products so far. -/
theorem dwAt_acc (b : ℕ) (hb : b < 7) (r : Fin 2816) (q : Fin 1024) : ∀ a, 0 < a → a < 64 →
    @Eq EReal (dwAt m c (64 * b + a) (ix2 r q)) (∑ s ∈ Finset.range a, prodAt m c (64 * b + s) r ⟨1024 * b + q.val, by omega⟩)
  | 0, h, _ => absurd h (lt_irrefl 0)
  | a + 1, _, h => by
    have e : 64 * b + (a + 1) = (64 * b + a) + 1 := rfl
    have ech : (⟨1024 * ((64 * b + a) / 64) + q.val, by omega⟩ : Fin 7168) = ⟨1024 * b + q.val, by omega⟩ :=
      Fin.ext (by show 1024 * ((64 * b + a) / 64) + q.val = 1024 * b + q.val; omega)
    rw [e]
    unfold dwAt dwStep
    rw [if_neg (by omega), if_neg (Nat.succ_ne_zero _), dwOf_at m c (64 * b + a) (by omega), ech, Finset.sum_range_succ]
    refine congrArg (· + _) ?_
    by_cases ha : a = 0
    · subst ha
      rw [if_pos (by omega), Finset.range_zero, Finset.sum_empty]
      unfold k0_pay5; pointwise
    · rw [if_neg (by omega)]
      exact dwAt_acc b hb r q a (by omega) (by omega)

theorem pay3_eq (x : Vec Ideal S2816x1024 .f32) (u v : EReal) (r : Fin 2816) (q : Fin 1024) :
    @Eq EReal (k0_pay3 x u v (ix2 r q)) (HMul.hMul (α := EReal) (β := EReal) (γ := EReal) (x (ix2 r q)) (u * v)) := by
  unfold k0_pay3; pointwise

/-- The weight gradient summed in the kernel's order. -/
def dwK (r : Fin 2816) (q : Fin 7168) : EReal :=
  (∑ s ∈ Finset.range 64, prodAt m c s r q) * (sdG m c * stG m c)

/-- A column block's last step leaves the block of the weight gradient. -/
theorem dwAt_end (b : ℕ) (hb : b < 7) (r : Fin 2816) (q : Fin 1024) :
    @Eq EReal (dwAt m c (64 * b + 64) (ix2 r q)) (dwK m c r ⟨1024 * b + q.val, by omega⟩) := by
  have e : 64 * b + 64 = (64 * b + 63) + 1 := rfl
  have ech : (⟨1024 * ((64 * b + 63) / 64) + q.val, by omega⟩ : Fin 7168) = ⟨1024 * b + q.val, by omega⟩ :=
    Fin.ext (by show 1024 * ((64 * b + 63) / 64) + q.val = 1024 * b + q.val; omega)
  rw [e]
  unfold dwAt dwStep dwEnd
  rw [if_pos (by omega), pay3_eq]
  unfold dwK
  rw [show st1 (iblk m c 0 (pt (64 * b + 63 + 1))) = sdG m c from st1_eq m c _, show st0 (iblk m c 0 (pt (64 * b + 63 + 1))) = stG m c from st0_eq m c _]
  refine congrArg (· * _) ?_
  have hl : ∀ X : Vec Ideal S2816x1024 .f32, View.ld X (Rect.unit ![0, 0] S2816x1024.size inb_S2816x1024_S2816x1024_0_0) (ix2 r q) = X (ix2 r q) := by
    intro X
    unfold View.ld
    refine congrArg X ?_
    funext a
    fin_cases a
    · exact Fin.ext (by rw [unit_idx_val]; exact Nat.zero_add _)
    · exact Fin.ext (by rw [unit_idx_val]; exact Nat.zero_add _)
  rw [hl, dwOf_at m c (64 * b + 63) (by omega), ech, Finset.sum_range_succ _ 63]
  have hm : ∀ s, s < 64 → prodAt m c (64 * b + s) r ⟨1024 * b + q.val, by omega⟩ = prodAt m c s r ⟨1024 * b + q.val, by omega⟩ := by
    intro s hs
    unfold prodAt
    have : (64 * b + s) % 64 = s % 64 := by omega
    simp only [this]
  rw [hm 63 (by decide)]
  refine congrArg (· + _) ?_
  rw [dwAt_acc m c b hb r q 63 (by decide) (by decide)]
  exact Finset.sum_congr rfl fun s hs => hm s (by have := Finset.mem_range.mp hs; omega)

/-- The digits of a token's column. -/
theorem colOf_digits (t : Fin 32768) : (colOf t).val / 256 = t.val / 256 ∧ (colOf t).val % 16 = t.val / 16 % 16
    ∧ (colOf t).val % 128 / 16 = t.val / 2 % 8 ∧ (colOf t).val % 256 / 128 = t.val % 2 := by
  have h : ∀ A b c d : ℕ, b < 16 → c < 8 → d < 2 → (A * 256 + d * 128 + c * 16 + b) / 256 = A ∧ (A * 256 + d * 128 + c * 16 + b) % 16 = b
      ∧ (A * 256 + d * 128 + c * 16 + b) % 128 / 16 = c ∧ (A * 256 + d * 128 + c * 16 + b) % 256 / 128 = d := by
    intro A b c d hb hc hd
    refine ⟨?_, ?_, ?_, ?_⟩ <;> omega
  exact h (t.val / 256) (t.val / 16 % 16) (t.val / 2 % 8) (t.val % 2) (Nat.mod_lt _ (by decide)) (Nat.mod_lt _ (by decide)) (Nat.mod_lt _ (by decide))
/-- The column of the token with given digits. -/
theorem colOf_of (A b c d : ℕ) (hb : b < 16) (hc : c < 8) (hd : d < 2) {h : 256 * A + 16 * b + 2 * c + d < 32768} :
    (colOf ⟨256 * A + 16 * b + 2 * c + d, h⟩).val = A * 256 + d * 128 + c * 16 + b := by
  have h1 : (256 * A + 16 * b + 2 * c + d) / 256 = A := by omega
  have h2 : (256 * A + 16 * b + 2 * c + d) % 2 = d := by omega
  have h3 : (256 * A + 16 * b + 2 * c + d) / 2 % 8 = c := by omega
  have h4 : (256 * A + 16 * b + 2 * c + d) / 16 % 16 = b := by omega
  unfold colOf
  show (256 * A + 16 * b + 2 * c + d) / 256 * 256 + (256 * A + 16 * b + 2 * c + d) % 2 * 128 + (256 * A + 16 * b + 2 * c + d) / 2 % 8 * 16 + (256 * A + 16 * b + 2 * c + d) / 16 % 16 = _
  rw [h1, h2, h3, h4]

/-- Columns and the tokens they hold. -/
def colEquiv : Fin 32768 ≃ Fin 32768 where
  toFun := colOf
  invFun p := ⟨256 * (p.val / 256) + 16 * (p.val % 16) + 2 * (p.val % 128 / 16) + p.val % 256 / 128, by omega⟩
  left_inv t := Fin.ext (by
    obtain ⟨h1, h2, h3, h4⟩ := colOf_digits t
    show 256 * ((colOf t).val / 256) + 16 * ((colOf t).val % 16) + 2 * ((colOf t).val % 128 / 16) + (colOf t).val % 256 / 128 = t.val
    rw [h1, h2, h3, h4]
    omega)
  right_inv p := Fin.ext (by
    have h := colOf_of (p.val / 256) (p.val % 16) (p.val % 128 / 16) (p.val % 256 / 128) (by omega) (by omega) (by omega) (h := by omega)
    rw [h]
    omega)

/-- A sum over the columns is a sum over steps and columns of a step. -/
theorem sum_blocks (f : Fin 32768 → EReal) : ∑ p : Fin 32768, f p = ∑ s : Fin 64, ∑ x : Fin 512, f ⟨512 * (s.val % 64) + x.val, by omega⟩ := by
  have h := (finProdFinEquiv (m := 64) (n := 512)).sum_comp f
  rw [Fintype.sum_prod_type] at h
  refine h.symm.trans ?_
  refine Finset.sum_congr rfl fun s _ => Finset.sum_congr rfl fun x _ => congrArg f (Fin.ext ?_)
  rw [finProdFinEquiv_apply_val]
  show x.val + 512 * s.val = 512 * (s.val % 64) + x.val
  omega

theorem grpOf_colOf (t : Fin 32768) : grpOf (colOf t) = ⟨t.val / 16, by omega⟩ := Fin.ext (by
  obtain ⟨h1, h2, h3, h4⟩ := colOf_digits t
  show 16 * ((colOf t).val / 256) + (colOf t).val % 16 = t.val / 16
  rw [h1, h2]; omega)
theorem inGrp_colOf (t : Fin 32768) : inGrp (colOf t) = ⟨t.val % 16, by omega⟩ := Fin.ext (by
  obtain ⟨h1, h2, h3, h4⟩ := colOf_digits t
  show 2 * ((colOf t).val % 128 / 16) + (colOf t).val % 256 / 128 = t.val % 16
  rw [h3, h4]; omega)

/-- The kernel's order of summation is a reordering of the tokens. -/
theorem dwK_eq (r : Fin 2816) (q : Fin 7168) : dwK m c r q = dwS (xG m c) (sgG m c) (stG m c) (sdG m c) (wG m c) r q := by
  unfold dwK dwS
  refine congrArg (· * _) ?_
  rw [← Fin.sum_univ_eq_sum_range (fun s => prodAt m c s r q) 64]
  unfold prodAt
  refine (sum_blocks fun p => dyS (wG m c) r p * xvS (xG m c) (sgG m c) (stG m c) (grpOf p) (inGrp p) q).symm.trans ?_
  refine (colEquiv.sum_comp _).symm.trans (Finset.sum_congr rfl fun t _ => ?_)
  rw [show colEquiv t = colOf t from rfl, grpOf_colOf, inGrp_colOf]

/-! ## The scales -/

theorem pay2_eq (x : Vec Ideal S128x1024 .f32) (k : Fin 1024) (g : Fin 128) : @Eq EReal (k0_pay2 x (ix2 k g)) (x (ix2 g k)) := by
  unfold k0_pay2; pointwise
theorem pay24_eq (x : FVec Ideal S16x256 .f32) : k0_pay24 x = x := by
  funext j; unfold k0_pay24; pointwise

/-- The scales of a finished window. -/
theorem sbAt_at (n : ℕ) (k : Fin 1024) (g : Fin 128) : @Eq EReal (sbAt m c n (ix2 k g))
    (sbS (xG m c) (sgG m c) (stG m c) ⟨128 * (min n 447 / 4 % 16) + g.val, by omega⟩ ⟨1024 * (min n 447 / 64) + k.val, by omega⟩) := by
  unfold sbAt sbOut
  rw [pay2_eq]
  have hl : ∀ X : Vec Ideal S128x1024 .f32, View.ld X (Rect.unit ![0, 0] S128x1024.size inb_S128x1024_S128x1024_0_0) (ix2 g k) = X (ix2 g k) := by
    intro X
    unfold View.ld
    refine congrArg X ?_
    funext a
    fin_cases a
    · exact Fin.ext (by rw [unit_idx_val]; exact Nat.zero_add _)
    · exact Fin.ext (by rw [unit_idx_val]; exact Nat.zero_add _)
  rw [hl]
  unfold sbGroup sbufMix
  rw [if_pos rfl]
  unfold sbTiles
  rw [pay24_eq]
  have hp : (pt (4 * (min n 447 / 4) + g.val / 32)).val = 4 * (min n 447 / 4) + g.val / 32 := by
    show min (4 * (min n 447 / 4) + g.val / 32) 448 = _; omega
  have hc : (Fin.cons ⟨g.val % 16, Nat.mod_lt _ (by decide)⟩ (Fin.cons ⟨k.val % 256, Nat.mod_lt _ (by decide)⟩ finZeroElim) : S16x256.Idx)
      = ix2 ⟨g.val % 16, Nat.mod_lt _ (by decide)⟩ ⟨k.val % 256, Nat.mod_lt _ (by decide)⟩ := by
    funext a; fin_cases a <;> rfl
  refine (congrArg _ hc).trans ((sb_at m c (pt (4 * (min n 447 / 4) + g.val / 32)) ⟨g.val % 32 / 16, by omega⟩ ⟨k.val / 256, by omega⟩ ⟨g.val % 16, Nat.mod_lt _ (by decide)⟩ ⟨k.val % 256, Nat.mod_lt _ (by decide)⟩).trans ?_)
  unfold chOf
  congr 1
  · exact Fin.ext (by
      show 32 * (min (pt (4 * (min n 447 / 4) + g.val / 32)).val 447 % 64) + 16 * (g.val % 32 / 16) + g.val % 16 = 128 * (min n 447 / 4 % 16) + g.val
      rw [hp]; omega)
  · exact Fin.ext (by
      show 1024 * (min (pt (4 * (min n 447 / 4) + g.val / 32)).val 447 / 64) + 256 * (k.val / 256) + k.val % 256 = 1024 * (min n 447 / 64) + k.val
      rw [hp]; omega)

/-! ## The arrays -/

/-- The weight gradient. -/
def dwR : Vec Ideal S2816x7168 .f32 := fun j => dwS (xG m c) (sgG m c) (stG m c) (sdG m c) (wG m c) (j 0) (j 1)
/-- The codes. -/
def codesR : Vec Ideal S7168x16384 .i8 := fun j => codeS (xG m c) (sgG m c) (stG m c) (j 0) (j 1)
/-- The scales. -/
def sbR : Vec Ideal S7168x2048 .fp8e4m3 := fun j => sbS (xG m c) (sgG m c) (stG m c) (j 1) (j 0)

theorem ix2_eta {a b : ℕ} (y : (⟨2, ![a, b]⟩ : Shape).Idx) : y = ix2 (y 0) (y 1) := by
  funext k; fin_cases k <;> rfl

theorem arr5 : (dats m 0 c).arrAt 5 cfg0.N = dwR m c := by
  refine (dats m 0 c).arrAt_eq_of_covers 5 _ (by decide +kernel) fun t hf y => ?_
  blk_simp
  rw [after0_5]
  have hN : t.val < 449 := lt_of_lt_of_eq t.isLt (show cfg0.N = 449 from N_0)
  obtain ⟨h0, h1⟩ := (flush5 t).mp hf
  have et : t.val = 64 * ((t.val - 1) / 64) + 64 := by omega
  have h0' : (y 0).val < 2816 := (y 0).isLt
  have h1' : (y 1).val < 1024 := (y 1).isLt
  have he : (win0_5.blk t).view.emb y = ix2 ⟨(y 0).val, h0'⟩ (⟨1024 * ((t.val - 1) / 64) + (y 1).val, by omega⟩ : Fin 7168) := by
    blk_ext [idx5]
  rw [he]
  have hy : y = ix2 ⟨(y 0).val, h0'⟩ ⟨(y 1).val, h1'⟩ := by funext k; fin_cases k <;> rfl
  refine (congrArg (fun n => dwAt m c n y) et).trans ((congrArg (dwAt m c (64 * ((t.val - 1) / 64) + 64)) hy).trans ((dwAt_end m c ((t.val - 1) / 64) (by omega) ⟨(y 0).val, h0'⟩ ⟨(y 1).val, h1'⟩).trans ?_))
  rw [dwK_eq]
  rfl
theorem arr7 : (dats m 0 c).arrAt 7 cfg0.N = sbR m c := by
  refine (dats m 0 c).arrAt_eq_of_covers 7 _ (by decide +kernel) fun t hf y => ?_
  blk_simp
  rw [after0_7]
  have h0' : (y 0).val < 1024 := (y 0).isLt
  have h1' : (y 1).val < 128 := (y 1).isLt
  have he : (win0_7.blk t).view.emb y = ix2 (⟨1024 * (min t.val 447 / 64) + (y 0).val, by omega⟩ : Fin 7168) (⟨128 * (min t.val 447 / 4 % 16) + (y 1).val, by omega⟩ : Fin 2048) := by
    blk_ext [idx7]
  rw [he]
  have hy : y = ix2 ⟨(y 0).val, h0'⟩ ⟨(y 1).val, h1'⟩ := by funext k; fin_cases k <;> rfl
  exact (congrArg _ hy).trans (sbAt_at m c t.val ⟨(y 0).val, h0'⟩ ⟨(y 1).val, h1'⟩)

end Cert.KernelIdeal.Gen
end
-- ==== Proof.Value.Bytes.lean ====
module

public import proofs.«01_k».proof.Proof.Value.Words

/-! Bytes of a word, and the clearing of the sign of a zero in all eight nibbles of a word at once. -/

@[expose] public section
namespace Cert.Quant
open Idealize.ShloMosaic

/-- Narrower elements cut out of the wider words they were packed into are the elements. -/
theorem bitcast_widen {R r n v w : ℕ} (x : (⟨2, ![R, n]⟩ : Shape).Idx → BitVec w) (h : (⟨2, ![R, n]⟩ : Shape).Bitcasts w ⟨2, ![r, n]⟩ v)
    (p : Fin R) (l : Fin n) (d : ℕ) (hd : v = d * w) (hw : 0 < w) (hd0 : 0 < d) (a : Fin r) (ha : a.val = p.val / d) :
    (bitcast ⟨2, ![r, n]⟩ v x h (ix2 a l)).extractLsb' (p.val % d * w) w = x (ix2 p l) := by
  subst hd
  apply BitVec.eq_of_getLsbD_eq
  intro i hi
  have hq : p.val % d * w + i < d * w := by
    have h1 : p.val % d + 1 ≤ d := Nat.mod_lt _ hd0
    have h2 := Nat.mul_le_mul_right w h1
    rw [add_mul, one_mul] at h2
    omega
  have e0 : a.val * (d * w) + (p.val % d * w + i) = i + w * p.val := by
    have h2 := Nat.div_add_mod p.val d
    rw [ha]
    conv_rhs => rw [← h2]
    ring
  have e1 : (a.val * (d * w) + (p.val % d * w + i)) / w = p.val := by
    rw [e0, Nat.add_mul_div_left _ _ hw, Nat.div_eq_of_lt hi, zero_add]
  have e2 : (a.val * (d * w) + (p.val % d * w + i)) % w = i := by
    rw [e0, Nat.add_mul_mod_self_left, Nat.mod_eq_of_lt hi]
  rw [BitVec.getLsbD_extractLsb', decide_eq_true hi, Bool.true_and, bitcast_bit x h a l _ hq hw p e1.symm, e2]

/-- A byte with the sign of each zero nibble cleared. -/
def cleanB (b : BitVec 8) : BitVec 8 := b &&& (((b &&& 0x77#8) + 0x77#8) ||| 0x77#8)

theorem mask_le : ∀ b : BitVec 8, (b &&& 0x77#8).toNat ≤ 0x77 := by decide

theorem byte_toNat (m : BitVec 32) (j : ℕ) : (m.extractLsb' (j * 8) 8).toNat = m.toNat / 2 ^ (j * 8) % 256 := by
  rw [BitVec.extractLsb'_toNat, Nat.shiftRight_eq_div_pow]

/-- The bytes of a word are cleaned by one addition on the word. -/
theorem clean_byte (w : BitVec 32) (j : Fin 4) :
    (w &&& (((w &&& 0x77777777#32) + 0x77777777#32) ||| 0x77777777#32)).extractLsb' (j.val * 8) 8 = cleanB (w.extractLsb' (j.val * 8) 8) := by
  have hc : (0x77777777#32).extractLsb' (j.val * 8) 8 = 0x77#8 := by revert j; decide
  have hm : ∀ i : Fin 4, (w &&& 0x77777777#32).toNat / 2 ^ (i.val * 8) % 256 ≤ 0x77 := by
    intro i
    rw [← byte_toNat, BitVec.extractLsb'_and, show (0x77777777#32).extractLsb' (i.val * 8) 8 = 0x77#8 by revert i; decide]
    exact mask_le _
  have ha : ((w &&& 0x77777777#32) + 0x77777777#32).extractLsb' (j.val * 8) 8 = (w &&& 0x77777777#32).extractLsb' (j.val * 8) 8 + 0x77#8 := by
    apply BitVec.eq_of_toNat_eq
    rw [byte_toNat, BitVec.toNat_add, BitVec.toNat_add, byte_toNat]
    have h0 := hm 0; have h1 := hm 1; have h2 := hm 2; have h3 := hm 3
    have hl := (w &&& 0x77777777#32).isLt
    generalize (w &&& 0x77777777#32).toNat = m at h0 h1 h2 h3 hl ⊢
    simp only [BitVec.toNat_ofNat]
    norm_num at h0 h1 h2 h3 hl
    match j with
    | ⟨0, _⟩ => norm_num; omega
    | ⟨1, _⟩ => norm_num; omega
    | ⟨2, _⟩ => norm_num; omega
    | ⟨3, _⟩ => norm_num; omega
  rw [BitVec.extractLsb'_and, BitVec.extractLsb'_or, ha, BitVec.extractLsb'_and, hc]
  rfl

/-- Keeping the even bytes of a word, its half-words cut to bytes are those. -/
theorem half_byte (w : BitVec 32) (j : Fin 2) : ((w &&& 0x00FF00FF#32).extractLsb' (j.val * 16) 16).setWidth 8 = w.extractLsb' (j.val * 16) 8 := by
  apply BitVec.eq_of_getLsbD_eq
  intro i hi
  have hb : ∀ (j : Fin 2) (i : Fin 8), (0x00FF00FF#32).getLsbD (j.val * 16 + i.val) = true := by decide
  have h := hb j ⟨i, hi⟩
  dsimp only at h
  simp only [BitVec.getLsbD_setWidth, BitVec.getLsbD_extractLsb', BitVec.getLsbD_and, h]
  simp [hi, show i < 16 by omega]

/-- The odd bytes likewise, of the word moved down by a byte. -/
theorem half_byte_hi (w : BitVec 32) (j : Fin 2) :
    ((w.sshiftRight 8 &&& 0x00FF00FF#32).extractLsb' (j.val * 16) 16).setWidth 8 = w.extractLsb' (j.val * 16 + 8) 8 := by
  rw [half_byte]
  apply BitVec.eq_of_getLsbD_eq
  intro i hi
  have hj := j.isLt
  simp only [BitVec.getLsbD_extractLsb', BitVec.getLsbD_sshiftRight]
  simp [hi, show ¬ 32 ≤ j.val * 16 + i by omega, show 8 + (j.val * 16 + i) < 32 by omega]
  congr 1
  omega

/-- The code of a value with the sign kept for zeros too. -/
def rawNib (s : Bool) (k : BitVec 32) : BitVec 32 := if s then IntOp.ori k 8#32 else k
/-- The code of a value with a sign only where it is not zero. -/
def cleanNib (s : Bool) (k : BitVec 32) : BitVec 32 := if s = true ∧ k ≠ 0#32 then k + 8#32 else k

/-- Two codes packed into a byte and cleaned. -/
theorem clean_pair : ∀ (s s' : Bool) (k k' : Fin 8),
    cleanB (IntOp.ori (IntOp.andi ((rawNib s (BitVec.ofNat 32 k.val)).setWidth 8) 15#8) (IntOp.shli .vector ((rawNib s' (BitVec.ofNat 32 k'.val)).setWidth 8) 4#8))
      = (IntOp.ori (cleanNib s (BitVec.ofNat 32 k.val)) (IntOp.shli .host (cleanNib s' (BitVec.ofNat 32 k'.val)) 4#32)).setWidth 8 := by
  decide

end Cert.Quant
-- ==== Proof.Value.Pack.lean ====
module

public import Idealize.ShloMosaic.Lib.Pointwise
public import proofs.«01_k».proof.Proof.KernelRun.Step
public import proofs.«01_k».proof.Proof.Value.Scalars
public import proofs.«01_k».proof.Proof.Value.Bytes

/-! How a step packs its codes: which two codes each byte of the packed tile holds. -/

@[expose] public section
namespace Cert.KernelIdeal.Gen
open Idealize.ShloMosaic Idealize.ShloMosaic.Tactic Idealize.ShloMosaic.TcCoe Cert.Quant
set_option maxHeartbeats 4000000
set_option maxRecDepth 20000

/-- The row of packed pairs a lane of the transposed tile holds. -/
def byteRow (q : Fin 128) : ℕ := if q.val < 64 then 4 * (q.val / 2) + 2 * (q.val % 2) else 4 * ((q.val - 64) / 2) + 2 * ((q.val - 64) % 2) + 1
theorem byteRow_lt (q : Fin 128) : byteRow q < 128 := by unfold byteRow; split_ifs <;> omega

/-- Two rows of codes packed into bytes. -/
theorem pay25_byte (nib : IVec S256x256 32) (b : Fin 128) (k : Fin 256) :
    (k0_pay25 nib (ix2 ⟨b.val / 4, by omega⟩ k)).extractLsb' (b.val % 4 * 8) 8
      = IntOp.ori (IntOp.andi ((nib (ix2 ⟨b.val, by omega⟩ k)).setWidth 8) 15#8) (IntOp.shli .vector ((nib (ix2 ⟨128 + b.val, by omega⟩ k)).setWidth 8) 4#8) := by
  unfold k0_pay25
  rw [bitcast_widen _ bitcasts_S128x256_w8_S32x256_w32 b k 4 rfl (by decide) (by decide) ⟨b.val / 4, by omega⟩ rfl]
  pointwise

/-- The words with the signs of zeros cleared. -/
noncomputable def cleanW (nib : IVec S256x256 32) (p : Fin 32) (k : Fin 256) : BitVec 32 :=
  k0_pay25 nib (ix2 p k) &&& (((k0_pay25 nib (ix2 p k) &&& 0x77777777#32) + 0x77777777#32) ||| 0x77777777#32)

/-- The lanes gathered from their sources. -/
theorem gather_at (Y : IVec S64x128 32) (src : IVec S1x128 32) (a : Fin 64) (q q' : Fin 128) (hq : src (ix2 0 q) = BitVec.ofNat 32 q'.val) :
    dynamicGather 1 Y
        (shapeCast S64x128
          (shapeCast S64x128x1
            (select
              (cmpi CmpIPredicate.slt
                (broadcastTo S64x128 (shapeCast S1x128 src shapeCasts_S1x128_S1x128) broadcasts_S1x128_S64x128)
                (broadcast S64x128 0#32))
              (addi (broadcastTo S64x128 (shapeCast S1x128 src shapeCasts_S1x128_S1x128) broadcasts_S1x128_S64x128)
                (broadcast S64x128 128#32))
              (broadcastTo S64x128 (shapeCast S1x128 src shapeCasts_S1x128_S1x128) broadcasts_S1x128_S64x128))
            shapeCasts_S64x128_S64x128x1)
          shapeCasts_S64x128x1_S64x128) (ix2 a q) = Y (ix2 a q') := by
  have hs : ∀ q' : Fin 128, Scalar.select (IntOp.cmpi CmpIPredicate.slt (BitVec.ofNat 32 q'.val) 0#32) (IntOp.addi (BitVec.ofNat 32 q'.val) 128#32) (BitVec.ofNat 32 q'.val)
    = BitVec.ofNat 32 q'.val := by decide
  pointwise
  refine congrArg Y (congrArg (ix2 a) (Fin.ext ?_))
  show (Scalar.select (IntOp.cmpi CmpIPredicate.slt (src (ix2 0 q)) 0#32) (IntOp.addi (src (ix2 0 q)) 128#32) (src (ix2 0 q))).toNat % 128 = q'.val
  rw [hq, hs]
  show q'.val % 2 ^ 32 % 128 = q'.val
  omega

/-- The two stacked halves, transposed and cut to bytes. -/
theorem stack_at (L H : IVec S64x256 16) (k : Fin 256) (q : Fin 128) :
    trunci 8 (transpose S256x128 [1, 0] (concatenate S128x256 0 [⟨S64x256, L⟩, ⟨S64x256, H⟩] concatenates_S64x256_S64x256_S128x256_d0)
      transposes_S128x256_p1_0_S256x128) natLt_8_16 (ix2 k q)
      = if h : q.val < 64 then (L (ix2 ⟨q.val, h⟩ k)).setWidth 8 else (H (ix2 ⟨q.val - 64, by omega⟩ k)).setWidth 8 := by
  pointwise
  split_ifs <;> rfl

theorem pay27_byte (src : Vec Ideal S1x128 .i32) (nib : IVec S256x256 32) (k : Fin 256) (q q' : Fin 128) (hq : src (ix2 0 q) = BitVec.ofNat 32 q'.val) :
    k0_pay27 src (k0_pay25 nib) (k0_pay26 nib) 2004318071#32 (ix2 k q)
      = (cleanW nib ⟨byteRow q' / 4, by have := byteRow_lt q'; omega⟩ k).extractLsb' (byteRow q' % 4 * 8) 8 := by
  unfold k0_pay27 k0_pay26
  dsimp only
  rw [bitcast_narrow _ bitcasts_S64x128_w32_S256x128_w8 k q 4 rfl (by decide) (by decide) ⟨k.val / 4, by omega⟩ rfl,
    gather_at _ _ _ q q' hq, bitcast_widen _ bitcasts_S256x128_w8_S64x128_w32 k q' 4 rfl (by decide) (by decide) ⟨k.val / 4, by omega⟩ rfl, stack_at]
  unfold byteRow
  split_ifs with h
  · rw [bitcast_narrow _ bitcasts_S32x256_w32_S64x256_w16 ⟨q'.val, h⟩ k 2 rfl (by decide) (by decide) ⟨q'.val / 2, by omega⟩ rfl]
    refine (half_byte (cleanW nib ⟨q'.val / 2, by omega⟩ k) ⟨q'.val % 2, by omega⟩).trans ?_
    have e1 : (4 * (q'.val / 2) + 2 * (q'.val % 2)) / 4 = q'.val / 2 := by omega
    have e2 : (4 * (q'.val / 2) + 2 * (q'.val % 2)) % 4 * 8 = q'.val % 2 * 16 := by omega
    simp only [e1, e2]
  · rw [bitcast_narrow _ bitcasts_S32x256_w32_S64x256_w16 ⟨q'.val - 64, by omega⟩ k 2 rfl (by decide) (by decide) ⟨(q'.val - 64) / 2, by omega⟩ rfl]
    refine (half_byte_hi (cleanW nib ⟨(q'.val - 64) / 2, by omega⟩ k) ⟨(q'.val - 64) % 2, by omega⟩).trans ?_
    have e1 : (4 * ((q'.val - 64) / 2) + 2 * ((q'.val - 64) % 2) + 1) / 4 = (q'.val - 64) / 2 := by omega
    have e2 : (4 * ((q'.val - 64) / 2) + 2 * ((q'.val - 64) % 2) + 1) % 4 * 8 = (q'.val - 64) % 2 * 16 + 8 := by omega
    simp only [e1, e2]

end Cert.KernelIdeal.Gen
end
-- ==== Proof.Value.Codes.lean ====
module

public import proofs.«01_k».proof.Proof.Value.Main
public import proofs.«01_k».proof.Proof.Value.Pack

/-! The array of packed codes the kernel leaves. -/

@[expose] public section
namespace Cert.KernelIdeal.Gen
open Idealize.ShloMosaic Idealize.ShloMosaic.Tactic Idealize.ShloMosaic.TcCoe Idealize.ShloMosaic.StableHlo Idealize.SL.Sem Cert.Quant
set_option maxHeartbeats 4000000
set_option maxRecDepth 20000

/-! ## One tile -/

theorem kOf_fin (x : EReal) : ∃ k : Fin 8, kOf x = BitVec.ofNat 32 k.val := by
  rcases kOf_cases x with h | h | h | h | h | h | h | h
  · exact ⟨0, h⟩
  · exact ⟨1, h⟩
  · exact ⟨2, h⟩
  · exact ⟨3, h⟩
  · exact ⟨4, h⟩
  · exact ⟨5, h⟩
  · exact ⟨6, h⟩
  · exact ⟨7, h⟩

/-- Two codes with the signs of zeros kept, packed and cleaned, are the two codes. -/
theorem clean_codes (u u' : EReal) :
    cleanB (IntOp.ori (IntOp.andi ((if u < 0 then IntOp.ori (kOf (mOf u)) 8#32 else kOf (mOf u)).setWidth 8) 15#8)
        (IntOp.shli .vector ((if u' < 0 then IntOp.ori (kOf (mOf u')) 8#32 else kOf (mOf u')).setWidth 8) 4#8))
      = (IntOp.ori (nibOf u) (IntOp.shli .host (nibOf u') 4#32)).setWidth 8 := by
  obtain ⟨k, hk⟩ := kOf_fin (mOf u)
  obtain ⟨k', hk'⟩ := kOf_fin (mOf u')
  have h := clean_pair (decide (u < 0)) (decide (u' < 0)) k k'
  unfold rawNib cleanNib at h
  unfold nibOf
  rw [hk, hk']
  simpa only [decide_eq_true_eq] using h

theorem pay27_clean (src : Vec Ideal S1x128 .i32) (nib : IVec S256x256 32) (k : Fin 256) (q q' : Fin 128) (b : Fin 128)
    (hq : src (ix2 0 q) = BitVec.ofNat 32 q'.val) (hb : byteRow q' = b.val) :
    k0_pay27 src (k0_pay25 nib) (k0_pay26 nib) 2004318071#32 (ix2 k q)
      = cleanB (IntOp.ori (IntOp.andi ((nib (ix2 ⟨b.val, by omega⟩ k)).setWidth 8) 15#8) (IntOp.shli .vector ((nib (ix2 ⟨128 + b.val, by omega⟩ k)).setWidth 8) 4#8)) := by
  rw [pay27_byte src nib k q q' hq, ← pay25_byte]
  simp only [hb]
  exact clean_byte (k0_pay25 nib (ix2 ⟨b.val / 4, by omega⟩ k)) ⟨b.val % 4, by omega⟩

/-- The lane a byte comes from. -/
noncomputable def srcOf (q : Fin 128) : Fin 128 := ⟨(lit1 ⟨q.val, by omega⟩).toNat % 128, Nat.mod_lt _ (by decide)⟩
theorem srcOf_tab : ∀ q : Fin 128, lit1 ⟨q.val, by omega⟩ = BitVec.ofNat 32 (srcOf q).val ∧ byteRow (srcOf q) = 16 * (q.val % 8) + q.val / 8 := by
  decide +kernel

variable (m : (ℓ : Loc nD τ sig) → Buf (Elt Ideal) ℓ) (c : Dev nD)

theorem idx1 : ∀ t : Fin grid0.N, win0_1.index t = ![0, 0] := by decide +kernel
theorem idx6 : ∀ t : Fin grid0.N, win0_6.index t = ![min t.val 447 / 64, min t.val 447 % 64] := by decide +kernel

/-- The digits of a lane, in the order of the packed rows and in the order of the codes. -/
theorem lane_digits (M s : ℕ) (q : Fin 128) :
    (16 * (q.val % 8) + q.val / 8) % 16 = q.val / 8 ∧ (128 + (16 * (q.val % 8) + q.val / 8)) % 16 = q.val / 8
    ∧ (16 * (q.val % 8) + q.val / 8) % 128 / 16 = q.val % 8 ∧ (128 + (16 * (q.val % 8) + q.val / 8)) % 128 / 16 = q.val % 8
    ∧ (16 * (q.val % 8) + q.val / 8) / 128 = 0 ∧ (128 + (16 * (q.val % 8) + q.val / 8)) / 128 = 1
    ∧ (256 * M + 128 * s + q.val) / 8 = 32 * M + 16 * s + q.val / 8 ∧ (256 * M + 128 * s + q.val) % 8 = q.val % 8 := by
  have h : ∀ a b : ℕ, a < 16 → b < 8 → (16 * b + a) % 16 = a ∧ (128 + (16 * b + a)) % 16 = a ∧ (16 * b + a) % 128 / 16 = b
      ∧ (128 + (16 * b + a)) % 128 / 16 = b ∧ (16 * b + a) / 128 = 0 ∧ (128 + (16 * b + a)) / 128 = 1 := by
    intro a b ha hb
    refine ⟨?_, ?_, ?_, ?_, ?_, ?_⟩ <;> omega
  obtain ⟨h1, h2, h3, h4, h5, h6⟩ := h (q.val / 8) (q.val % 8) (by omega) (by omega)
  exact ⟨h1, h2, h3, h4, h5, h6, by omega, by omega⟩

section Step
variable (t : Fin cfg0.N) (s : Fin 2) (n : Fin 4)

theorem src_eq (q : Fin 128) : @Eq (BitVec 32) (srcRow (iblk m c 1 t) (ix2 0 q)) (BitVec.ofNat 32 (srcOf q).val) := by
  rw [← (srcOf_tab q).1]
  have h : @Eq (BitVec 32) (srcRow (iblk m c 1 t) (ix2 0 q)) (V m c main_c (ix2 0 q)) := by
    unfold srcRow View.ld
    blk_simp [iblk]
    refine congrArg (V m c main_c) ?_
    blk_ext [idx1]
    all_goals (rw [unit_idx_val]; dsimp [ix2])
    omega
  refine h.trans ((V_src m c 0 q).trans (congrArg lit1 (Fin.ext ?_)))
  exact (Shape.rowMajor_val_two (d := ![8, 128]) (ix2 0 q)).trans (show 0 * 128 + q.val = q.val by omega)

/-- A step's tile of codes. -/
theorem codes_at (k : Fin 256) (q : Fin 128) :
    codesT (rotOf (iblk m c 2 t)) (xTile (iblk m c 3 t) s n) (st0 (iblk m c 0 t)) (srcRow (iblk m c 1 t)) (ix2 k q)
      = codeS (xG m c) (sgG m c) (stG m c) (chOf t n k) ⟨256 * (min t.val 447 % 64) + 128 * s.val + q.val, by omega⟩ := by
  unfold codesT
  rw [pay27_clean _ _ k q (srcOf q) ⟨16 * (q.val % 8) + q.val / 8, by omega⟩ (src_eq m c t q) (srcOf_tab q).2]
  rw [nibT_eq, nibT_eq, clean_codes]
  have hu := uT_spec (rotOf (iblk m c 2 t)) (xTile (iblk m c 3 t) s n) (stG m c) (xG m c) (sgG m c) (chOf t n) (32 * (min t.val 447 % 64) + 16 * s.val) (by omega)
    (hrot_at m c t) (hx_at m c t s n)
  rw [show st0 (iblk m c 0 t) = stG m c from st0_eq m c t, hu, hu]
  unfold codeS posOf
  obtain ⟨a1, a2, a3, a4, a5, a6, a7, a8⟩ := lane_digits (min t.val 447 % 64) s.val q
  have e1 : (⟨32 * (min t.val 447 % 64) + 16 * s.val + (16 * (q.val % 8) + q.val / 8) % 16, by omega⟩ : Fin 2048)
      = ⟨(256 * (min t.val 447 % 64) + 128 * s.val + q.val) / 8, by omega⟩ := Fin.ext (by
    show 32 * (min t.val 447 % 64) + 16 * s.val + (16 * (q.val % 8) + q.val / 8) % 16 = (256 * (min t.val 447 % 64) + 128 * s.val + q.val) / 8
    rw [a1, a7])
  have e2 : (⟨32 * (min t.val 447 % 64) + 16 * s.val + (128 + (16 * (q.val % 8) + q.val / 8)) % 16, by omega⟩ : Fin 2048)
      = ⟨(256 * (min t.val 447 % 64) + 128 * s.val + q.val) / 8, by omega⟩ := Fin.ext (by
    show 32 * (min t.val 447 % 64) + 16 * s.val + (128 + (16 * (q.val % 8) + q.val / 8)) % 16 = (256 * (min t.val 447 % 64) + 128 * s.val + q.val) / 8
    rw [a2, a7])
  have e3 : (⟨2 * ((16 * (q.val % 8) + q.val / 8) % 128 / 16) + (16 * (q.val % 8) + q.val / 8) / 128, by omega⟩ : Fin 16)
      = ⟨(256 * (min t.val 447 % 64) + 128 * s.val + q.val) % 8 * 2, by omega⟩ := Fin.ext (by
    show 2 * ((16 * (q.val % 8) + q.val / 8) % 128 / 16) + (16 * (q.val % 8) + q.val / 8) / 128 = (256 * (min t.val 447 % 64) + 128 * s.val + q.val) % 8 * 2
    rw [a3, a5, a8]; omega)
  have e4 : (⟨2 * ((128 + (16 * (q.val % 8) + q.val / 8)) % 128 / 16) + (128 + (16 * (q.val % 8) + q.val / 8)) / 128, by omega⟩ : Fin 16)
      = ⟨(256 * (min t.val 447 % 64) + 128 * s.val + q.val) % 8 * 2 + 1, by omega⟩ := Fin.ext (by
    show 2 * ((128 + (16 * (q.val % 8) + q.val / 8)) % 128 / 16) + (128 + (16 * (q.val % 8) + q.val / 8)) / 128 = (256 * (min t.val 447 % 64) + 128 * s.val + q.val) % 8 * 2 + 1
    rw [a4, a6, a8]; omega)
  dsimp only
  rw [e1, e2, e3, e4]
end Step

/-! ## The array -/

theorem codesAt_at (t : Fin cfg0.N) (k : Fin 1024) (q : Fin 256) :
    @Eq (BitVec 8) (codesAt m c t.val (ix2 k q)) (codeS (xG m c) (sgG m c) (stG m c) ⟨1024 * (min t.val 447 / 64) + k.val, by omega⟩
      ⟨256 * (min t.val 447 % 64) + q.val, by omega⟩) := by
  unfold codesAt codesOf
  rw [tiled_ix2 _ _ _ _ _ k q (by omega) (by omega), pt_val, codes_at]
  unfold chOf
  congr 1
  · exact Fin.ext (by show 1024 * (min t.val 447 / 64) + 256 * (k.val / 256) + k.val % 256 = 1024 * (min t.val 447 / 64) + k.val; omega)
  · exact Fin.ext (by show 256 * (min t.val 447 % 64) + 128 * (q.val / 128) + q.val % 128 = 256 * (min t.val 447 % 64) + q.val; omega)

theorem arr6 : (dats m 0 c).arrAt 6 cfg0.N = codesR m c := by
  refine (dats m 0 c).arrAt_eq_of_covers 6 _ (by decide +kernel) fun t hf y => ?_
  blk_simp
  rw [after0_6]
  have h0' : (y 0).val < 1024 := (y 0).isLt
  have h1' : (y 1).val < 256 := (y 1).isLt
  have he : (win0_6.blk t).view.emb y = ix2 (⟨1024 * (min t.val 447 / 64) + (y 0).val, by omega⟩ : Fin 7168) (⟨256 * (min t.val 447 % 64) + (y 1).val, by omega⟩ : Fin 16384) := by
    blk_ext [idx6]
  rw [he]
  have hy : y = ix2 ⟨(y 0).val, h0'⟩ ⟨(y 1).val, h1'⟩ := by funext k; fin_cases k <;> rfl
  exact (congrArg _ hy).trans (codesAt_at m c t ⟨(y 0).val, h0'⟩ ⟨(y 1).val, h1'⟩)

variable (ρ : Dev nD → PrngReg)

/-- The kernel ends with the weight gradient, the codes and the scales in its results. -/
theorem values : θ_run defs (onTc (τ := τ) (main (F := Ideal))) ⟨m, fun _ => 0, ρ⟩ (fun r => ∀ c : Dev nD,
      r.2.mem ((c.tc : Thread nD τ).loc main_v9_0) = dwR m c
      ∧ r.2.mem ((c.tc : Thread nD τ).loc main_v9_1) = codesR m c
      ∧ r.2.mem ((c.tc : Thread nD τ).loc main_v9_2) = sbR m c) := by
  refine (θ_run defs _ _).mono (fun r h c => ?_) (run_main m ρ)
  exact ⟨((h c).1 5).trans (arr5 m c), ((h c).1 6).trans (arr6 m c), ((h c).1 7).trans (arr7 m c)⟩

end Cert.KernelIdeal.Gen
end
-- ==== Proof.Value.Ref.lean ====
module

public import proofs.«01_k».proof.Proof.Gen.ReferenceIdeal.Frame
public import proofs.«01_k».proof.Proof.Value.Scalars
public import Idealize.ShloMosaic.Lib.ValueIdx
public import Idealize.ShloMosaic.Lib.Pointwise
public import Idealize.ShloMosaic.Lib.Claim
public import Idealize.ShloMosaic.Lib.BitcastConvert
public import Idealize.ShloMosaic.Lib.StableHlo.ReadAt
public import Idealize.ShloMosaic.Lib.Pipeline.ReadBack
public import Idealize.ShloMosaic.Lib.Pipeline.ValueKit.Acc
public import Idealize.ShloMosaic.Lib.Pipeline.ValueKit.Geometry

/-! What the reference's three results hold, element by element. -/

@[expose] public section
noncomputable section
namespace Cert.ReferenceIdeal.Gen
open Idealize.ShloMosaic Idealize.ShloMosaic.Tactic Idealize.ShloMosaic.TcCoe Idealize.ShloMosaic.StableHlo Idealize.SL.Sem Cert.Quant

/-- The reference's operations after the conversion of the scales, up to the four-bit codes, -/
abbrev tailA : List (HloOp τ sig (Elt Ideal)) := hostOps1 ++ (hostOps1_1 ++ (hostOps1_2 ++ (hostOps1_3 ++ hostOps1_4.take 50)))
/-- and from there to the end. -/
abbrev tailB : List (HloOp τ sig (Elt Ideal)) := hostOps1_4.drop 50 ++ (hostOps1_5 ++ (hostOps1_6 ++ (hostOps1_7 ++ (hostOps1_8 ++ (hostOps1_9 ++ (hostOps1_10 ++ (hostOps1_11 ++ (hostOps1_12 ++ (hostOps1_13 ++ (hostOps1_14 ++ (hostOps1_15 ++ (hostOps1_16 ++ hostOps1_17))))))))))))

/-- All the operations after the region, cut at the four-bit codes. -/
theorem tail_split : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17] : List (List (HloOp τ sig (Elt Ideal)))).flatten = tailA ++ tailB := by
  have h : (hostOps1_4 : List (HloOp τ sig (Elt Ideal))) = hostOps1_4.take 50 ++ hostOps1_4.drop 50 := (List.take_append_drop 50 _).symm
  unfold tailA tailB
  generalize (hostOps1 : List (HloOp τ sig (Elt Ideal))) = l0 at *
  generalize (hostOps1_1 : List (HloOp τ sig (Elt Ideal))) = l1 at *
  generalize (hostOps1_2 : List (HloOp τ sig (Elt Ideal))) = l2 at *
  generalize (hostOps1_3 : List (HloOp τ sig (Elt Ideal))) = l3 at *
  generalize (hostOps1_5 : List (HloOp τ sig (Elt Ideal))) = l5 at *
  generalize (hostOps1_6 : List (HloOp τ sig (Elt Ideal))) = l6 at *
  generalize (hostOps1_7 : List (HloOp τ sig (Elt Ideal))) = l7 at *
  generalize (hostOps1_8 : List (HloOp τ sig (Elt Ideal))) = l8 at *
  generalize (hostOps1_9 : List (HloOp τ sig (Elt Ideal))) = l9 at *
  generalize (hostOps1_10 : List (HloOp τ sig (Elt Ideal))) = l10 at *
  generalize (hostOps1_11 : List (HloOp τ sig (Elt Ideal))) = l11 at *
  generalize (hostOps1_12 : List (HloOp τ sig (Elt Ideal))) = l12 at *
  generalize (hostOps1_13 : List (HloOp τ sig (Elt Ideal))) = l13 at *
  generalize (hostOps1_14 : List (HloOp τ sig (Elt Ideal))) = l14 at *
  generalize (hostOps1_15 : List (HloOp τ sig (Elt Ideal))) = l15 at *
  generalize (hostOps1_16 : List (HloOp τ sig (Elt Ideal))) = l16 at *
  generalize (hostOps1_17 : List (HloOp τ sig (Elt Ideal))) = l17 at *
  generalize (hostOps1_4 : List (HloOp τ sig (Elt Ideal))).take 50 = t at *
  generalize (hostOps1_4 : List (HloOp τ sig (Elt Ideal))).drop 50 = d at *
  generalize (hostOps1_4 : List (HloOp τ sig (Elt Ideal))) = l4 at *
  subst h
  simp only [List.flatten_cons, List.flatten_nil, List.append_nil, List.append_assoc]

section Tail
variable (W : Valuation τ sig (Elt Ideal))
set_option maxHeartbeats 4000000
set_option maxRecDepth 20000
set_option maxRecDepth 4000

/-- The quotient the reference rounds. -/
def uW (g : Fin 2048) (i : Fin 16) (c : Fin 7168) : EReal :=
  uOf (W (Proc.devRef .tc main_v22) (ix3 g i c) : EReal) (HMul.hMul (α := EReal) (β := EReal) (γ := EReal) (W (Proc.devRef .tc main_v31_1) (ix2 g c)) (W (Proc.devRef .tc main_v23) ix0))

/-- The reference's four-bit codes. -/
theorem tail_nib (g : Fin 2048) (i : Fin 16) (c : Fin 7168) :
    StableHlo.after tailA W (Proc.devRef .tc main_v81) (ix3 g i c) = nibOf (uW W g i c) := by
  rw [← nib_ref]
  have hk : kOf (mOf (uW W g i c)) = _ := (kOf_sum (mOf (uW W g i c)) _ _ _ _ _ _ _ rfl rfl rfl rfl rfl rfl rfl).symm
  rw [hk]
  simp only [← word_ofBool]
  unfold mOf uW uOf
  after_reads_at
  simp only [id_eq]
  pointwise
  rfl

theorem tailA_31_0 : StableHlo.after tailA W (Proc.devRef .tc main_v31_0) = W (Proc.devRef .tc main_v31_0) := by after_reads_simp
theorem tailA_31_1 : StableHlo.after tailA W (Proc.devRef .tc main_v31_1) = W (Proc.devRef .tc main_v31_1) := by after_reads_simp
theorem tailA_arg2 : StableHlo.after tailA W (Proc.devRef .tc main_arg2) = W (Proc.devRef .tc main_arg2) := by after_reads_simp
theorem tailA_arg3 : StableHlo.after tailA W (Proc.devRef .tc main_arg3) = W (Proc.devRef .tc main_arg3) := by after_reads_simp
theorem tailA_arg4 : StableHlo.after tailA W (Proc.devRef .tc main_arg4) = W (Proc.devRef .tc main_arg4) := by after_reads_simp

/-- The decoded values. -/
theorem tail_dec (g : Fin 2048) (i : Fin 16) (c : Fin 7168) :
    StableHlo.after tailB W (Proc.devRef .tc main_v118) (ix3 g i c) = dec4 (W (Proc.devRef .tc main_v81) (ix3 g i c)) := by
  unfold dec4
  after_reads_at

/-- The packed codes. -/
theorem tail_codes (c : Fin 7168) (q : Fin 16384) :
    StableHlo.after tailB W (Proc.devRef .tc main_v92) (ix2 c q)
      = BitVec.setWidth 8 (IntOp.ori (W (Proc.devRef .tc main_v81) (ix3 ⟨↑q / 8, by omega⟩ ⟨↑q % 8 * 2, by omega⟩ c))
        (IntOp.shli ArithUnit.host (W (Proc.devRef .tc main_v81) (ix3 ⟨↑q / 8, by omega⟩ ⟨↑q % 8 * 2 + 1, by omega⟩ c)) 4#32)) := by
  after_reads_at

/-- The scales, channels first. -/
theorem tail_sb (c : Fin 7168) (g : Fin 2048) :
    StableHlo.after tailB W (Proc.devRef .tc main_v93) (ix2 c g) = W (Proc.devRef .tc main_v31_0) (ix2 g c) := by
  after_reads_at

/-- The word a half word comes from. -/
theorem drop_eq (a : Fin 1408) (p : Fin 32768) (b : Fin 2) :
    splits_S1408x32768_w32_S1408x32768x2_w16.drop (ix3 a p b) = ix2 a p := by
  funext k
  fin_cases k <;> rfl

/-- The product, scaled. -/
theorem tail_dw (n : Fin 2816) (c : Fin 7168) :
    StableHlo.after tailB W (Proc.devRef .tc main_v133) (ix2 n c)
      = (∑ t : Fin 32768, dyS (fun r p => W (Proc.devRef .tc main_arg4) (ix2 r p)) n (colOf t)
          * (HMul.hMul (α := EReal) (β := EReal) (γ := EReal) (dec4 (W (Proc.devRef .tc main_v81) (ix3 ⟨↑t / 16, by omega⟩ ⟨↑t % 16, by omega⟩ c))) (W (Proc.devRef .tc main_v31_1) (ix2 ⟨↑t / 16, by omega⟩ c))))
        * (HMul.hMul (α := EReal) (β := EReal) (γ := EReal) (W (Proc.devRef .tc main_arg3) (ix1 0)) (W (Proc.devRef .tc main_arg2) (ix1 0))) := by
  unfold dec4 dyS colOf
  after_reads_at
  simp only [drop_eq]

end Tail

/-! ## The run -/

variable (m : (ℓ : Loc nD τ sig) → Buf (Elt Ideal) ℓ) (ρ : Dev nD → PrngReg)

/-- Narrowing the scales changes nothing among the extended reals, -/
theorem pay1_id (x : Vec Ideal S2048x7168 .f32) : k0_pay1 x = x := by
  funext j; unfold k0_pay1; pointwise
/-- nor does widening them. -/
theorem pay2_id (x : Vec Ideal S2048x7168 .fp8e4m3) : k0_pay2 x = x := by
  funext j; unfold k0_pay2; pointwise
set_option maxRecDepth 20000
/-- The scales in their narrow form, -/
theorem arr1 (c : Dev nD) : (dats m 0 c).arrAt 1 cfg0.N = V m c main_v30 := by
  refine (dats m 0 c).arrAt_eq_of_covers 1 _ (by decide +kernel) fun t hf y => ?_
  blk_simp
  rw [after0_1]
  unfold outsAt0 out0_A_1
  dsimp only
  frame_out
  rw [Idealize.ShloMosaic.read_unread_whole]
  simp only [pay1_id, pay2_id]
  blk_simp [iblk]
  refine congrArg (V m c main_v30) ?_
  blk_ext [(by decide +kernel : ∀ t : Fin grid0.N, win0_0.index t = ![0, 0]), (by decide +kernel : ∀ t : Fin grid0.N, win0_1.index t = ![0, 0]), (by decide +kernel : ∀ t : Fin grid0.N, win0_2.index t = ![0, 0])]
/-- and wide again. -/
theorem arr2 (c : Dev nD) : (dats m 0 c).arrAt 2 cfg0.N = V m c main_v30 := by
  refine (dats m 0 c).arrAt_eq_of_covers 2 _ (by decide +kernel) fun t hf y => ?_
  blk_simp
  rw [after0_2]
  unfold outsAt0 out0_A_2
  dsimp only
  frame_out
  rw [Idealize.ShloMosaic.read_unread_whole]
  simp only [pay1_id, pay2_id]
  blk_simp [iblk]
  refine congrArg (V m c main_v30) ?_
  blk_ext [(by decide +kernel : ∀ t : Fin grid0.N, win0_0.index t = ![0, 0]), (by decide +kernel : ∀ t : Fin grid0.N, win0_1.index t = ![0, 0]), (by decide +kernel : ∀ t : Fin grid0.N, win0_2.index t = ![0, 0])]

section Entry
variable (c : Dev nD)
/-- The input, in groups of sixteen tokens. -/
def xG (g : Fin 2048) (i : Fin 16) (k : Fin 7168) : EReal :=
  m (c, Proc.devRef .tc main_arg0) (ix3 ⟨↑g / 256, by omega⟩ ⟨↑g % 256 * 16 + ↑i, by omega⟩ k)
/-- The signs. -/
def sgG (i : Fin 16) : EReal := m (c, Proc.devRef .tc main_arg1) (ix1 i)
/-- The input's tensor scale. -/
def stG : EReal := m (c, Proc.devRef .tc main_arg2) (ix1 0)
/-- The gradient's tensor scale. -/
def sdG : EReal := m (c, Proc.devRef .tc main_arg3) (ix1 0)
/-- The gradient's words. -/
def wG (r : Fin 1408) (p : Fin 32768) : BitVec 32 := m (c, Proc.devRef .tc main_arg4) (ix2 r p)

set_option maxHeartbeats 4000000
set_option maxRecDepth 20000
theorem V_22 (g : Fin 2048) (i : Fin 16) (k : Fin 7168) : V m c main_v22 (ix3 g i k) = zS (xG m c) (sgG m c) g i k := by
  unfold zS had xG sgG
  show V0 m c _ _ = _
  after_reads_at
theorem V_30 (g : Fin 2048) (k : Fin 7168) : V m c main_v30 (ix2 g k) = sbS (xG m c) (sgG m c) (stG m c) g k := by
  unfold sbS zS had xG sgG stG
  show V0 m c _ _ = _
  after_reads_at
theorem V_23 : V m c main_v23 ix0 = stG m c := by
  unfold stG
  show V0 m c _ _ = _
  after_reads_at
theorem V_arg2 : V m c main_arg2 = m (c, Proc.devRef .tc main_arg2) := by
  show V0 m c _ = _
  after_reads_simp
theorem V_arg3 : V m c main_arg3 = m (c, Proc.devRef .tc main_arg3) := by
  show V0 m c _ = _
  after_reads_simp
theorem V_arg4 : V m c main_arg4 = m (c, Proc.devRef .tc main_arg4) := by
  show V0 m c _ = _
  after_reads_simp

/-- What the buffers hold after the conversion of the scales. -/
abbrev W1 : Valuation τ sig (Elt Ideal) :=
  Pipeline.withArrays (cfgs 0).spec c (V0 m c) fun w => (dats m 0 c).arrAt w (cfgs 0).N

theorem W1_0 : W1 m c (Proc.devRef .tc main_v31_0) = V m c main_v30 :=
  (Pipeline.withArrays_arr (cfgs 0).spec (by decide) c (V0 m c) _ 1).trans (arr1 m c)
theorem W1_1 : W1 m c (Proc.devRef .tc main_v31_1) = V m c main_v30 :=
  (Pipeline.withArrays_arr (cfgs 0).spec (by decide) c (V0 m c) _ 2).trans (arr2 m c)
theorem W1_22 : W1 m c (Proc.devRef .tc main_v22) = V m c main_v22 :=
  Pipeline.withArrays_of_ne (cfgs 0).spec c (V0 m c) _ main_v22 (by decide)
theorem W1_23 : W1 m c (Proc.devRef .tc main_v23) = V m c main_v23 :=
  Pipeline.withArrays_of_ne (cfgs 0).spec c (V0 m c) _ main_v23 (by decide)
theorem W1_arg2 : W1 m c (Proc.devRef .tc main_arg2) = V m c main_arg2 :=
  Pipeline.withArrays_of_ne (cfgs 0).spec c (V0 m c) _ main_arg2 (by decide)
theorem W1_arg3 : W1 m c (Proc.devRef .tc main_arg3) = V m c main_arg3 :=
  Pipeline.withArrays_of_ne (cfgs 0).spec c (V0 m c) _ main_arg3 (by decide)
theorem W1_arg4 : W1 m c (Proc.devRef .tc main_arg4) = V m c main_arg4 :=
  Pipeline.withArrays_of_ne (cfgs 0).spec c (V0 m c) _ main_arg4 (by decide)

theorem uW1 (g : Fin 2048) (i : Fin 16) (k : Fin 7168) : uW (W1 m c) g i k = uS (xG m c) (sgG m c) (stG m c) g i k := by
  unfold uW uS
  rw [W1_22, W1_1, W1_23, V_22, V_30, V_23]

/-- The reference's weight gradient. -/
def dwR : Vec Ideal S2816x7168 .f32 := fun j => dwS (xG m c) (sgG m c) (stG m c) (sdG m c) (wG m c) (j 0) (j 1)
/-- Its codes. -/
def codesR : Vec Ideal S7168x16384 .i8 := fun j => codeS (xG m c) (sgG m c) (stG m c) (j 0) (j 1)
/-- Its scales. -/
def sbR : Vec Ideal S7168x2048 .fp8e4m3 := fun j => sbS (xG m c) (sgG m c) (stG m c) (j 1) (j 0)

theorem v133_at (n : Fin 2816) (k : Fin 7168) : StableHlo.after (tailA ++ tailB) (W1 m c) (Proc.devRef .tc main_v133) (ix2 n k)
    = dwS (xG m c) (sgG m c) (stG m c) (sdG m c) (wG m c) n k := by
  rw [StableHlo.after_append, tail_dw, tailA_arg2, tailA_arg3, W1_arg2, W1_arg3, V_arg2, V_arg3]
  unfold dwS
  refine congrArg₂ (· * ·) (Finset.sum_congr rfl fun t _ => ?_) rfl
  rw [tail_nib, dec4_nib, tailA_31_1, tailA_arg4, W1_1, W1_arg4, V_30, V_arg4, uW1]
  rfl
theorem v133_eq : StableHlo.after (tailA ++ tailB) (W1 m c) (Proc.devRef .tc main_v133) = dwR m c := by
  funext j
  obtain ⟨n, k, rfl⟩ : ∃ n k, j = ix2 n k := ⟨j 0, j 1, by funext a; fin_cases a <;> rfl⟩
  exact v133_at m c n k
theorem v92_eq : StableHlo.after (tailA ++ tailB) (W1 m c) (Proc.devRef .tc main_v92) = codesR m c := by
  funext j
  obtain ⟨n, k, rfl⟩ : ∃ n k, j = ix2 n k := ⟨j 0, j 1, by funext a; fin_cases a <;> rfl⟩
  rw [StableHlo.after_append, tail_codes, tail_nib, tail_nib, uW1, uW1]
  rfl
theorem v93_eq : StableHlo.after (tailA ++ tailB) (W1 m c) (Proc.devRef .tc main_v93) = sbR m c := by
  funext j
  obtain ⟨n, k, rfl⟩ : ∃ n k, j = ix2 n k := ⟨j 0, j 1, by funext a; fin_cases a <;> rfl⟩
  rw [StableHlo.after_append, tail_sb, tailA_31_0, W1_0, V_30]
  rfl

end Entry

/-- The reference's run: the three results and the arguments. -/
theorem values : θ_run defs (onTc (τ := τ) (main (F := Ideal))) ⟨m, fun _ => 0, ρ⟩ (fun r => ∀ c : Dev nD,
      r.2.mem ((c.tc : Thread nD τ).loc main_v133) = dwR m c
      ∧ r.2.mem ((c.tc : Thread nD τ).loc main_v92) = codesR m c
      ∧ r.2.mem ((c.tc : Thread nD τ).loc main_v93) = sbR m c) := by
  refine (θ_run defs _ _).mono (fun r h c => ?_) (run_main m ρ)
  have hv := fun b hb => (h c).2 b hb
  unfold Pipeline.afterTail₀ at hv
  rw [tail_split] at hv
  exact ⟨(hv main_v133 (by decide)).trans (v133_eq m c), (hv main_v92 (by decide)).trans (v92_eq m c), (hv main_v93 (by decide)).trans (v93_eq m c)⟩

end Cert.ReferenceIdeal.Gen
end
-- ==== Proof.Value.Agree.lean ====
module

public import proofs.«01_k».proof.Defs
public import proofs.«01_k».proof.Proof.Gen.KernelIdeal
public import proofs.«01_k».proof.Proof.Gen.ReferenceIdeal
public import proofs.«01_k».proof.Proof.Value.Codes
public import proofs.«01_k».proof.Proof.Value.Ref

/-! Kernel and reference leave the same results: both are the functions of the arguments written in `Scalars`. -/

@[expose] public section
namespace Cert.Agree
open Idealize.ShloMosaic Idealize.SL.Sem Cert.Quant

section Inputs
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem x_agree (h : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)) :
    Cert.ReferenceIdeal.Gen.xG m' c = Cert.KernelIdeal.Gen.xG m c := by
  funext g i k
  exact congrFun h _
theorem sg_agree (h : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)) :
    Cert.ReferenceIdeal.Gen.sgG m' c = Cert.KernelIdeal.Gen.sgG m c := by
  funext i
  exact congrFun h _
theorem st_agree (h : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)) :
    Cert.ReferenceIdeal.Gen.stG m' c = Cert.KernelIdeal.Gen.stG m c := congrFun h _
theorem sd_agree (h : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)) :
    Cert.ReferenceIdeal.Gen.sdG m' c = Cert.KernelIdeal.Gen.sdG m c := congrFun h _
theorem w_agree (h : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)) :
    Cert.ReferenceIdeal.Gen.wG m' c = Cert.KernelIdeal.Gen.wG m c := by
  funext r p
  exact congrFun h _
end Inputs

/-- The value claim: from equal arguments, the kernel's weight gradient, codes and scales are the reference's. -/
theorem algebraic : Cert.algebraic_KernelIdeal_ReferenceIdeal (hKernelIdeal := Cert.KernelIdeal.Gen.facts) (hReferenceIdeal := Cert.ReferenceIdeal.Gen.facts) := by
  intro m g m' g' _ hagree
  refine ⟨Cert.KernelIdeal.Gen.dwR m, Cert.KernelIdeal.Gen.codesR m, Cert.KernelIdeal.Gen.sbR m,
    θ_run_mono (θ_run_and (Cert.KernelIdeal.Gen.values m g) (Cert.KernelIdeal.Gen.frame m g)) ?_,
    θ_run_mono (θ_run_and (Cert.ReferenceIdeal.Gen.values m' g') (Cert.ReferenceIdeal.Gen.frame m' g')) ?_⟩
  · exact fun r h c => ⟨(h.1 c).1, (h.1 c).2.1, (h.1 c).2.2, h.2.1 c⟩
  · intro r h c
    obtain ⟨h0, h1, h2, h3, h4⟩ := hagree c
    have ex := x_agree m m' c h0
    have es := sg_agree m m' c h1
    have et := st_agree m m' c h2
    have ed := sd_agree m m' c h3
    have ew := w_agree m m' c h4
    refine ⟨(h.1 c).1.trans ?_, (h.1 c).2.1.trans ?_, (h.1 c).2.2.trans ?_, h.2.1 c⟩
    · unfold Cert.ReferenceIdeal.Gen.dwR Cert.KernelIdeal.Gen.dwR
      rw [ex, es, et, ed, ew]
    · unfold Cert.ReferenceIdeal.Gen.codesR Cert.KernelIdeal.Gen.codesR
      rw [ex, es, et]
    · unfold Cert.ReferenceIdeal.Gen.sbR Cert.KernelIdeal.Gen.sbR
      rw [ex, es, et]

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun.Frame
public import proofs.«01_k».proof.Proof.BitsRun.Frame
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The claims: the three frames, that idealizing changes nothing else, and that kernel and reference leave equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Agree.algebraic⟩

end Cert.Proof

end
